-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def preserves_Kernel_KernelIdeal : Prop :=
  IdealRules.bf16_pack.Statement Cert.KernelIdeal.S256x256
  ∧ IdealRules.named_const.Statement Cert.KernelIdeal.κ "dead" .f32 0x42D20000#32 ⊤

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_v44) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)) (v3 : (c : Dev Cert.Kernel6Ideal.nD) → Buf (Elt Ideal) ((c.tc : Thread Cert.Kernel6Ideal.nD Cert.Kernel6Ideal.τ).loc Cert.Kernel6Ideal.main_v9_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_v9_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_v16) = v2 c
          ∧ r.2.mem ((c.tc : Thread Cert.Reference6Ideal.nD Cert.Reference6Ideal.τ).loc Cert.Reference6Ideal.main_v32) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v39) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v39) = v0 c
          ∧ r.2.mem ((c.tc : Thread Cert.Reference12Ideal.nD Cert.Reference12Ideal.τ).loc Cert.Reference12Ideal.main_v40) = v1 c
          ∧ r.2.mem ((c.tc : Thread Cert.Reference12Ideal.nD Cert.Reference12Ideal.τ).loc Cert.Reference12Ideal.main_v41) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v5_0)) (v1 : (c : Dev Cert.Kernel13Ideal.nD) → Buf (Elt Ideal) ((c.tc : Thread Cert.Kernel13Ideal.nD Cert.Kernel13Ideal.τ).loc Cert.Kernel13Ideal.main_v5_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5_0) = v0 c
          ∧ r.2.mem ((c.tc : Thread Cert.Kernel13Ideal.nD Cert.Kernel13Ideal.τ).loc Cert.Kernel13Ideal.main_v5_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v14) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v5_0)) (v1 : (c : Dev Cert.Kernel14Ideal.nD) → Buf (Elt Ideal) ((c.tc : Thread Cert.Kernel14Ideal.nD Cert.Kernel14Ideal.τ).loc Cert.Kernel14Ideal.main_v5_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5_0) = v0 c
          ∧ r.2.mem ((c.tc : Thread Cert.Kernel14Ideal.nD Cert.Kernel14Ideal.τ).loc Cert.Kernel14Ideal.main_v5_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_v16) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v5_0)) (v1 : (c : Dev Cert.Kernel15Ideal.nD) → Buf (Elt Ideal) ((c.tc : Thread Cert.Kernel15Ideal.nD Cert.Kernel15Ideal.τ).loc Cert.Kernel15Ideal.main_v5_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5_0) = v0 c
          ∧ r.2.mem ((c.tc : Thread Cert.Kernel15Ideal.nD Cert.Kernel15Ideal.τ).loc Cert.Kernel15Ideal.main_v5_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_v15) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v5_0)) (v1 : (c : Dev Cert.Kernel16Ideal.nD) → Buf (Elt Ideal) ((c.tc : Thread Cert.Kernel16Ideal.nD Cert.Kernel16Ideal.τ).loc Cert.Kernel16Ideal.main_v5_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5_0) = v0 c
          ∧ r.2.mem ((c.tc : Thread Cert.Kernel16Ideal.nD Cert.Kernel16Ideal.τ).loc Cert.Kernel16Ideal.main_v5_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v15) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v15) = v0 c
          ∧ r.2.mem ((c.tc : Thread Cert.Reference18Ideal.nD Cert.Reference18Ideal.τ).loc Cert.Reference18Ideal.main_v14) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v2_0)) (v1 : (c : Dev Cert.Kernel19Ideal.nD) → Buf (Elt Ideal) ((c.tc : Thread Cert.Kernel19Ideal.nD Cert.Kernel19Ideal.τ).loc Cert.Kernel19Ideal.main_v2_1)) (v2 : (c : Dev Cert.Kernel19Ideal.nD) → Buf (Elt Ideal) ((c.tc : Thread Cert.Kernel19Ideal.nD Cert.Kernel19Ideal.τ).loc Cert.Kernel19Ideal.main_v2_2)) (v3 : (c : Dev Cert.Kernel19Ideal.nD) → Buf (Elt Ideal) ((c.tc : Thread Cert.Kernel19Ideal.nD Cert.Kernel19Ideal.τ).loc Cert.Kernel19Ideal.main_v2_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2_0) = v0 c
          ∧ r.2.mem ((c.tc : Thread Cert.Kernel19Ideal.nD Cert.Kernel19Ideal.τ).loc Cert.Kernel19Ideal.main_v2_1) = v1 c
          ∧ r.2.mem ((c.tc : Thread Cert.Kernel19Ideal.nD Cert.Kernel19Ideal.τ).loc Cert.Kernel19Ideal.main_v2_2) = v2 c
          ∧ r.2.mem ((c.tc : Thread Cert.Kernel19Ideal.nD Cert.Kernel19Ideal.τ).loc Cert.Kernel19Ideal.main_v2_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v7_0)) (v1 : (c : Dev Cert.Kernel20Ideal.nD) → Buf (Elt Ideal) ((c.tc : Thread Cert.Kernel20Ideal.nD Cert.Kernel20Ideal.τ).loc Cert.Kernel20Ideal.main_v7_1)) (v2 : (c : Dev Cert.Kernel20Ideal.nD) → Buf (Elt Ideal) ((c.tc : Thread Cert.Kernel20Ideal.nD Cert.Kernel20Ideal.τ).loc Cert.Kernel20Ideal.main_v7_2)) (v3 : (c : Dev Cert.Kernel20Ideal.nD) → Buf (Elt Ideal) ((c.tc : Thread Cert.Kernel20Ideal.nD Cert.Kernel20Ideal.τ).loc Cert.Kernel20Ideal.main_v7_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v7_0) = v0 c
          ∧ r.2.mem ((c.tc : Thread Cert.Kernel20Ideal.nD Cert.Kernel20Ideal.τ).loc Cert.Kernel20Ideal.main_v7_1) = v1 c
          ∧ r.2.mem ((c.tc : Thread Cert.Kernel20Ideal.nD Cert.Kernel20Ideal.τ).loc Cert.Kernel20Ideal.main_v7_2) = v2 c
          ∧ r.2.mem ((c.tc : Thread Cert.Kernel20Ideal.nD Cert.Kernel20Ideal.τ).loc Cert.Kernel20Ideal.main_v7_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v55) = v0 c
          ∧ r.2.mem ((c.tc : Thread Cert.Reference20Ideal.nD Cert.Reference20Ideal.τ).loc Cert.Reference20Ideal.main_v58) = v1 c
          ∧ r.2.mem ((c.tc : Thread Cert.Reference20Ideal.nD Cert.Reference20Ideal.τ).loc Cert.Reference20Ideal.main_v59) = v2 c
          ∧ r.2.mem ((c.tc : Thread Cert.Reference20Ideal.nD Cert.Reference20Ideal.τ).loc Cert.Reference20Ideal.main_v60) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Kernel.lean ====
abbrev S4096x1024 : Shape := ⟨2, ![4096, 1024]⟩
abbrev S4096x2048 : Shape := ⟨2, ![4096, 2048]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S256x256 : Shape := ⟨2, ![256, 256]⟩
abbrev S512x256 : Shape := ⟨2, ![512, 256]⟩
abbrev S4096x256 : Shape := ⟨2, ![4096, 256]⟩
abbrev S4x256x1 : Shape := ⟨3, ![4, 256, 1]⟩
abbrev S4x256x128 : Shape := ⟨3, ![4, 256, 128]⟩
abbrev S256x128 : Shape := ⟨2, ![256, 128]⟩
abbrev S256 : Shape := ⟨1, ![256]⟩
abbrev S256x1 : Shape := ⟨2, ![256, 1]⟩
abbrev S256x512 : Shape := ⟨2, ![256, 512]⟩
abbrev S1x256x1 : Shape := ⟨3, ![1, 256, 1]⟩
abbrev S1x256x128 : Shape := ⟨3, ![1, 256, 128]⟩
abbrev S1 : Shape := ⟨1, ![1]⟩
abbrev S1x1x1 : Shape := ⟨3, ![1, 1, 1]⟩

abbrev nBuf : Space → Nat
  | .hbm => 101
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x16x64, .f32⟩
  | .hbm, ⟨6, _⟩ => ⟨S16x4096x64, .f32⟩
  | .hbm, ⟨7, _⟩ => ⟨S4096x16x64, .f32⟩
  | .hbm, ⟨8, _⟩ => ⟨S16x4096x64, .f32⟩
  | .hbm, ⟨9, _⟩ => ⟨S16x4096x4096, .f32⟩
  | .hbm, ⟨10, _⟩ => ⟨S_, .f32⟩
  | .hbm, ⟨11, _⟩ => ⟨S16x4096x4096, .f32⟩
  | .hbm, ⟨12, _⟩ => ⟨S16x4096x4096, .f32⟩
  | .hbm, ⟨13, _⟩ => ⟨S4096, .i32⟩
  | .hbm, ⟨14, _⟩ => ⟨S1x4096, .i32⟩
  | .hbm, ⟨15, _⟩ => ⟨S4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S16x4096x4096, .f32⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S16x4096x4096, .i1⟩
  | .hbm, ⟨26, _⟩ => ⟨S16x4096x4096, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S_, .f32⟩
  | .hbm, ⟨36, _⟩ => ⟨S_, .f32⟩
  | .hbm, ⟨37, _⟩ => ⟨S16x4096x4096, .i1⟩
  | .hbm, ⟨38, _⟩ => ⟨S16x4096x4096, .f32⟩
  | .hbm, ⟨39, _⟩ => ⟨S16x4096x4096, .f32⟩
  | .hbm, ⟨40, _⟩ => ⟨S_, .f32⟩
  | .hbm, ⟨41, _⟩ => ⟨S_, .f32⟩
  | .hbm, ⟨42, _⟩ => ⟨S16x4096x4096, .f32⟩
  | .hbm, ⟨43, _⟩ => ⟨S16x4096x4096, .f32⟩
  | .hbm, ⟨44, _⟩ => ⟨S16x4096x4096, .f32⟩
  | .hbm, ⟨45, _⟩ => ⟨S_, .f32⟩
  | .hbm, ⟨46, _⟩ => ⟨S16x4096x4096, .f32⟩
  | .hbm, ⟨47, _⟩ => ⟨S16x4096x4096, .f32⟩
  | .hbm, ⟨48, _⟩ => ⟨S16x4096x4096, .f32⟩
  | .hbm, ⟨49, _⟩ => ⟨S16x4096x4096, .f32⟩
  | .hbm, ⟨50, _⟩ => ⟨S16x4096x4096, .i1⟩
  | .hbm, ⟨51, _⟩ => ⟨S16x4096x4096, .f32⟩
  | .hbm, ⟨52, _⟩ => ⟨S16x4096x4096, .f32⟩
  | .hbm, ⟨53, _⟩ => ⟨S16x4096x4096, .f32⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S_, .f32⟩
  | .hbm, ⟨63, _⟩ => ⟨S_, .f32⟩
  | .hbm, ⟨64, _⟩ => ⟨S16x4096x4096, .i1⟩
  | .hbm, ⟨65, _⟩ => ⟨S16x4096x4096, .f32⟩
  | .hbm, ⟨66, _⟩ => ⟨S16x4096x4096, .f32⟩
  | .hbm, ⟨67, _⟩ => ⟨S4096x16x64, .f32⟩
  | .hbm, ⟨68, _⟩ => ⟨S16x4096x64, .f32⟩
  | .hbm, ⟨69, _⟩ => ⟨S16x4096x64, .f32⟩
  | .hbm, ⟨70, _⟩ => ⟨S4096x16x64, .f32⟩
  | .hbm, ⟨71, _⟩ => ⟨S4096x1024, .f32⟩
  | .hbm, ⟨72, _⟩ => ⟨S_, .f32⟩
  | .hbm, ⟨73, _⟩ => ⟨S4096x1024, .f32⟩
  | .hbm, ⟨74, _⟩ => ⟨S4096x1024, .f32⟩
  | .hbm, ⟨75, _⟩ => ⟨S4096x1024, .bf16⟩
  | .hbm, ⟨76, _⟩ => ⟨S4096x2048, .bf16⟩
  | .hbm, ⟨77, _⟩ => ⟨S4096x1024, .bf16⟩
  | .hbm, ⟨78, _⟩ => ⟨S256x256, .i32⟩
  | .hbm, ⟨79, _⟩ => ⟨S256x256, .i32⟩
  | .hbm, ⟨80, _⟩ => ⟨S256x256, .i1⟩
  | .hbm, ⟨81, _⟩ => ⟨S_, .f32⟩
  | .hbm, ⟨82, _⟩ => ⟨S_, .f32⟩
  | .hbm, ⟨83, _⟩ => ⟨S256x256, .f32⟩
  | .hbm, ⟨84, _⟩ => ⟨S256x256, .f32⟩
  | .hbm, ⟨85, _⟩ => ⟨S256x256, .f32⟩
  | .hbm, ⟨86, _⟩ => ⟨S256x256, .bf16⟩
  | .hbm, ⟨87, _⟩ => ⟨S512x256, .bf16⟩
  | .hbm, ⟨88, _⟩ => ⟨S256x256, .i32⟩
  | .hbm, ⟨89, _⟩ => ⟨S256x256, .i32⟩
  | .hbm, ⟨90, _⟩ => ⟨S256x256, .i1⟩
  | .hbm, ⟨91, _⟩ => ⟨S_, .f32⟩
  | .hbm, ⟨92, _⟩ => ⟨S_, .f32⟩
  | .hbm, ⟨93, _⟩ => ⟨S256x256, .f32⟩
  | .hbm, ⟨94, _⟩ => ⟨S256x256, .f32⟩
  | .hbm, ⟨95, _⟩ => ⟨S256x256, .f32⟩
  | .hbm, ⟨96, _⟩ => ⟨S256x256, .bf16⟩
  | .hbm, ⟨97, _⟩ => ⟨S512x256, .bf16⟩
  | .hbm, ⟨98, _⟩ => ⟨S4096x1024, .bf16⟩
  | .hbm, ⟨99, _⟩ => ⟨S4096x1024, .f32⟩
  | .hbm, ⟨100, _⟩ => ⟨S4096x1024, .f32⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .f32⟩
  | .local _ .vmem, ⟨7, _⟩ => ⟨S256x256, .f32⟩
  | .local _ .vmem, ⟨8, _⟩ => ⟨S256x256, .bf16⟩
  | .local _ .vmem, ⟨9, _⟩ => ⟨S256x256, .bf16⟩
  | .local _ .vmem, ⟨10, _⟩ => ⟨S512x256, .bf16⟩
  | .local _ .vmem, ⟨11, _⟩ => ⟨S512x256, .bf16⟩
  | .local _ .vmem, ⟨12, _⟩ => ⟨S256x256, .bf16⟩
  | .local _ .vmem, ⟨13, _⟩ => ⟨S256x256, .bf16⟩
  | .local _ .vmem, ⟨14, _⟩ => ⟨S4096x256, .f32⟩
  | .local _ .vmem, ⟨15, _⟩ => ⟨S4096x256, .f32⟩
  | .local _ .vmem, ⟨16, _⟩ => ⟨S4096x256, .f32⟩
  | .local _ .vmem, ⟨17, _⟩ => ⟨S4096x256, .f32⟩
  | .local _ .vmem, ⟨18, _⟩ => ⟨S4x256x1, .f32⟩
  | .local _ .vmem, ⟨19, _⟩ => ⟨S4x256x1, .f32⟩
  | .local _ .vmem, ⟨20, _⟩ => ⟨S4x256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v16 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_2 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_3 : Ref sig .tc := ⟨.hbm, 81, rfl⟩
abbrev main_cst_4 : Ref sig .tc := ⟨.hbm, 82, rfl⟩
abbrev main_call5_v0 : Ref sig .tc := ⟨.hbm, 83, rfl⟩
abbrev main_call5_v1 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst_5 : Ref sig .tc := ⟨.hbm, 91, rfl⟩
abbrev main_cst_6 : Ref sig .tc := ⟨.hbm, 92, rfl⟩
abbrev main_call6_v0 : Ref sig .tc := ⟨.hbm, 93, rfl⟩
abbrev main_call6_v1 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47_0 : Ref sig .tc := ⟨.hbm, 98, rfl⟩
abbrev main_v47_1 : Ref sig .tc := ⟨.hbm, 99, rfl⟩
abbrev main_v47_2 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [BitOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v63 : BitVec 32 := Scalar.muli arg1 c256_i32
  v63
def k0_off1 (i : grid0.Coords) : Fin 2 → Nat :=
  let arg1 : BitVec 32 := BitVec.ofNat 32 (i 1).val
  let c256_i32 : BitVec 32 := 256#32
  let v63 : BitVec 32 := Scalar.muli arg1 c256_i32
  let v64 : BitVec 32 := v63
  let v65 : Index := Scalar.indexCast v64
  let c0_32 : Index := 0#32
  ![v65.toNat, 0]
def k0_off2 (i : grid0.Coords) : Fin 2 → Nat :=
  let arg1 : BitVec 32 := BitVec.ofNat 32 (i 1).val
  let c256_i32 : BitVec 32 := 256#32
  let v63 : BitVec 32 := Scalar.muli arg1 c256_i32
  let v64 : BitVec 32 := v63
  let v68 : Index := Scalar.indexCast v64
  let c128_33 : Index := 128#32
  ![v68.toNat, 128]
def k0_mult2 (i : grid0.Coords) (arg15 : BitVec 32) : BitVec 32 :=
  let arg1 : BitVec 32 := BitVec.ofNat 32 (i 1).val
  let c1_i32 : BitVec 32 := 1#32
  let v471 : BitVec 32 := Scalar.subi arg1 c1_i32
  let v472 : BitVec 32 := Scalar.subi v471 arg15
  let c256_i32_240 : BitVec 32 := 256#32
  let v473 : BitVec 32 := Scalar.muli v472 c256_i32_240
  v473

def k0_off3 (i : grid0.Coords) (arg15 : BitVec 32) : Fin 2 → Nat :=
  let arg1 : BitVec 32 := BitVec.ofNat 32 (i 1).val
  let c1_i32 : BitVec 32 := 1#32
  let v471 : BitVec 32 := Scalar.subi arg1 c1_i32
  let v472 : BitVec 32 := Scalar.subi v471 arg15
  let c256_i32_240 : BitVec 32 := 256#32
  let v473 : BitVec 32 := Scalar.muli v472 c256_i32_240
  let v474 : BitVec 32 := v473
  let v475 : Index := Scalar.indexCast v474
  let c0_241 : Index := 0#32
  ![v475.toNat, 0]
def k0_off4 (i : grid0.Coords) (arg15 : BitVec 32) : Fin 2 → Nat :=
  let arg1 : BitVec 32 := BitVec.ofNat 32 (i 1).val
  let c1_i32 : BitVec 32 := 1#32
  let v471 : BitVec 32 := Scalar.subi arg1 c1_i32
  let v472 : BitVec 32 := Scalar.subi v471 arg15
  let c256_i32_240 : BitVec 32 := 256#32
  let v473 : BitVec 32 := Scalar.muli v472 c256_i32_240
  let v474 : BitVec 32 := v473
  let v478 : Index := Scalar.indexCast v474
  let c128_242 : Index := 128#32
  ![v478.toNat, 128]

def k0_chk1 (i : grid0.Coords) (arg15 : BitVec 32) : Prop :=
  (256 ∣ (k0_mult2 i arg15).toNat) ∧
  (∀ a, (k0_off3 i arg15) a + S256x128.size a ≤ S4096x256.size a) ∧
  (∀ a, (k0_off4 i arg15) a + S256x128.size a ≤ S4096x256.size a)
theorem k0_mult2_dvd : ∀ (i : grid0.Coords) (arg15 : BitVec 32) (k0_hw1 : k0_chk1 i arg15), 256 ∣ (k0_mult2 i arg15).toNat := fun i arg15 k0_hw1 => k0_hw1.1
theorem k0_off3_inb : ∀ (i : grid0.Coords) (arg15 : BitVec 32) (k0_hw1 : k0_chk1 i arg15), ∀ a, (k0_off3 i arg15) a + S256x128.size a ≤ S4096x256.size a := fun i arg15 k0_hw1 => k0_hw1.2.1
theorem k0_off4_inb : ∀ (i : grid0.Coords) (arg15 : BitVec 32) (k0_hw1 : k0_chk1 i arg15), ∀ a, (k0_off4 i arg15) a + S256x128.size a ≤ S4096x256.size a := fun i arg15 k0_hw1 => k0_hw1.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "dead" => some ⊤
  | _ => none
-- ==== ReferenceIdeal.lean ====
abbrev S4096x1024 : Shape := ⟨2, ![4096, 1024]⟩
abbrev S4096x2048 : Shape := ⟨2, ![4096, 2048]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩

abbrev nBuf : Space → Nat
  | .hbm => 175
  | .vmem => 0
  | .smem => 0
  | _ => 0

abbrev hbmTy0_0 (i : Nat) : BufTy := match i % 128 with
  | 0 => ⟨S4096x1024, .f32⟩
  | 1 => ⟨S4096x2048, .f32⟩
  | 2 => ⟨S4096x1024, .f32⟩
  | 3 => ⟨S4096x1024, .f32⟩
  | 4 => ⟨S4096x1024, .f32⟩
  | 5 => ⟨S4096x16x64, .f32⟩
  | 6 => ⟨S16x4096x64, .f32⟩
  | 7 => ⟨S4096x16x64, .f32⟩
  | 8 => ⟨S16x4096x64, .f32⟩
  | 9 => ⟨S16x4096x4096, .f32⟩
  | 10 => ⟨S_, .f32⟩
  | 11 => ⟨S16x4096x4096, .f32⟩
  | 12 => ⟨S16x4096x4096, .f32⟩
  | 13 => ⟨S4096, .i32⟩
  | 14 => ⟨S1x4096, .i32⟩
  | 15 => ⟨S4096, .i32⟩
  | 16 => ⟨S4096x1, .i32⟩
  | 17 => ⟨S4096x4096, .i32⟩
  | 18 => ⟨S4096x4096, .i32⟩
  | 19 => ⟨S4096x4096, .i1⟩
  | 20 => ⟨S_, .f32⟩
  | 21 => ⟨S16x4096x4096, .f32⟩
  | 22 => ⟨S16x4096x4096, .f32⟩
  | 23 => ⟨S16x4096x4096, .f32⟩
  | 24 => ⟨S16x4096x4096, .f32⟩
  | 25 => ⟨S16x4096x4096, .i1⟩
  | 26 => ⟨S16x4096x4096, .f32⟩
  | 27 => ⟨S16x4096x4096, .f32⟩
  | 28 => ⟨S16x4096x4096, .f32⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S_, .f32⟩
  | 35 => ⟨S16x4096x4096, .f32⟩
  | 36 => ⟨S16x4096x4096, .i1⟩
  | 37 => ⟨S_, .f32⟩
  | 38 => ⟨S16x4096x4096, .f32⟩
  | 39 => ⟨S16x4096x4096, .f32⟩
  | 40 => ⟨S_, .f32⟩
  | 41 => ⟨S16x4096x4096, .f32⟩
  | 42 => ⟨S16x4096x4096, .i1⟩
  | 43 => ⟨S_, .f32⟩
  | 44 => ⟨S16x4096x4096, .f32⟩
  | 45 => ⟨S16x4096x4096, .f32⟩
  | 46 => ⟨S16x4096x4096, .f32⟩
  | 47 => ⟨S16x4096x4096, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S16x4096x4096, .f32⟩
  | 56 => ⟨S16x4096x4096, .i1⟩
  | 57 => ⟨S_, .f32⟩
  | 58 => ⟨S16x4096x4096, .f32⟩
  | 59 => ⟨S16x4096x4096, .f32⟩
  | 60 => ⟨S16x4096x4096, .f32⟩
  | 61 => ⟨S16x4096x4096, .f32⟩
  | 62 => ⟨S16x4096x4096, .f32⟩
  | 63 => ⟨S_, .f32⟩
  | 64 => ⟨S16x4096x4096, .f32⟩
  | 65 => ⟨S16x4096x4096, .f32⟩
  | 66 => ⟨S16x4096x4096, .f32⟩
  | 67 => ⟨S_, .f32⟩
  | 68 => ⟨S_, .f32⟩
  | 69 => ⟨S16x4096x4096, .i1⟩
  | 70 => ⟨S16x4096x4096, .f32⟩
  | 71 => ⟨S16x4096x4096, .f32⟩
  | 72 => ⟨S_, .f32⟩
  | 73 => ⟨S16x4096x4096, .f32⟩
  | 74 => ⟨S_, .f32⟩
  | 75 => ⟨S_, .f32⟩
  | 76 => ⟨S16x4096x4096, .f32⟩
  | 77 => ⟨S16x4096x4096, .f32⟩
  | 78 => ⟨S16x4096x4096, .f32⟩
  | 79 => ⟨S_, .f32⟩
  | 80 => ⟨S16x4096x4096, .f32⟩
  | 81 => ⟨S16x4096x4096, .f32⟩
  | 82 => ⟨S16x4096x4096, .f32⟩
  | 83 => ⟨S16x4096x4096, .f32⟩
  | 84 => ⟨S16x4096x4096, .i1⟩
  | 85 => ⟨S16x4096x4096, .f32⟩
  | 86 => ⟨S16x4096x4096, .f32⟩
  | 87 => ⟨S16x4096x4096, .f32⟩
  | 88 => ⟨S16x4096x4096, .f32⟩
  | 89 => ⟨S16x4096x4096, .f32⟩
  | 90 => ⟨S16x4096x4096, .f32⟩
  | 91 => ⟨S16x4096x4096, .f32⟩
  | 92 => ⟨S16x4096x4096, .f32⟩
  | 93 => ⟨S_, .f32⟩
  | 94 => ⟨S16x4096x4096, .f32⟩
  | 95 => ⟨S16x4096x4096, .i1⟩
  | 96 => ⟨S_, .f32⟩
  | 97 => ⟨S16x4096x4096, .f32⟩
  | 98 => ⟨S16x4096x4096, .f32⟩
  | 99 => ⟨S_, .f32⟩
  | 100 => ⟨S16x4096x4096, .f32⟩
  | 101 => ⟨S16x4096x4096, .i1⟩
  | 102 => ⟨S_, .f32⟩
  | 103 => ⟨S16x4096x4096, .f32⟩
  | 104 => ⟨S16x4096x4096, .f32⟩
  | 105 => ⟨S16x4096x4096, .f32⟩
  | 106 => ⟨S16x4096x4096, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S16x4096x4096, .f32⟩
  | 115 => ⟨S16x4096x4096, .i1⟩
  | 116 => ⟨S_, .f32⟩
  | 117 => ⟨S16x4096x4096, .f32⟩
  | 118 => ⟨S16x4096x4096, .f32⟩
  | 119 => ⟨S16x4096x4096, .f32⟩
  | 120 => ⟨S16x4096x4096, .f32⟩
  | 121 => ⟨S16x4096x4096, .f32⟩
  | 122 => ⟨S_, .f32⟩
  | 123 => ⟨S16x4096x4096, .f32⟩
  | 124 => ⟨S16x4096x4096, .f32⟩
  | 125 => ⟨S16x4096x4096, .f32⟩
  | 126 => ⟨S16x4096x4096, .f32⟩
  | 127 => ⟨S16x4096x4096, .f32⟩
  | _ => ⟨S4096x1024, .f32⟩

abbrev hbmTy0_1 (i : Nat) : BufTy := match i % 128 with
  | 0 => ⟨S_, .f32⟩
  | 1 => ⟨S_, .f32⟩
  | 2 => ⟨S16x4096x4096, .i1⟩
  | 3 => ⟨S16x4096x4096, .f32⟩
  | 4 => ⟨S16x4096x4096, .f32⟩
  | 5 => ⟨S_, .f32⟩
  | 6 => ⟨S16x4096x4096, .f32⟩
  | 7 => ⟨S4096x16x64, .f32⟩
  | 8 => ⟨S16x4096x64, .f32⟩
  | 9 => ⟨S16x4096x64, .f32⟩
  | 10 => ⟨S4096x16x64, .f32⟩
  | 11 => ⟨S4096x1024, .f32⟩
  | 12 => ⟨S4096x16x64, .f32⟩
  | 13 => ⟨S16x4096x64, .f32⟩
  | 14 => ⟨S16x64x4096, .f32⟩
  | 15 => ⟨S16x4096x64, .f32⟩
  | 16 => ⟨S16x4096x4096, .f32⟩
  | 17 => ⟨S4096x16x64, .f32⟩
  | 18 => ⟨S4096x1024, .f32⟩
  | 19 => ⟨S_, .f32⟩
  | 20 => ⟨S16x4096x4096, .f32⟩
  | 21 => ⟨S16x4096x4096, .f32⟩
  | 22 => ⟨S16x4096x4096, .f32⟩
  | 23 => ⟨S16x4096x4096, .f32⟩
  | 24 => ⟨S16x4096x4096, .f32⟩
  | 25 => ⟨S16x4096x4096, .f32⟩
  | 26 => ⟨S16x4096x4096, .f32⟩
  | 27 => ⟨S_, .f32⟩
  | 28 => ⟨S_, .f32⟩
  | 29 => ⟨S16x4096x4096, .f32⟩
  | 30 => ⟨S16x4096x4096, .f32⟩
  | 31 => ⟨S_, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S_, .f32⟩
  | 38 => ⟨S16x4096x4096, .f32⟩
  | 39 => ⟨S16x4096x4096, .f32⟩
  | 40 => ⟨S16x4096x64, .f32⟩
  | 41 => ⟨S16x4096x64, .f32⟩
  | 42 => ⟨S4096x16x64, .f32⟩
  | 43 => ⟨S4096x1024, .f32⟩
  | 44 => ⟨S4096x16x64, .f32⟩
  | 45 => ⟨S4096x1024, .f32⟩
  | 46 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v16_0 : Ref sig .tc := ⟨.hbm, 33, rfl⟩
abbrev main_call0_cst_0 : Ref sig .tc := ⟨.hbm, 34, rfl⟩
abbrev main_call0_v13 : Ref sig .tc := ⟨.hbm, 35, rfl⟩
abbrev main_call0_v14 : Ref sig .tc := ⟨.hbm, 36, rfl⟩
abbrev main_call0_cst_1 : Ref sig .tc := ⟨.hbm, 37, rfl⟩
abbrev main_call0_v15 : Ref sig .tc := ⟨.hbm, 38, rfl⟩
abbrev main_call0_v16 : Ref sig .tc := ⟨.hbm, 39, rfl⟩
abbrev main_call0_cst_2 : Ref sig .tc := ⟨.hbm, 40, rfl⟩
abbrev main_call0_v17 : Ref sig .tc := ⟨.hbm, 41, rfl⟩
abbrev main_call0_v18 : Ref sig .tc := ⟨.hbm, 42, rfl⟩
abbrev main_call0_cst_3 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_v16_1 : Ref sig .tc := ⟨.hbm, 47, rfl⟩
abbrev main_call0_cst_4 : Ref sig .tc := ⟨.hbm, 48, rfl⟩
abbrev main_call0_cst_5 : Ref sig .tc := ⟨.hbm, 49, rfl⟩
abbrev main_call0_v23 : Ref sig .tc := ⟨.hbm, 50, rfl⟩
abbrev main_call0_cst_6 : Ref sig .tc := ⟨.hbm, 51, rfl⟩
abbrev main_call0_cst_7 : Ref sig .tc := ⟨.hbm, 52, rfl⟩
abbrev main_call0_v24 : Ref sig .tc := ⟨.hbm, 53, rfl⟩
abbrev main_call0_cst_8 : Ref sig .tc := ⟨.hbm, 54, rfl⟩
abbrev main_call0_v25 : Ref sig .tc := ⟨.hbm, 55, rfl⟩
abbrev main_call0_v26 : Ref sig .tc := ⟨.hbm, 56, rfl⟩
abbrev main_call0_cst_9 : Ref sig .tc := ⟨.hbm, 57, rfl⟩
abbrev main_call0_v27 : Ref sig .tc := ⟨.hbm, 58, rfl⟩
abbrev main_call0_v28 : Ref sig .tc := ⟨.hbm, 59, rfl⟩
abbrev main_call0_v29 : Ref sig .tc := ⟨.hbm, 60, rfl⟩
abbrev main_call0_v30 : Ref sig .tc := ⟨.hbm, 61, rfl⟩
abbrev main_call0_v31 : Ref sig .tc := ⟨.hbm, 62, rfl⟩
abbrev main_call0_cst_10 : Ref sig .tc := ⟨.hbm, 63, rfl⟩
abbrev main_call0_v32 : Ref sig .tc := ⟨.hbm, 64, rfl⟩
abbrev main_v16_2 : Ref sig .tc := ⟨.hbm, 65, rfl⟩
abbrev main_v17 : Ref sig .tc := ⟨.hbm, 66, rfl⟩
abbrev main_cst_0 : Ref sig .tc := ⟨.hbm, 67, rfl⟩
abbrev main_call1_v0 : Ref sig .tc := ⟨.hbm, 68, rfl⟩
abbrev main_v18_1 : Ref sig .tc := ⟨.hbm, 69, rfl⟩
abbrev main_call1_v2 : Ref sig .tc := ⟨.hbm, 70, rfl⟩
abbrev main_v18_0 : Ref sig .tc := ⟨.hbm, 71, rfl⟩
abbrev main_call1_cst : Ref sig .tc := ⟨.hbm, 72, rfl⟩
abbrev main_v18_2 : Ref sig .tc := ⟨.hbm, 73, rfl⟩
abbrev main_call2_cst : Ref sig .tc := ⟨.hbm, 74, rfl⟩
abbrev main_call2_v0 : Ref sig .tc := ⟨.hbm, 75, rfl⟩
abbrev main_v19 : Ref sig .tc := ⟨.hbm, 76, rfl⟩
abbrev main_v20 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v21_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v21_2 : Ref sig .tc := ⟨.hbm, 124, rfl⟩
abbrev main_v21_0 : Ref sig .tc := ⟨.hbm, 125, rfl⟩
abbrev main_v22 : Ref sig .tc := ⟨.hbm, 126, rfl⟩
abbrev main_v23 : Ref sig .tc := ⟨.hbm, 127, rfl⟩
abbrev main_cst_1 : Ref sig .tc := ⟨.hbm, 128, rfl⟩
abbrev main_call4_v0 : Ref sig .tc := ⟨.hbm, 129, rfl⟩
abbrev main_v24_1 : Ref sig .tc := ⟨.hbm, 130, rfl⟩
abbrev main_call4_v2 : Ref sig .tc := ⟨.hbm, 131, rfl⟩
abbrev main_v24_0 : Ref sig .tc := ⟨.hbm, 132, rfl⟩
abbrev main_call4_cst : Ref sig .tc := ⟨.hbm, 133, rfl⟩
abbrev main_v24_2 : Ref sig .tc := ⟨.hbm, 134, rfl⟩
abbrev main_v25 : Ref sig .tc := ⟨.hbm, 135, rfl⟩
abbrev main_v26 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_v30 : Ref sig .tc := ⟨.hbm, 140, rfl⟩
abbrev main_v31 : Ref sig .tc := ⟨.hbm, 141, rfl⟩
abbrev main_v32 : Ref sig .tc := ⟨.hbm, 142, rfl⟩
abbrev main_v33 : Ref sig .tc := ⟨.hbm, 143, rfl⟩
abbrev main_v34 : Ref sig .tc := ⟨.hbm, 144, rfl⟩
abbrev main_v35 : Ref sig .tc := ⟨.hbm, 145, rfl⟩
abbrev main_v36 : Ref sig .tc := ⟨.hbm, 146, rfl⟩
abbrev main_call5_cst : Ref sig .tc := ⟨.hbm, 147, rfl⟩
abbrev main_call5_v0 : Ref sig .tc := ⟨.hbm, 148, rfl⟩
abbrev main_v37 : Ref sig .tc := ⟨.hbm, 149, rfl⟩
abbrev main_v38 : Ref sig .tc := ⟨.hbm, 150, rfl⟩
abbrev main_call6_v0 : Ref sig .tc := ⟨.hbm, 151, rfl⟩
abbrev main_call6_v1 : Ref sig .tc := ⟨.hbm, 152, rfl⟩
abbrev main_v39 : Ref sig .tc := ⟨.hbm, 153, rfl⟩
abbrev main_v40 : Ref sig .tc := ⟨.hbm, 154, rfl⟩
abbrev main_call7_cst : Ref sig .tc := ⟨.hbm, 155, rfl⟩
abbrev main_call7_v0 : Ref sig .tc := ⟨.hbm, 156, rfl⟩
abbrev main_v41 : Ref sig .tc := ⟨.hbm, 157, rfl⟩
abbrev main_v42 : Ref sig .tc := ⟨.hbm, 158, rfl⟩
abbrev main_call8_cst : Ref sig .tc := ⟨.hbm, 159, rfl⟩
abbrev main_call8_v0 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev main_cst_2 : Ref sig .tc := ⟨.hbm, 165, rfl⟩
abbrev main_v47 : Ref sig .tc := ⟨.hbm, 166, rfl⟩
abbrev main_v48 : Ref sig .tc := ⟨.hbm, 167, rfl⟩
abbrev main_v49 : Ref sig .tc := ⟨.hbm, 168, rfl⟩
abbrev main_v50 : Ref sig .tc := ⟨.hbm, 169, rfl⟩
abbrev main_v51 : Ref sig .tc := ⟨.hbm, 170, rfl⟩
abbrev main_v52 : Ref sig .tc := ⟨.hbm, 171, rfl⟩
abbrev main_v53 : Ref sig .tc := ⟨.hbm, 172, rfl⟩
abbrev main_v54 : Ref sig .tc := ⟨.hbm, 173, rfl⟩
abbrev main_v55 : Ref sig .tc := ⟨.hbm, 174, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S4096x4096 : Shape := ⟨2, ![4096, 4096]⟩
abbrev S1x1024 : Shape := ⟨2, ![1, 1024]⟩
abbrev S4x1024x1024 : Shape := ⟨3, ![4, 1024, 1024]⟩
abbrev S4x1x1024x1024 : Shape := ⟨4, ![4, 1, 1024, 1024]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x4096, .f32⟩
  | .hbm, ⟨5, _⟩ => ⟨S1x1024, .f32⟩
  | .hbm, ⟨6, _⟩ => ⟨S4x1024x1024, .f32⟩
  | .hbm, ⟨7, _⟩ => ⟨S4x1x1024x1024, .f32⟩
  | .hbm, ⟨8, _⟩ => ⟨S4x1x1024x1024, .bf16⟩
  | .hbm, ⟨9, _⟩ => ⟨S4096x4096, .bf16⟩
  | .hbm, ⟨10, _⟩ => ⟨S4096x1024, .bf16⟩
  | .hbm, ⟨11, _⟩ => ⟨S4096x4096, .bf16⟩
  | .hbm, ⟨12, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_25 : BitVec 32 := 0#32
  let v47 : BitVec 1 := Scalar.cmpi .eq arg0 c0_i32_25
  let v48 : BitVec 32 := Scalar.extui v47
  let c0_i32_26 : BitVec 32 := 0#32
  let v49 : BitVec 1 := Scalar.cmpi .ne v48 c0_i32_26
  v49

def k0_cond3 (i : grid0.Coords) : BitVec 1 :=
  let arg0 : BitVec 32 := BitVec.ofNat 32 (i 0).val
  let c0_i32_27 : BitVec 32 := 0#32
  let v50 : BitVec 1 := Scalar.cmpi .sgt arg0 c0_i32_27
  let v51 : BitVec 32 := Scalar.extui v50
  let c0_i32_28 : BitVec 32 := 0#32
  let v52 : BitVec 1 := Scalar.cmpi .ne v51 c0_i32_28
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference2Ideal.lean ====
abbrev S4096x1024 : Shape := ⟨2, ![4096, 1024]⟩
abbrev S1024 : Shape := ⟨1, ![1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x1024, .f32⟩
  | .hbm, ⟨55, _⟩ => ⟨S4096x4096, .f32⟩
  | .hbm, ⟨56, _⟩ => ⟨S4096x4096, .f32⟩
  | .hbm, ⟨57, _⟩ => ⟨S4096x1024, .bf16⟩
  | .hbm, ⟨58, _⟩ => ⟨S4096x4096, .bf16⟩
  | .hbm, ⟨59, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v14 : BitVec 1 := Scalar.cmpi .eq arg2 c0_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S4096x1024, .f32⟩
  | .hbm, ⟨8, _⟩ => ⟨S4x1024x1024, .f32⟩
  | .hbm, ⟨9, _⟩ => ⟨S4x1024x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x4096 : Shape := ⟨2, ![4096, 4096]⟩
abbrev S1024x4096 : Shape := ⟨2, ![1024, 4096]⟩
abbrev S4096x1024 : Shape := ⟨2, ![4096, 1024]⟩
abbrev S1024 : Shape := ⟨1, ![1024]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩
abbrev S1x1024 : Shape := ⟨2, ![1, 1024]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x4096, .bf16⟩
  | .hbm, ⟨6, _⟩ => ⟨S1024x4x1024, .f32⟩
  | .hbm, ⟨7, _⟩ => ⟨S4x1024x1024, .f32⟩
  | .hbm, ⟨8, _⟩ => ⟨S4x1x1024x1024, .f32⟩
  | .hbm, ⟨9, _⟩ => ⟨S4x1x1024x1024, .bf16⟩
  | .hbm, ⟨10, _⟩ => ⟨S1x1024, .f32⟩
  | .hbm, ⟨11, _⟩ => ⟨S4096x1024, .f32⟩
  | .hbm, ⟨12, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32_25 : BitVec 32 := 0#32
  let v46 : BitVec 1 := Scalar.cmpi .eq arg0 c0_i32_25
  let v47 : BitVec 32 := Scalar.extui v46
  let c0_i32_26 : BitVec 32 := 0#32
  let v48 : BitVec 1 := Scalar.cmpi .ne v47 c0_i32_26
  v48

def k0_cond5 (i : grid0.Coords) : BitVec 1 :=
  let arg0 : BitVec 32 := BitVec.ofNat 32 (i 0).val
  let c0_i32_27 : BitVec 32 := 0#32
  let v49 : BitVec 1 := Scalar.cmpi .sgt arg0 c0_i32_27
  let v50 : BitVec 32 := Scalar.extui v49
  let c0_i32_28 : BitVec 32 := 0#32
  let v51 : BitVec 1 := Scalar.cmpi .ne v50 c0_i32_28
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference5Ideal.lean ====
abbrev S4096x4096 : Shape := ⟨2, ![4096, 4096]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x4096 : Shape := ⟨2, ![1024, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩
abbrev S4096x4096 : Shape := ⟨2, ![4096, 4096]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 18
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4x1024, .f32⟩
  | .hbm, ⟨7, _⟩ => ⟨S4x1024x1024, .f32⟩
  | .hbm, ⟨8, _⟩ => ⟨S4x1x1024x1024, .f32⟩
  | .hbm, ⟨9, _⟩ => ⟨S4x1x1024x1024, .bf16⟩
  | .hbm, ⟨10, _⟩ => ⟨S4x1024x1024, .f32⟩
  | .hbm, ⟨11, _⟩ => ⟨S4x1x1024x1024, .f32⟩
  | .hbm, ⟨12, _⟩ => ⟨S4x1x1024x1024, .bf16⟩
  | .hbm, ⟨13, _⟩ => ⟨S1x1024, .f32⟩
  | .hbm, ⟨14, _⟩ => ⟨S4096x1024, .bf16⟩
  | .hbm, ⟨15, _⟩ => ⟨S4096x4096, .bf16⟩
  | .hbm, ⟨16, _⟩ => ⟨S4096x1024, .f32⟩
  | .hbm, ⟨17, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_14 : BitVec 32 := 0#32
  let v18 : BitVec 1 := Scalar.cmpi .eq arg1 c0_i32_14
  let v19 : BitVec 32 := Scalar.extui v18
  let c0_i32_15 : BitVec 32 := 0#32
  let v20 : BitVec 1 := Scalar.cmpi .ne v19 c0_i32_15
  v20

def k0_cond3 (i : grid0.Coords) : BitVec 1 :=
  let arg1 : BitVec 32 := BitVec.ofNat 32 (i 1).val
  let c0_i32_16 : BitVec 32 := 0#32
  let v21 : BitVec 1 := Scalar.cmpi .sgt arg1 c0_i32_16
  let v22 : BitVec 32 := Scalar.extui v21
  let c0_i32_17 : BitVec 32 := 0#32
  let v23 : BitVec 1 := Scalar.cmpi .ne v22 c0_i32_17
  v23

def k0_cond4 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_18 : BitVec 32 := 0#32
  let v26 : BitVec 1 := Scalar.cmpi .ne v25 c0_i32_18
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference6Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .bf16⟩
  | .hbm, ⟨28, _⟩ => ⟨S4096x4096, .bf16⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S1024 : Shape := ⟨1, ![1024]⟩
abbrev S4x256x1024 : Shape := ⟨3, ![4, 256, 1024]⟩
abbrev S4x1x256x1024 : Shape := ⟨4, ![4, 1, 256, 1024]⟩
abbrev S1x1024 : Shape := ⟨2, ![1, 1024]⟩
abbrev S1024x1 : Shape := ⟨2, ![1024, 1]⟩

abbrev nBuf : Space → Nat
  | .hbm => 12
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S4x256x1024, .f32⟩
  | .hbm, ⟨7, _⟩ => ⟨S4x1x256x1024, .f32⟩
  | .hbm, ⟨8, _⟩ => ⟨S4x1x256x1024, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![4, 1], ![false, false]⟩

def k0_cond3 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def k0_cond4 (i : grid0.Coords) : BitVec 1 :=
  let arg0 : BitVec 32 := BitVec.ofNat 32 (i 0).val
  let c0_i32_26 : BitVec 32 := 0#32
  let v47 : BitVec 1 := Scalar.cmpi .eq arg0 c0_i32_26
  let v48 : BitVec 32 := Scalar.extui v47
  let c0_i32_27 : BitVec 32 := 0#32
  let v49 : BitVec 1 := Scalar.cmpi .ne v48 c0_i32_27
  v49

def k0_cond5 (i : grid0.Coords) : BitVec 1 :=
  let arg0 : BitVec 32 := BitVec.ofNat 32 (i 0).val
  let c0_i32_28 : BitVec 32 := 0#32
  let v50 : BitVec 1 := Scalar.cmpi .sgt arg0 c0_i32_28
  let v51 : BitVec 32 := Scalar.extui v50
  let c0_i32_29 : BitVec 32 := 0#32
  let v52 : BitVec 1 := Scalar.cmpi .ne v51 c0_i32_29
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference7Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel8.lean ====
abbrev S4096x2048 : Shape := ⟨2, ![4096, 2048]⟩
abbrev S1024x2048 : Shape := ⟨2, ![1024, 2048]⟩
abbrev S4096x1024 : Shape := ⟨2, ![4096, 1024]⟩
abbrev S1024 : Shape := ⟨1, ![1024]⟩
abbrev S1024x4x512 : Shape := ⟨3, ![1024, 4, 512]⟩
abbrev S4x1024x512 : Shape := ⟨3, ![4, 1024, 512]⟩
abbrev S4x1x1024x512 : Shape := ⟨4, ![4, 1, 1024, 512]⟩
abbrev S1x1024 : Shape := ⟨2, ![1, 1024]⟩
abbrev S1024x512 : Shape := ⟨2, ![1024, 512]⟩
abbrev S1x1x1024x512 : Shape := ⟨4, ![1, 1, 1024, 512]⟩
abbrev S1024x1024 : Shape := ⟨2, ![1024, 1024]⟩
abbrev S1024x1 : Shape := ⟨2, ![1024, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x2048, .bf16⟩
  | .hbm, ⟨6, _⟩ => ⟨S1024x4x512, .f32⟩
  | .hbm, ⟨7, _⟩ => ⟨S4x1024x512, .f32⟩
  | .hbm, ⟨8, _⟩ => ⟨S4x1x1024x512, .f32⟩
  | .hbm, ⟨9, _⟩ => ⟨S4x1x1024x512, .bf16⟩
  | .hbm, ⟨10, _⟩ => ⟨S1x1024, .f32⟩
  | .hbm, ⟨11, _⟩ => ⟨S4096x1024, .f32⟩
  | .hbm, ⟨12, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32_25 : BitVec 32 := 0#32
  let v46 : BitVec 1 := Scalar.cmpi .eq arg0 c0_i32_25
  let v47 : BitVec 32 := Scalar.extui v46
  let c0_i32_26 : BitVec 32 := 0#32
  let v48 : BitVec 1 := Scalar.cmpi .ne v47 c0_i32_26
  v48

def k0_cond5 (i : grid0.Coords) : BitVec 1 :=
  let arg0 : BitVec 32 := BitVec.ofNat 32 (i 0).val
  let c0_i32_27 : BitVec 32 := 0#32
  let v49 : BitVec 1 := Scalar.cmpi .sgt arg0 c0_i32_27
  let v50 : BitVec 32 := Scalar.extui v49
  let c0_i32_28 : BitVec 32 := 0#32
  let v51 : BitVec 1 := Scalar.cmpi .ne v50 c0_i32_28
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference8Ideal.lean ====
abbrev S4096x2048 : Shape := ⟨2, ![4096, 2048]⟩
abbrev S1024x2048 : Shape := ⟨2, ![1024, 2048]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel9.lean ====
abbrev S4096x1024 : Shape := ⟨2, ![4096, 1024]⟩
abbrev S4x256x1024 : Shape := ⟨3, ![4, 256, 1024]⟩
abbrev S4096x256 : Shape := ⟨2, ![4096, 256]⟩
abbrev S1x256x1024 : Shape := ⟨3, ![1, 256, 1024]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4x256x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4x256x1024, .f32⟩
  | .hbm, ⟨8, _⟩ => ⟨S4x256x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S4096x2048 : Shape := ⟨2, ![4096, 2048]⟩
abbrev S4x1024x512 : Shape := ⟨3, ![4, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S4x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S4x256x1024 : Shape := ⟨3, ![4, 256, 1024]⟩
abbrev S4x1x256x1024 : Shape := ⟨4, ![4, 1, 256, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S4x256x1024, .f32⟩
  | .hbm, ⟨5, _⟩ => ⟨S4x1x256x1024, .f32⟩
  | .hbm, ⟨6, _⟩ => ⟨S4x1x256x1024, .bf16⟩
  | .hbm, ⟨7, _⟩ => ⟨S4096x1024, .bf16⟩
  | .hbm, ⟨8, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S4x1x256x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel12.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S4x256x1024 : Shape := ⟨3, ![4, 256, 1024]⟩
abbrev S4x1x256x1024 : Shape := ⟨4, ![4, 1, 256, 1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x1024, .f32⟩
  | .hbm, ⟨4, _⟩ => ⟨S1x1024, .f32⟩
  | .hbm, ⟨5, _⟩ => ⟨S4x256x1024, .f32⟩
  | .hbm, ⟨6, _⟩ => ⟨S4x1x256x1024, .f32⟩
  | .hbm, ⟨7, _⟩ => ⟨S4x1x256x1024, .bf16⟩
  | .hbm, ⟨8, _⟩ => ⟨S4096x1024, .bf16⟩
  | .hbm, ⟨9, _⟩ => ⟨S4096x1024, .bf16⟩
  | .hbm, ⟨10, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S4x1x256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_22 : BitVec 32 := 0#32
  let v42 : BitVec 1 := Scalar.cmpi .eq arg0 c0_i32_22
  let v43 : BitVec 32 := Scalar.extui v42
  let c0_i32_23 : BitVec 32 := 0#32
  let v44 : BitVec 1 := Scalar.cmpi .ne v43 c0_i32_23
  v44

def k0_cond3 (i : grid0.Coords) : BitVec 1 :=
  let arg0 : BitVec 32 := BitVec.ofNat 32 (i 0).val
  let c0_i32_24 : BitVec 32 := 0#32
  let v45 : BitVec 1 := Scalar.cmpi .sgt arg0 c0_i32_24
  let v46 : BitVec 32 := Scalar.extui v45
  let c0_i32_25 : BitVec 32 := 0#32
  let v47 : BitVec 1 := Scalar.cmpi .ne v46 c0_i32_25
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference12Ideal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S4096x1024, .bf16⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S1024 : Shape := ⟨1, ![1024]⟩
abbrev S4x256x1024 : Shape := ⟨3, ![4, 256, 1024]⟩
abbrev S4x1x256x1024 : Shape := ⟨4, ![4, 1, 256, 1024]⟩
abbrev S1x1024 : Shape := ⟨2, ![1, 1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .bf16⟩
  | .hbm, ⟨5, _⟩ => ⟨S4x256x1024, .f32⟩
  | .hbm, ⟨6, _⟩ => ⟨S4x1x256x1024, .f32⟩
  | .hbm, ⟨7, _⟩ => ⟨S4x1x256x1024, .bf16⟩
  | .hbm, ⟨8, _⟩ => ⟨S1x1024, .f32⟩
  | .hbm, ⟨9, _⟩ => ⟨S4096x1024, .f32⟩
  | .hbm, ⟨10, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_5 : BitVec 32 := 0#32
  let v8 : BitVec 1 := Scalar.cmpi .ne v7 c0_i32_5
  v8

def k0_cond2 (i : grid0.Coords) : BitVec 1 :=
  let arg1 : BitVec 32 := BitVec.ofNat 32 (i 1).val
  let c0_i32_6 : BitVec 32 := 0#32
  let v9 : BitVec 1 := Scalar.cmpi .sgt arg1 c0_i32_6
  let v10 : BitVec 32 := Scalar.extui v9
  let c0_i32_7 : BitVec 32 := 0#32
  let v11 : BitVec 1 := Scalar.cmpi .ne v10 c0_i32_7
  v11

def k0_cond3 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference13Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel14.lean ====
abbrev S4096x1024 : Shape := ⟨2, ![4096, 1024]⟩
abbrev S1024 : Shape := ⟨1, ![1024]⟩
abbrev S1024x4096 : Shape := ⟨2, ![1024, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩
abbrev S4096x4096 : Shape := ⟨2, ![4096, 4096]⟩
abbrev S2048x1024 : Shape := ⟨2, ![2048, 1024]⟩
abbrev S1x1x1024x1024 : Shape := ⟨4, ![1, 1, 1024, 1024]⟩
abbrev S2048 : Shape := ⟨1, ![2048]⟩
abbrev S2048x1 : Shape := ⟨2, ![2048, 1]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4x1024, .f32⟩
  | .hbm, ⟨5, _⟩ => ⟨S4x1024x1024, .f32⟩
  | .hbm, ⟨6, _⟩ => ⟨S4x1x1024x1024, .f32⟩
  | .hbm, ⟨7, _⟩ => ⟨S4x1x1024x1024, .bf16⟩
  | .hbm, ⟨8, _⟩ => ⟨S4096x1024, .bf16⟩
  | .hbm, ⟨9, _⟩ => ⟨S4096x4096, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1x1024x1024, .bf16⟩
  | .local _ .vmem, ⟨4, _⟩ => ⟨S1x1x1024x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel15.lean ====
abbrev S4096x1024 : Shape := ⟨2, ![4096, 1024]⟩
abbrev S1024 : Shape := ⟨1, ![1024]⟩
abbrev S1024x2048 : Shape := ⟨2, ![1024, 2048]⟩
abbrev S1x1024 : Shape := ⟨2, ![1, 1024]⟩
abbrev S1024x4x512 : Shape := ⟨3, ![1024, 4, 512]⟩
abbrev S4x1024x512 : Shape := ⟨3, ![4, 1024, 512]⟩
abbrev S4x1x1024x512 : Shape := ⟨4, ![4, 1, 1024, 512]⟩
abbrev S4096x2048 : Shape := ⟨2, ![4096, 2048]⟩
abbrev S2048x1024 : Shape := ⟨2, ![2048, 1024]⟩
abbrev S1x1x1024x512 : Shape := ⟨4, ![1, 1, 1024, 512]⟩
abbrev S2048x512 : Shape := ⟨2, ![2048, 512]⟩
abbrev S2048 : Shape := ⟨1, ![2048]⟩
abbrev S2048x1 : Shape := ⟨2, ![2048, 1]⟩
abbrev S1024x512 : Shape := ⟨2, ![1024, 512]⟩

abbrev nBuf : Space → Nat
  | .hbm => 10
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x4x512, .f32⟩
  | .hbm, ⟨5, _⟩ => ⟨S4x1024x512, .f32⟩
  | .hbm, ⟨6, _⟩ => ⟨S4x1x1024x512, .f32⟩
  | .hbm, ⟨7, _⟩ => ⟨S4x1x1024x512, .bf16⟩
  | .hbm, ⟨8, _⟩ => ⟨S4096x1024, .bf16⟩
  | .hbm, ⟨9, _⟩ => ⟨S4096x2048, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1x1024x512, .bf16⟩
  | .local _ .vmem, ⟨4, _⟩ => ⟨S1x1x1024x512, .bf16⟩
  | .local _ .vmem, ⟨5, _⟩ => ⟨S2048x1024, .bf16⟩
  | .local _ .vmem, ⟨6, _⟩ => ⟨S2048x1024, .bf16⟩
  | .local _ .vmem, ⟨7, _⟩ => ⟨S2048x512, .bf16⟩
  | .local _ .vmem, ⟨8, _⟩ => ⟨S2048x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference15Ideal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x2048, .f32⟩
  | .hbm, ⟨21, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel16.lean ====
abbrev S4096x4096 : Shape := ⟨2, ![4096, 4096]⟩
abbrev S4096x1024 : Shape := ⟨2, ![4096, 1024]⟩
abbrev S1024 : Shape := ⟨1, ![1024]⟩
abbrev S4x1024x1024 : Shape := ⟨3, ![4, 1024, 1024]⟩
abbrev S4x1x1024x1024 : Shape := ⟨4, ![4, 1, 1024, 1024]⟩
abbrev S1x1024 : Shape := ⟨2, ![1, 1024]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x4096, .bf16⟩
  | .hbm, ⟨5, _⟩ => ⟨S4x1024x1024, .f32⟩
  | .hbm, ⟨6, _⟩ => ⟨S4x1x1024x1024, .f32⟩
  | .hbm, ⟨7, _⟩ => ⟨S4x1x1024x1024, .bf16⟩
  | .hbm, ⟨8, _⟩ => ⟨S1x1024, .f32⟩
  | .hbm, ⟨9, _⟩ => ⟨S4096x1024, .f32⟩
  | .hbm, ⟨10, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_5 : BitVec 32 := 0#32
  let v10 : BitVec 1 := Scalar.cmpi .ne v9 c0_i32_5
  v10

def k0_cond2 (i : grid0.Coords) : BitVec 1 :=
  let arg1 : BitVec 32 := BitVec.ofNat 32 (i 1).val
  let c0_i32_6 : BitVec 32 := 0#32
  let v11 : BitVec 1 := Scalar.cmpi .sgt arg1 c0_i32_6
  let v12 : BitVec 32 := Scalar.extui v11
  let c0_i32_7 : BitVec 32 := 0#32
  let v13 : BitVec 1 := Scalar.cmpi .ne v12 c0_i32_7
  v13

def k0_cond3 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference16Ideal.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel17.lean ====
abbrev S4096x1024 : Shape := ⟨2, ![4096, 1024]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x2048, .bf16⟩
  | .local _ .vmem, ⟨9, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S4096x1024 : Shape := ⟨2, ![4096, 1024]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel18.lean ====
abbrev S4096x1024 : Shape := ⟨2, ![4096, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg0 : BitVec 32 := BitVec.ofNat 32 (i 0).val
  let c0_i32_10 : BitVec 32 := 0#32
  let v18 : BitVec 1 := Scalar.cmpi .sgt arg0 c0_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference18Ideal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel19.lean ====
abbrev S1024x512 : Shape := ⟨2, ![1024, 512]⟩
abbrev S512x512 : Shape := ⟨2, ![512, 512]⟩

abbrev nBuf : Space → Nat
  | .hbm => 11
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .bf16⟩
  | .hbm, ⟨6, _⟩ => ⟨S1024x512, .bf16⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S1024x512 : Shape := ⟨2, ![1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S4096x1024 : Shape := ⟨2, ![4096, 1024]⟩
abbrev S4x256x256 : Shape := ⟨3, ![4, 256, 256]⟩
abbrev S1024 : Shape := ⟨1, ![1024]⟩
abbrev S4x4x64x256 : Shape := ⟨4, ![4, 4, 64, 256]⟩
abbrev S4x1x4x64x256 : Shape := ⟨5, ![4, 1, 4, 64, 256]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S4x1x1x64x256 : Shape := ⟨5, ![4, 1, 1, 64, 256]⟩
abbrev S4x64x256 : Shape := ⟨3, ![4, 64, 256]⟩
abbrev S256x256 : Shape := ⟨2, ![256, 256]⟩
abbrev S512x256 : Shape := ⟨2, ![512, 256]⟩
abbrev S4x1x64x256 : Shape := ⟨4, ![4, 1, 64, 256]⟩

abbrev nBuf : Space → Nat
  | .hbm => 17
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x256x256, .f32⟩
  | .hbm, ⟨4, _⟩ => ⟨S1024, .f32⟩
  | .hbm, ⟨5, _⟩ => ⟨S1024, .f32⟩
  | .hbm, ⟨6, _⟩ => ⟨S4096x1024, .bf16⟩
  | .hbm, ⟨7, _⟩ => ⟨S4x4x64x256, .f32⟩
  | .hbm, ⟨8, _⟩ => ⟨S4x4x64x256, .f32⟩
  | .hbm, ⟨9, _⟩ => ⟨S4x1x4x64x256, .f32⟩
  | .hbm, ⟨10, _⟩ => ⟨S4x1x4x64x256, .bf16⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4x4x64x256, .bf16⟩
  | .hbm, ⟨15, _⟩ => ⟨S1x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S4x1x4x64x256, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S4x4x64x256, .bf16⟩
  | .local _ .vmem, ⟨12, _⟩ => ⟨S1x1024, .f32⟩
  | .local _ .vmem, ⟨13, _⟩ => ⟨S1x1024, .f32⟩
  | .local _ .vmem, ⟨14, _⟩ => ⟨S4x4x64x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond11 (i : grid0.Coords) : BitVec 1 :=
  let arg0 : BitVec 32 := BitVec.ofNat 32 (i 0).val
  let c7_i32 : BitVec 32 := 7#32
  let v108 : BitVec 1 := Scalar.cmpi .eq arg0 c7_i32
  let v109 : BitVec 32 := Scalar.extui v108
  let c0_i32_65 : BitVec 32 := 0#32
  let v110 : BitVec 1 := Scalar.cmpi .ne v109 c0_i32_65
  v110

def k0_cond9 (i : grid0.Coords) : BitVec 1 :=
  let arg0 : BitVec 32 := BitVec.ofNat 32 (i 0).val
  let c0_i32_61 : BitVec 32 := 0#32
  let v102 : BitVec 1 := Scalar.cmpi .eq arg0 c0_i32_61
  let v103 : BitVec 32 := Scalar.extui v102
  let c0_i32_62 : BitVec 32 := 0#32
  let v104 : BitVec 1 := Scalar.cmpi .ne v103 c0_i32_62
  v104

def k0_cond10 (i : grid0.Coords) : BitVec 1 :=
  let arg0 : BitVec 32 := BitVec.ofNat 32 (i 0).val
  let c0_i32_63 : BitVec 32 := 0#32
  let v105 : BitVec 1 := Scalar.cmpi .sgt arg0 c0_i32_63
  let v106 : BitVec 32 := Scalar.extui v105
  let c0_i32_64 : BitVec 32 := 0#32
  let v107 : BitVec 1 := Scalar.cmpi .ne v106 c0_i32_64
  v107

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x4x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x4x64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference20Ideal.lean ====
abbrev S4096x1024 : Shape := ⟨2, ![4096, 1024]⟩
abbrev S4x256x256 : Shape := ⟨3, ![4, 256, 256]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x256 : Shape := ⟨3, ![4096, 4, 256]⟩
abbrev S4x256x4096 : Shape := ⟨3, ![4, 256, 4096]⟩
abbrev S4x4096x256 : Shape := ⟨3, ![4, 4096, 256]⟩
abbrev S4x4x64x256 : Shape := ⟨4, ![4, 4, 64, 256]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4x256x256, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x4x256, .f32⟩
  | .hbm, ⟨52, _⟩ => ⟨S4x256x4096, .f32⟩
  | .hbm, ⟨53, _⟩ => ⟨S4096x4x256, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S4096x4x256, .f32⟩
  | .hbm, ⟨67, _⟩ => ⟨S4x256x4096, .f32⟩
  | .hbm, ⟨68, _⟩ => ⟨S4x4096x256, .f32⟩
  | .hbm, ⟨69, _⟩ => ⟨S4096x4x256, .f32⟩
  | .hbm, ⟨70, _⟩ => ⟨S4x256x256, .f32⟩
  | .hbm, ⟨71, _⟩ => ⟨S4x256x256, .f32⟩
  | .hbm, ⟨72, _⟩ => ⟨S4096x1024, .f32⟩
  | .hbm, ⟨73, _⟩ => ⟨S4x4x64x256, .f32⟩
  | .hbm, ⟨74, _⟩ => ⟨S4x4x64x256, .f32⟩
  | .hbm, ⟨75, _⟩ => ⟨S4x4x64x256, .bf16⟩
  | .hbm, ⟨76, _⟩ => ⟨S1x1024, .f32⟩
  | .hbm, ⟨77, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Proof.KI.Trip.lean ====
/- One trip of the sweep over earlier key blocks: what the body of the loop stores, as pieces, found by running it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Sba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg3 : Memref sig .tc .vmem S4096x256 .bf16) (harg3 : arg3.IsWhole) (arg4 : Memref sig .tc .vmem S4096x256 .bf16) (harg4 : arg4.IsWhole) (arg12 : Memref sig .tc .vmem S4x256x1 .f32) (harg12 : arg12.IsWhole) (arg13 : Memref sig .tc .vmem S4x256x1 .f32) (harg13 : arg13.IsWhole) (arg14 : Memref sig .tc .vmem S4x256x128 .f32) (harg14 : arg14.IsWhole) (arg10 : Memref sig .tc .vmem S4096x256 .f32) (harg10 : arg10.IsWhole) (arg11 : Memref sig .tc .vmem S4096x256 .f32) (harg11 : arg11.IsWhole)
  (v17 v18 v36 v37 v19 v20 v38 v39 : FVec F S256x128 .bf16) (v4 v6 : FVec F S512x256 .bf16) (v24 v28 v43 v47 : FVec F S256x1 .f32)
  (x3 : Vec F S4096x256 .bf16) (x4 : Vec F S4096x256 .bf16)

-- the run of a whole trip is one long term
set_option maxHeartbeats 2000000 in
/-- A trip whose test passed, on whole buffers at the contents named: the trip runs up to the call of the loop's label
    at the next counter, with these pieces written. -/
@[irreducible] def trip (n : BitVec 32) (live : F .f32) (hw : k0_chk1 i n)
    (htest : Scalar.andi (Scalar.cmpi .slt n (BitVec.ofNat 32 (i 1).val)) (Scalar.cmpf .olt live (Named.named κ "dead" 0x42D20000#32)) = 1#1)
    (f12 : Buf (Elt F) (arg12.view.loc (c : Thread nD τ))) (f13 : Buf (Elt F) (arg13.view.loc (c : Thread nD τ))) (f14 : Buf (Elt F) (arg14.view.loc (c : Thread nD τ)))
    (f10 : Buf (Elt F) (arg10.view.loc (c : Thread nD τ))) (f11 : Buf (Elt F) (arg11.view.loc (c : Thread nD τ))) :
    Σ' (L12 : List (View.Piece (Elt F) S4x256x1 .f32)) (L13 : List (View.Piece (Elt F) S4x256x1 .f32)) (L14 : List (View.Piece (Elt F) S4x256x128 .f32))
      (L10 : List (View.Piece (Elt F) S4096x256 .f32)) (L11 : List (View.Piece (Elt F) S4096x256 .f32)),
      { lv : F .f32 // ∀ (𝒱₀ : Variants) (bd : Option 𝒱₀.V) (E : Set ℕ) (K : BitVec 32 × F .f32 → sProp 𝕄),
        iprop((arg3.view.loc (c : Thread nD τ) ↦{fullShare} (harg3.unread x3)) ∗ (arg4.view.loc (c : Thread nD τ) ↦{fullShare} (harg4.unread x4))
          ∗ (arg12.view.loc (c : Thread nD τ) ↦{fullShare} f12) ∗ (arg13.view.loc (c : Thread nD τ) ↦{fullShare} f13) ∗ (arg14.view.loc (c : Thread nD τ) ↦{fullShare} f14)
          ∗ (arg10.view.loc (c : Thread nD τ) ↦{fullShare} f10) ∗ (arg11.view.loc (c : Thread nD τ) ↦{fullShare} f11)
          ∗ (iprop((arg3.view.loc (c : Thread nD τ) ↦{fullShare} (harg3.unread x3)) ∗ (arg4.view.loc (c : Thread nD τ) ↦{fullShare} (harg4.unread x4))
              ∗ (arg12.view.loc (c : Thread nD τ) ↦{fullShare} (arg12.view.writes (Elt F) f12 L12)) ∗ (arg13.view.loc (c : Thread nD τ) ↦{fullShare} (arg13.view.writes (Elt F) f13 L13))
              ∗ (arg14.view.loc (c : Thread nD τ) ↦{fullShare} (arg14.view.writes (Elt F) f14 L14))
              ∗ (arg10.view.loc (c : Thread nD τ) ↦{fullShare} (arg10.view.writes (Elt F) f10 L10)) ∗ (arg11.view.loc (c : Thread nD τ) ↦{fullShare} (arg11.view.writes (Elt F) f11 L11)))
            -∗ wp frame (wpE (defs₀ (F := F)) 𝒱₀ (c : Thread nD τ) bd) E (Prog.op (TpuEff.call (1 : (Λ₀ F).Label) ⟨i, arg3, harg3, arg4, harg4, v17, v18, v36, v37, v19, v20, v38, v39, v4, arg12, harg12, v6, arg13, harg13, v24, v28, v43, v47, arg14, harg14, arg10, harg10, arg11, harg11, Scalar.addi n 1#32, lv⟩) Prog.ret) K))
        ⊢ wp frame (wpE (defs₀ (F := F)) 𝒱₀ (c : Thread nD τ) bd) E (cc0_while1 i arg3 harg3 arg4 harg4 v17 v18 v36 v37 v19 v20 v38 v39 v4 arg12 harg12 v6 arg13 harg13 v24 v28 v43 v47 arg14 harg14 arg10 harg10 arg11 harg11 n live) K } := by
  refine ⟨?_, ?_, ?_, ?_, ?_, ?_, fun 𝒱₀ bd E K => ?run⟩
  case run =>
    simp only [cc0_while1_eq_skeleton]; unfold cc0_while1_skel
    simp only [htest, ↓reduceIte]
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    iintro ⟨H3, H4, H12, H13, H14, H10, H11, Hk⟩
    sl_exec (disch := first | sl_exact hw)
    rw [show trip.sl.v823 n = Scalar.addi n 1#32 from rfl]
    iapply Hk
    isplitl [H3]; · iexact H3
    isplitl [H4]; · iexact H4
    isplitl [H12]; · iexact H12
    isplitl [H13]; · iexact H13
    isplitl [H14]; · iexact H14
    isplitl [H10]; · iexact H10
    iexact H11

end Cert.KernelIdeal.Sba

end
-- ==== Proof.KI.Loop.lean ====
/- The sweep over earlier key blocks: its state, one trip on it, all trips, and the loop's label answered by them. -/
module

public import proofs.«01_k».proof.Proof.KI.Trip

@[expose] public section

set_option maxRecDepth 16384

noncomputable section

namespace Cert.KernelIdeal.Sba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- What the sweep carries: the sums of the masses passed, the sums of the weights' gradients passed, the queries' gradient so
    far, and the keys' and values' gradients of the head group. -/
structure St (F : FTy → Type) where
  c : Vec F S4x256x1 .f32
  r : Vec F S4x256x1 .f32
  acc : Vec F S4x256x128 .f32
  dk : Vec F S4096x256 .f32
  dv : Vec F S4096x256 .f32

/-- Every key block before the queries' own lies inside the arrays. -/
theorem chk_of_lt : ∀ i : grid0.Coords, ∀ j : Fin 16, j.val < (i 1).val → k0_chk1 i (BitVec.ofNat 32 j.val) := by
  decide +kernel

theorem chk_lt (i : grid0.Coords) (j : ℕ) (h : j < (i 1).val) : k0_chk1 i (BitVec.ofNat 32 j) :=
  chk_of_lt i ⟨j, by have h2 : (i 1).val < 16 := (i 1).isLt; omega⟩ h

theorem andi_zero (b : BitVec 1) : ¬Scalar.andi 0#1 b = 1#1 := by revert b; decide

/-- The counter's test fails at the query block's own number. -/
theorem slt_self : ∀ i : grid0.Coords, Scalar.cmpi .slt (BitVec.ofNat 32 (i 1).val) (BitVec.ofNat 32 (i 1).val) = 0#1 := by
  decide +kernel

variable (c : Dev nD) (i : grid0.Coords) (arg3 : Memref sig .tc .vmem S4096x256 .bf16) (harg3 : arg3.IsWhole) (arg4 : Memref sig .tc .vmem S4096x256 .bf16) (harg4 : arg4.IsWhole) (arg12 : Memref sig .tc .vmem S4x256x1 .f32) (harg12 : arg12.IsWhole) (arg13 : Memref sig .tc .vmem S4x256x1 .f32) (harg13 : arg13.IsWhole) (arg14 : Memref sig .tc .vmem S4x256x128 .f32) (harg14 : arg14.IsWhole) (arg10 : Memref sig .tc .vmem S4096x256 .f32) (harg10 : arg10.IsWhole) (arg11 : Memref sig .tc .vmem S4096x256 .f32) (harg11 : arg11.IsWhole)
  (v17 v18 v36 v37 v19 v20 v38 v39 : FVec F S256x128 .bf16) (v4 v6 : FVec F S512x256 .bf16) (v24 v28 v43 v47 : FVec F S256x1 .f32)
  (x3 : Vec F S4096x256 .bf16) (x4 : Vec F S4096x256 .bf16)

/-- One trip of the sweep, on the contents of whole buffers. -/
def step (n : BitVec 32) (live : F .f32) (hw : k0_chk1 i n) (htest : Scalar.andi (Scalar.cmpi .slt n (BitVec.ofNat 32 (i 1).val)) (Scalar.cmpf .olt live (Named.named κ "dead" 0x42D20000#32)) = 1#1) (s : St F) : St F :=
  let t := trip c i arg3 harg3 arg4 harg4 arg12 harg12 arg13 harg13 arg14 harg14 arg10 harg10 arg11 harg11 v17 v18 v36 v37 v19 v20 v38 v39 v4 v6 v24 v28 v43 v47 x3 x4 n live hw htest (harg12.unread s.c) (harg13.unread s.r) (harg14.unread s.acc) (harg10.unread s.dk) (harg11.unread s.dv)
  ⟨arg12.view.read (Elt F) (arg12.view.writes (Elt F) (harg12.unread s.c) t.1), arg13.view.read (Elt F) (arg13.view.writes (Elt F) (harg13.unread s.r) t.2.1),
    arg14.view.read (Elt F) (arg14.view.writes (Elt F) (harg14.unread s.acc) t.2.2.1), arg10.view.read (Elt F) (arg10.view.writes (Elt F) (harg10.unread s.dk) t.2.2.2.1),
    arg11.view.read (Elt F) (arg11.view.writes (Elt F) (harg11.unread s.dv) t.2.2.2.2.1)⟩

/-- The least mass passed by any row after the trip: what the next test looks at. -/
def stepLive (n : BitVec 32) (live : F .f32) (hw : k0_chk1 i n) (htest : Scalar.andi (Scalar.cmpi .slt n (BitVec.ofNat 32 (i 1).val)) (Scalar.cmpf .olt live (Named.named κ "dead" 0x42D20000#32)) = 1#1) (s : St F) : F .f32 :=
  (trip c i arg3 harg3 arg4 harg4 arg12 harg12 arg13 harg13 arg14 harg14 arg10 harg10 arg11 harg11 v17 v18 v36 v37 v19 v20 v38 v39 v4 v6 v24 v28 v43 v47 x3 x4 n live hw htest (harg12.unread s.c) (harg13.unread s.r) (harg14.unread s.acc) (harg10.unread s.dk) (harg11.unread s.dv)).2.2.2.2.2.1

/-- At most `k` trips from counter `j`, as far as the test passes. -/
def sweep : (k j : ℕ) → j + k = (i 1).val → F .f32 → St F → St F
  | 0, _, _, _, s => s
  | k + 1, j, hj, live, s => open Classical in
    if ht : Scalar.andi (Scalar.cmpi .slt (BitVec.ofNat 32 j) (BitVec.ofNat 32 (i 1).val)) (Scalar.cmpf .olt live (Named.named κ "dead" 0x42D20000#32)) = 1#1 then
      sweep k (j + 1) (by omega) (stepLive c i arg3 harg3 arg4 harg4 arg12 harg12 arg13 harg13 arg14 harg14 arg10 harg10 arg11 harg11 v17 v18 v36 v37 v19 v20 v38 v39 v4 v6 v24 v28 v43 v47 x3 x4 (BitVec.ofNat 32 j) live (chk_lt i j (by omega)) ht s) (step c i arg3 harg3 arg4 harg4 arg12 harg12 arg13 harg13 arg14 harg14 arg10 harg10 arg11 harg11 v17 v18 v36 v37 v19 v20 v38 v39 v4 v6 v24 v28 v43 v47 x3 x4 (BitVec.ofNat 32 j) live (chk_lt i j (by omega)) ht s)
    else s

/-- The buffers the loop's function reads and writes, held whole, at the state `s`. -/
def held (s : St F) : sProp 𝕄 :=
  iprop((arg3.view.loc (c : Thread nD τ) ↦{fullShare} (harg3.unread x3)) ∗ (arg4.view.loc (c : Thread nD τ) ↦{fullShare} (harg4.unread x4))
    ∗ (arg12.view.loc (c : Thread nD τ) ↦{fullShare} (harg12.unread s.c)) ∗ (arg13.view.loc (c : Thread nD τ) ↦{fullShare} (harg13.unread s.r))
    ∗ (arg14.view.loc (c : Thread nD τ) ↦{fullShare} (harg14.unread s.acc))
    ∗ (arg10.view.loc (c : Thread nD τ) ↦{fullShare} (harg10.unread s.dk)) ∗ (arg11.view.loc (c : Thread nD τ) ↦{fullShare} (harg11.unread s.dv)))

/-- The label's specification: from state `s` to state `s'`, returning anything. -/
def spec (s s' : St F) : sWPT 𝕄 (BitVec 32 × F .f32) := do
  sWPT.consume (held c arg3 harg3 arg4 harg4 arg12 harg12 arg13 harg13 arg14 harg14 arg10 harg10 arg11 harg11 x3 x4 s)
  let r ← sWPT.arbitrary
  sWPT.produce (held c arg3 harg3 arg4 harg4 arg12 harg12 arg13 harg13 arg14 harg14 arg10 harg10 arg11 harg11 x3 x4 s')
  pure r

theorem spec_apply (s s' : St F) (K : BitVec 32 × F .f32 → sProp 𝕄) :
    spec c arg3 harg3 arg4 harg4 arg12 harg12 arg13 harg13 arg14 harg14 arg10 harg10 arg11 harg11 x3 x4 s s' K
      = iprop(held c arg3 harg3 arg4 harg4 arg12 harg12 arg13 harg13 arg14 harg14 arg10 harg10 arg11 harg11 x3 x4 s
          ∗ ∀ r : BitVec 32 × F .f32, (held c arg3 harg3 arg4 harg4 arg12 harg12 arg13 harg13 arg14 harg14 arg10 harg10 arg11 harg11 x3 x4 s' -∗ K r)) := rfl

theorem addi_succ (j : ℕ) : Scalar.addi (BitVec.ofNat 32 j) 1#32 = BitVec.ofNat 32 (j + 1) := by
  show BitVec.ofNat 32 j + 1#32 = _
  simp [BitVec.ofNat_add]

set_option maxHeartbeats 2000000 in
/-- The loop's function, entered with its test passed, makes one step of the state and calls itself at the next counter. -/
theorem step_spec (j : ℕ) (live : F .f32) (hw : k0_chk1 i (BitVec.ofNat 32 j)) (htest : Scalar.andi (Scalar.cmpi .slt (BitVec.ofNat 32 j) (BitVec.ofNat 32 (i 1).val)) (Scalar.cmpf .olt live (Named.named κ "dead" 0x42D20000#32)) = 1#1) (s : St F) (bd : Option Variants.nat.V)
    (E : Set ℕ) (K : BitVec 32 × F .f32 → sProp 𝕄) :
    iprop(held c arg3 harg3 arg4 harg4 arg12 harg12 arg13 harg13 arg14 harg14 arg10 harg10 arg11 harg11 x3 x4 s ∗ (held c arg3 harg3 arg4 harg4 arg12 harg12 arg13 harg13 arg14 harg14 arg10 harg10 arg11 harg11 x3 x4 (step c i arg3 harg3 arg4 harg4 arg12 harg12 arg13 harg13 arg14 harg14 arg10 harg10 arg11 harg11 v17 v18 v36 v37 v19 v20 v38 v39 v4 v6 v24 v28 v43 v47 x3 x4 (BitVec.ofNat 32 j) live hw htest s)
        -∗ wp frame (wpE (defs₀ (F := F)) Variants.nat (c : Thread nD τ) bd) E (Prog.op (TpuEff.call (1 : (Λ₀ F).Label)
          ⟨i, arg3, harg3, arg4, harg4, v17, v18, v36, v37, v19, v20, v38, v39, v4, arg12, harg12, v6, arg13, harg13, v24, v28, v43, v47, arg14, harg14, arg10, harg10, arg11, harg11, Scalar.addi (BitVec.ofNat 32 j) 1#32, stepLive c i arg3 harg3 arg4 harg4 arg12 harg12 arg13 harg13 arg14 harg14 arg10 harg10 arg11 harg11 v17 v18 v36 v37 v19 v20 v38 v39 v4 v6 v24 v28 v43 v47 x3 x4 (BitVec.ofNat 32 j) live hw htest s⟩) Prog.ret) K))
      ⊢ wp frame (wpE (defs₀ (F := F)) Variants.nat (c : Thread nD τ) bd) E (cc0_while1 i arg3 harg3 arg4 harg4 v17 v18 v36 v37 v19 v20 v38 v39 v4 arg12 harg12 v6 arg13 harg13 v24 v28 v43 v47 arg14 harg14 arg10 harg10 arg11 harg11 (BitVec.ofNat 32 j) live) K := by
  have hr := (trip c i arg3 harg3 arg4 harg4 arg12 harg12 arg13 harg13 arg14 harg14 arg10 harg10 arg11 harg11 v17 v18 v36 v37 v19 v20 v38 v39 v4 v6 v24 v28 v43 v47 x3 x4 (BitVec.ofNat 32 j) live hw htest (harg12.unread s.c) (harg13.unread s.r) (harg14.unread s.acc) (harg10.unread s.dk) (harg11.unread s.dv)).2.2.2.2.2.2 Variants.nat bd E K
  refine BIBase.Entails.trans ?_ hr
  unfold held step stepLive
  simp only [Memref.IsWhole.unread_read]
  iintro ⟨⟨H3, H4, H12, H13, H14, H10, H11⟩, Hk⟩
  isplitl [H3]; · iexact H3
  isplitl [H4]; · iexact H4
  isplitl [H12]; · iexact H12
  isplitl [H13]; · iexact H13
  isplitl [H14]; · iexact H14
  isplitl [H10]; · iexact H10
  isplitl [H11]; · iexact H11
  iexact Hk

set_option maxHeartbeats 2000000 in
/-- The loop's function, entered with at most `k` trips to run after `j`, takes the state `s` to what the trips make of it. -/
theorem spec_le (E : Set ℕ) :
    ∀ k j (hj : j + k = (i 1).val) (n : BitVec 32) (hn : n = BitVec.ofNat 32 j) (live : F .f32) (s : St F) (K : BitVec 32 × F .f32 → sProp 𝕄),
      spec c arg3 harg3 arg4 harg4 arg12 harg12 arg13 harg13 arg14 harg14 arg10 harg10 arg11 harg11 x3 x4 s (sweep c i arg3 harg3 arg4 harg4 arg12 harg12 arg13 harg13 arg14 harg14 arg10 harg10 arg11 harg11 v17 v18 v36 v37 v19 v20 v38 v39 v4 v6 v24 v28 v43 v47 x3 x4 k j hj live s) K
      ⊢ wp frame (wpE (defs₀ (F := F)) Variants.nat (c : Thread nD τ) (some k)) E
          (defs₀ (F := F) .tc 1 ⟨i, arg3, harg3, arg4, harg4, v17, v18, v36, v37, v19, v20, v38, v39, v4, arg12, harg12, v6, arg13, harg13, v24, v28, v43, v47, arg14, harg14, arg10, harg10, arg11, harg11, n, live⟩) K := by
  intro k
  induction k with
  | zero =>
    intro j hj n hn live s K
    subst hn
    rw [spec_apply]
    show _ ⊢ wp frame (wpE (defs₀ (F := F)) Variants.nat (c : Thread nD τ) (some 0)) E (cc0_while1 i arg3 harg3 arg4 harg4 v17 v18 v36 v37 v19 v20 v38 v39 v4 arg12 harg12 v6 arg13 harg13 v24 v28 v43 v47 arg14 harg14 arg10 harg10 arg11 harg11 (BitVec.ofNat 32 j) live) K
    simp only [cc0_while1_eq_skeleton]; unfold cc0_while1_skel
    have hjT : j = (i 1).val := by omega
    have htest : ¬(Scalar.andi (Scalar.cmpi .slt (BitVec.ofNat 32 j) (BitVec.ofNat 32 (i 1).val)) (Scalar.cmpf .olt live (Named.named κ "dead" 0x42D20000#32)) = 1#1) := by
      rw [hjT, slt_self]; exact andi_zero _
    simp only [htest, ↓reduceIte, Prog.pure_eq_ret]
    iintro ⟨H, Hk⟩
    rw [wp_ret]; imodintro
    iapply Hk
    simp only [sweep]; iexact H
  | succ k ih =>
    intro j hj n hn live s K
    subst hn
    rw [spec_apply]
    show _ ⊢ wp frame (wpE (defs₀ (F := F)) Variants.nat (c : Thread nD τ) (some (k + 1))) E (cc0_while1 i arg3 harg3 arg4 harg4 v17 v18 v36 v37 v19 v20 v38 v39 v4 arg12 harg12 v6 arg13 harg13 v24 v28 v43 v47 arg14 harg14 arg10 harg10 arg11 harg11 (BitVec.ofNat 32 j) live) K
    by_cases htest : Scalar.andi (Scalar.cmpi .slt (BitVec.ofNat 32 j) (BitVec.ofNat 32 (i 1).val)) (Scalar.cmpf .olt live (Named.named κ "dead" 0x42D20000#32)) = 1#1
    · rw [sweep, dif_pos htest]
      iintro ⟨H, Hk⟩
      iapply (step_spec c i arg3 harg3 arg4 harg4 arg12 harg12 arg13 harg13 arg14 harg14 arg10 harg10 arg11 harg11 v17 v18 v36 v37 v19 v20 v38 v39 v4 v6 v24 v28 v43 v47 x3 x4 j live (chk_lt i j (by omega)) htest s (some (k + 1)) E K)
      isplitl [H]; · iexact H
      iintro H
      iapply (wp_call_spec Variants.nat (c : Thread nD τ) (some (k + 1)) E (spec c arg3 harg3 arg4 harg4 arg12 harg12 arg13 harg13 arg14 harg14 arg10 harg10 arg11 harg11 x3 x4
          (step c i arg3 harg3 arg4 harg4 arg12 harg12 arg13 harg13 arg14 harg14 arg10 harg10 arg11 harg11 v17 v18 v36 v37 v19 v20 v38 v39 v4 v6 v24 v28 v43 v47 x3 x4 (BitVec.ofNat 32 j) live (chk_lt i j (by omega)) htest s) _) k
        (fun u hu => by cases hu; exact Nat.lt_succ_self k)
        (ih (j + 1) (by omega) _ (addi_succ j) (stepLive c i arg3 harg3 arg4 harg4 arg12 harg12 arg13 harg13 arg14 harg14 arg10 harg10 arg11 harg11 v17 v18 v36 v37 v19 v20 v38 v39 v4 v6 v24 v28 v43 v47 x3 x4 (BitVec.ofNat 32 j) live (chk_lt i j (by omega)) htest s) (step c i arg3 harg3 arg4 harg4 arg12 harg12 arg13 harg13 arg14 harg14 arg10 harg10 arg11 harg11 v17 v18 v36 v37 v19 v20 v38 v39 v4 v6 v24 v28 v43 v47 x3 x4 (BitVec.ofNat 32 j) live (chk_lt i j (by omega)) htest s)))
      rw [spec_apply]
      isplitl [H]; · iexact H
      iintro %r H
      rw [wp_ret]; imodintro
      iapply Hk
      iexact H
    · rw [sweep, dif_neg htest]
      simp only [cc0_while1_eq_skeleton]; unfold cc0_while1_skel
      simp only [htest, ↓reduceIte, Prog.pure_eq_ret]
      iintro ⟨H, Hk⟩
      rw [wp_ret]; imodintro
      iapply Hk
      iexact H

end Cert.KernelIdeal.Sba

end
-- ==== Proof.KI.Head.lean ====
/- The first statements of one grid point: the gradients' blocks zeroed at a head group's first point, the masks, the masked
   halves of the queries and the output's gradients, the rows' sums; and the scratch zeroed. -/
module

public import proofs.«01_k».proof.Proof.KI.Loop

@[expose] public section

set_option maxRecDepth 16384

noncomputable section

namespace Cert.KernelIdeal.Sba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- A store over a whole buffer leaves its payload. -/
theorem writes_whole {s : Shape} {e : EltTy} {m : Memref sig .tc .vmem s e} (h : m.IsWhole) (f : m.view.ty.Contents (Elt F)) {off : Fin s.rank → Nat}
    (h0 : off = fun _ => 0) (inb : ∀ a, off a + s.size a ≤ s.size a) (w : s.Idx → Elt F e) :
    m.view.writes (Elt F) f [⟨Rect.unit off s.size inb, w⟩] = h.unread w := by
  subst h0
  refine h.eq_unread (funext fun y => ?_)
  exact View.read_writes_cons_hit_of_coords m.view f (Rect.unit (s := s) (fun _ => 0) s.size inb) w [] y y (fun a => by
    show (y a).val = 0 + 1 * (y a).val; omega)

/-- A grid point's condition: the first of its head group. -/
abbrev first (i : grid0.Coords) : Prop := (Scalar.cmpi .ne (Scalar.extui (Scalar.cmpi .eq (BitVec.ofNat 32 (i 1).val) 0#32)) 0#32) = 1#1

/-- What a gradient's block holds once a head group's first point has zeroed it. -/
def zeroed (i : grid0.Coords) (z d : Vec F S4096x256 .f32) : Vec F S4096x256 .f32 := open Classical in if first i then z else d

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S256x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4x256x1 .f32) (harg12 : arg12.IsWhole) (arg13 : Memref sig .tc .vmem S4x256x1 .f32) (harg13 : arg13.IsWhole) (arg14 : Memref sig .tc .vmem S4x256x128 .f32) (harg14 : arg14.IsWhole)
  (x2 : Vec F S256x256 .bf16) (x3 : Vec F S4096x256 .bf16) (x4 : Vec F S4096x256 .bf16) (x5 : Vec F S256x256 .f32) (x6 : Vec F S256x256 .bf16) (x7 : Vec F S512x256 .bf16) (x8 : Vec F S512x256 .bf16)

/-- The first part of the body: its results, found by running it, and the gradients' blocks zeroed at the group's first point. -/
@[irreducible] def part1 : { r : Σ' (arg1 : BitVec 32) (v4 : FVec F S512x256 .bf16) (v6 : FVec F S512x256 .bf16) (v9 : IVec S256x128 1) (v17 : FVec F S256x128 .bf16) (v18 : FVec F S256x128 .bf16) (v19 : FVec F S256x128 .bf16) (v20 : FVec F S256x128 .bf16) (v24 : FVec F S256x1 .f32) (v28 : FVec F S256x1 .f32) (v30 : FVec F S256x128 .bf16) (v32 : FVec F S256x128 .bf16), FVec F S256x128 .f32 //
    ∀ (dk dv : Vec F S4096x256 .f32) (𝒱₀ : Variants) (bd : Option 𝒱₀.V) (E : Set ℕ) (kk : _ → Prog (TpuEff nD τ sig (Elt F) (Λ₀ F) .tc) PUnit) (K : PUnit → sProp 𝕄),
      iprop((arg2.view.loc (c : Thread nD τ) ↦{fullShare} (harg2.unread x2)) ∗ (arg3.view.loc (c : Thread nD τ) ↦{fullShare} (harg3.unread x3)) ∗ (arg4.view.loc (c : Thread nD τ) ↦{fullShare} (harg4.unread x4)) ∗ (arg5.view.loc (c : Thread nD τ) ↦{fullShare} (harg5.unread x5)) ∗ (arg6.view.loc (c : Thread nD τ) ↦{fullShare} (harg6.unread x6)) ∗ (arg7.view.loc (c : Thread nD τ) ↦{fullShare} (harg7.unread x7)) ∗ (arg8.view.loc (c : Thread nD τ) ↦{fullShare} (harg8.unread x8)) ∗ (arg10.view.loc (c : Thread nD τ) ↦{fullShare} (harg10.unread dk)) ∗ (arg11.view.loc (c : Thread nD τ) ↦{fullShare} (harg11.unread dv))
          ∗ (iprop((arg2.view.loc (c : Thread nD τ) ↦{fullShare} (harg2.unread x2)) ∗ (arg3.view.loc (c : Thread nD τ) ↦{fullShare} (harg3.unread x3)) ∗ (arg4.view.loc (c : Thread nD τ) ↦{fullShare} (harg4.unread x4)) ∗ (arg5.view.loc (c : Thread nD τ) ↦{fullShare} (harg5.unread x5)) ∗ (arg6.view.loc (c : Thread nD τ) ↦{fullShare} (harg6.unread x6)) ∗ (arg7.view.loc (c : Thread nD τ) ↦{fullShare} (harg7.unread x7)) ∗ (arg8.view.loc (c : Thread nD τ) ↦{fullShare} (harg8.unread x8)) ∗ (arg10.view.loc (c : Thread nD τ) ↦{fullShare} (harg10.unread (zeroed i k0_pay3 dk))) ∗ (arg11.view.loc (c : Thread nD τ) ↦{fullShare} (harg11.unread (zeroed i k0_pay4 dv)))) -∗ wp frame (wpE (defs₀ (F := F)) 𝒱₀ (c : Thread nD τ) bd) E (kk r) K))
        ⊢ wp frame (wpE (defs₀ (F := F)) 𝒱₀ (c : Thread nD τ) bd) E (Bind.bind (k0_part1 (F := F) i arg2 harg2 arg3 harg3 arg4 harg4 arg5 harg5 arg6 harg6 arg7 harg7 arg8 harg8 arg9 harg9 arg10 harg10 arg11 harg11 arg12 harg12 arg13 harg13 arg14 harg14) kk) K } := by
  refine ⟨?_, fun dk dv 𝒱₀ bd E kk K => ?run⟩
  case run =>
    simp only [k0_part1_eq_skeleton]; unfold k0_part1_skel
    by_cases hc : first i
    · simp only [zeroed, if_pos hc]; rw [dif_pos hc]
      iintro ⟨H2, H3, H4, H5, H6, H7, H8, H10, H11, Hk⟩
      sl_exec (disch := first | sl_exact hc)
      iapply Hk
      rw [writes_whole harg10 _ (by decide), writes_whole harg11 _ (by decide)]
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      iexact H11
    · simp only [zeroed, if_neg hc]; rw [dif_neg hc]
      iintro ⟨H2, H3, H4, H5, H6, H7, H8, H10, H11, Hk⟩
      sl_exec (disch := first | sl_exact hc)
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      iexact H11

variable (arg1 : BitVec 32) (v9 : IVec S256x128 1) (v30 : FVec F S256x128 .bf16) (v32 : FVec F S256x128 .bf16) (v34 : FVec F S256x128 .f32)

/-- The second part: its results, and the scratch zeroed. -/
@[irreducible] def part2 : { r : Σ' (v36 : FVec F S256x128 .bf16) (v37 : FVec F S256x128 .bf16) (v38 : FVec F S256x128 .bf16) (v39 : FVec F S256x128 .bf16) (v43 : FVec F S256x1 .f32) (v47 : FVec F S256x1 .f32) (v50 : IVec S256x256 1) (v64 : BitVec 32) (v67 : FVec F S256x128 .bf16) (v70 : FVec F S256x128 .bf16), Vec F S256x128 .bf16 //
    ∀ (f12 : Buf (Elt F) (arg12.view.loc (c : Thread nD τ))) (f13 : Buf (Elt F) (arg13.view.loc (c : Thread nD τ))) (f14 : Buf (Elt F) (arg14.view.loc (c : Thread nD τ)))
      (𝒱₀ : Variants) (bd : Option 𝒱₀.V) (E : Set ℕ) (kk : _ → Prog (TpuEff nD τ sig (Elt F) (Λ₀ F) .tc) PUnit) (K : PUnit → sProp 𝕄),
      iprop((arg3.view.loc (c : Thread nD τ) ↦{fullShare} (harg3.unread x3)) ∗ (arg4.view.loc (c : Thread nD τ) ↦{fullShare} (harg4.unread x4)) ∗ (arg12.view.loc (c : Thread nD τ) ↦{fullShare} (f12)) ∗ (arg13.view.loc (c : Thread nD τ) ↦{fullShare} (f13)) ∗ (arg14.view.loc (c : Thread nD τ) ↦{fullShare} (f14))
          ∗ (iprop((arg3.view.loc (c : Thread nD τ) ↦{fullShare} (harg3.unread x3)) ∗ (arg4.view.loc (c : Thread nD τ) ↦{fullShare} (harg4.unread x4)) ∗ (arg12.view.loc (c : Thread nD τ) ↦{fullShare} (harg12.unread k0_pay29)) ∗ (arg13.view.loc (c : Thread nD τ) ↦{fullShare} (harg13.unread k0_pay30)) ∗ (arg14.view.loc (c : Thread nD τ) ↦{fullShare} (harg14.unread k0_pay31))) -∗ wp frame (wpE (defs₀ (F := F)) 𝒱₀ (c : Thread nD τ) bd) E (kk r) K))
        ⊢ wp frame (wpE (defs₀ (F := F)) 𝒱₀ (c : Thread nD τ) bd) E (Bind.bind (k0_part2 (F := F) i arg2 harg2 arg3 harg3 arg4 harg4 arg5 harg5 arg6 harg6 arg7 harg7 arg8 harg8 arg9 harg9 arg10 harg10 arg11 harg11 arg12 harg12 arg13 harg13 arg14 harg14 arg1 v9 v30 v32 v34) kk) K } := by
  refine ⟨?_, fun f12 f13 f14 𝒱₀ bd E kk K => ?run⟩
  case run =>
    simp only [k0_part2_eq_skeleton]; unfold k0_part2_skel
    iintro ⟨H3, H4, H12, H13, H14, Hk⟩
    sl_exec
    iapply Hk
    rw [writes_whole harg12 _ (by decide), writes_whole harg13 _ (by decide), writes_whole harg14 _ (by decide)]
    isplitl [H3]; · iexact H3
    isplitl [H4]; · iexact H4
    isplitl [H12]; · iexact H12
    isplitl [H13]; · iexact H13
    iexact H14

end Cert.KernelIdeal.Sba

end
-- ==== Proof.KI.Rest.lean ====
/- The rest of one grid point: the diagonal block, the sweep over the earlier blocks, and the queries' gradient stored. -/
module

public import proofs.«01_k».proof.Proof.KI.Head

@[expose] public section

set_option maxRecDepth 16384

noncomputable section

namespace Cert.KernelIdeal.Sba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option cleanup.letToHave false in
/-- The body after its first two parts. -/
def rest (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S256x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4x256x1 .f32) (harg12 : arg12.IsWhole) (arg13 : Memref sig .tc .vmem S4x256x1 .f32) (harg13 : arg13.IsWhole) (arg14 : Memref sig .tc .vmem S4x256x128 .f32) (harg14 : arg14.IsWhole) (v4 : FVec F S512x256 .bf16) (v6 : FVec F S512x256 .bf16) (v9 : IVec S256x128 1) (v17 : FVec F S256x128 .bf16) (v18 : FVec F S256x128 .bf16) (v19 : FVec F S256x128 .bf16) (v20 : FVec F S256x128 .bf16) (v24 : FVec F S256x1 .f32) (v28 : FVec F S256x1 .f32) (v36 : FVec F S256x128 .bf16) (v37 : FVec F S256x128 .bf16) (v38 : FVec F S256x128 .bf16) (v39 : FVec F S256x128 .bf16) (v43 : FVec F S256x1 .f32) (v47 : FVec F S256x1 .f32) (v50 : IVec S256x256 1) (v64 : BitVec 32) (v67 : FVec F S256x128 .bf16) (v70 : FVec F S256x128 .bf16) (v72 : Vec F S256x128 .bf16) :
    Prog (TpuEff nD τ sig (Elt F) (Λ₀ F) .tc) PUnit := do
  let ⟨v79, v80, v81, v82, v83, v84, v96, v99, v106, v111, v113⟩ : Σ' (v79 : FVec F S256x256 .f32) (v80 : FVec F S256x256 .f32) (v81 : FVec F S256x256 .f32) (v82 : FVec F S256x256 .f32) (v83 : FVec F S256x256 .f32) (v84 : FVec F S256x256 .f32) (v96 : FVec F S256x256 .f32) (v99 : FVec F S256x256 .f32) (v106 : FVec F S256x256 .f32) (v111 : FVec F S256x256 .f32), FVec F S256x256 .f32 ← k0_part3 i arg2 harg2 arg3 harg3 arg4 harg4 arg5 harg5 arg6 harg6 arg7 harg7 arg8 harg8 arg9 harg9 arg10 harg10 arg11 harg11 arg12 harg12 arg13 harg13 arg14 harg14 v17 v18 v19 v20 v36 v37 v38 v39 v50 v64 v67 v70 v72
  let ⟨v114, v126, v129, v141, v144, v153, v162, c_m65536_i32_67⟩ : Σ' (v114 : FVec F S256x256 .f32) (v126 : FVec F S256x256 .f32) (v129 : FVec F S256x256 .f32) (v141 : FVec F S256x256 .f32) (v144 : FVec F S256x256 .f32) (v153 : FVec F S256x256 .f32) (v162 : FVec F S256x256 .f32), BitVec 32 ← k0_part4 i arg2 harg2 arg3 harg3 arg4 harg4 arg5 harg5 arg6 harg6 arg7 harg7 arg8 harg8 arg9 harg9 arg10 harg10 arg11 harg11 arg12 harg12 arg13 harg13 arg14 harg14 v4 v50 v79 v80 v96 v106 v111 v113
  let ⟨v171, v180, v189, v191, v207⟩ : Σ' (v171 : FVec F S256x256 .f32) (v180 : FVec F S256x256 .f32) (v189 : FVec F S256x256 .bf16) (v191 : FVec F S256x256 .f32), FVec F S256x256 .f32 ← k0_part5 i arg2 harg2 arg3 harg3 arg4 harg4 arg5 harg5 arg6 harg6 arg7 harg7 arg8 harg8 arg9 harg9 arg10 harg10 arg11 harg11 arg12 harg12 arg13 harg13 arg14 harg14 v4 v50 v81 v96 v99 v114 v126 v141 v153 v162 c_m65536_i32_67
  let ⟨v208, v210, v227, v229, v243, cst_104⟩ : Σ' (v208 : FVec F S256x256 .bf16) (v210 : FVec F S256x256 .f32) (v227 : FVec F S256x256 .bf16) (v229 : FVec F S256x256 .f32) (v243 : FVec F S256x256 .f32), F .f32 ← k0_part6 i arg2 harg2 arg3 harg3 arg4 harg4 arg5 harg5 arg6 harg6 arg7 harg7 arg8 harg8 arg9 harg9 arg10 harg10 arg11 harg11 arg12 harg12 arg13 harg13 arg14 harg14 v50 v82 v83 v111 v126 v129 v144 v171 v180 v207
  let ⟨v246, v248, v265, v274, v283, v292, v293⟩ : Σ' (v246 : FVec F S256x256 .bf16) (v248 : FVec F S256x256 .f32) (v265 : FVec F S256x256 .f32) (v274 : FVec F S256x256 .f32) (v283 : FVec F S256x256 .f32) (v292 : FVec F S256x256 .f32), FVec F S256x256 .f32 ← k0_part7 i arg2 harg2 arg3 harg3 arg4 harg4 arg5 harg5 arg6 harg6 arg7 harg7 arg8 harg8 arg9 harg9 arg10 harg10 arg11 harg11 arg12 harg12 arg13 harg13 arg14 harg14 v6 v50 v84 v99 v141 v191 v210 v229 v243 cst_104
  let ⟨v304, v324, v332⟩ : Σ' (v304 : FVec F S256x256 .bf16) (v324 : FVec F S256x256 .bf16), FVec F S1x256x1 .f32 ← k0_part8 i arg2 harg2 arg3 harg3 arg4 harg4 arg5 harg5 arg6 harg6 arg7 harg7 arg8 harg8 arg9 harg9 arg10 harg10 arg11 harg11 arg12 harg12 arg13 harg13 arg14 harg14 v24 v28 v50 v114 v191 v210 v265 v274 v293
  let ⟨v344, v364, v369⟩ : Σ' (v344 : FVec F S256x256 .bf16) (v364 : FVec F S256x256 .bf16), FVec F S256x1 .f32 ← k0_part9 i arg2 harg2 arg3 harg3 arg4 harg4 arg5 harg5 arg6 harg6 arg7 harg7 arg8 harg8 arg9 harg9 arg10 harg10 arg11 harg11 arg12 harg12 arg13 harg13 arg14 harg14 v43 v47 v50 v129 v144 v229 v248 v283 v292 v332
  let v397 : FVec F S256x128 .f32 ← k0_part10 i arg2 harg2 arg3 harg3 arg4 harg4 arg5 harg5 arg6 harg6 arg7 harg7 arg8 harg8 arg9 harg9 arg10 harg10 arg11 harg11 arg12 harg12 arg13 harg13 arg14 harg14 v67 v70 v304 v324 v344 v364 v369
  let v434 : FVec F S256x128 .f32 ← k0_part11 i arg2 harg2 arg3 harg3 arg4 harg4 arg5 harg5 arg6 harg6 arg7 harg7 arg8 harg8 arg9 harg9 arg10 harg10 arg11 harg11 arg12 harg12 arg13 harg13 arg14 harg14 v17 v18 v19 v20 v36 v37 v38 v39 v64 v189 v208 v227 v246 v304 v324 v344 v364 v397
  let ⟨v463, v465⟩ : Σ' (v463 : FVec F S256x128 .f32), FVec F S256x128 .f32 ← k0_part12 i arg2 harg2 arg3 harg3 arg4 harg4 arg5 harg5 arg6 harg6 arg7 harg7 arg8 harg8 arg9 harg9 arg10 harg10 arg11 harg11 arg12 harg12 arg13 harg13 arg14 harg14 v4 v6 v9 v17 v18 v19 v20 v24 v28 v36 v37 v38 v39 v43 v47 v434
  let v470 : Vec F S256x128 .bf16 ← Prog.lift (.load arg9 (Rect.unit (s := S256x256) ![0, 128] S256x128.size inb_S256x256_S256x128_0_128).toLoadRect (View.loadsAt_vmem h_S256x128))
  Prog.lift (.store arg9 (Rect.unit (s := S256x256) ![0, 128] S256x128.size inb_S256x256_S256x128_0_128) (k0_pay1 v9 v463 v465) Finset.univ (View.stores_vmem h_S256x128 (harg9.storeExact_slice rfl _ packedbf16_S256x256_S256x128_0_128) (fun _ => rfl)) (.inl rfl))
  pure ⟨⟩

/-- The body is its first two parts and the rest. -/
theorem body_eq (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S256x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4x256x1 .f32) (harg12 : arg12.IsWhole) (arg13 : Memref sig .tc .vmem S4x256x1 .f32) (harg13 : arg13.IsWhole) (arg14 : Memref sig .tc .vmem S4x256x128 .f32) (harg14 : arg14.IsWhole) :
    cc0_sba_bwd (F := F) i arg2 harg2 arg3 harg3 arg4 harg4 arg5 harg5 arg6 harg6 arg7 harg7 arg8 harg8 arg9 harg9 arg10 harg10 arg11 harg11 arg12 harg12 arg13 harg13 arg14 harg14 = (do
      let ⟨arg1, v4, v6, v9, v17, v18, v19, v20, v24, v28, v30, v32, v34⟩ ← k0_part1 i arg2 harg2 arg3 harg3 arg4 harg4 arg5 harg5 arg6 harg6 arg7 harg7 arg8 harg8 arg9 harg9 arg10 harg10 arg11 harg11 arg12 harg12 arg13 harg13 arg14 harg14
      let ⟨v36, v37, v38, v39, v43, v47, v50, v64, v67, v70, v72⟩ ← k0_part2 i arg2 harg2 arg3 harg3 arg4 harg4 arg5 harg5 arg6 harg6 arg7 harg7 arg8 harg8 arg9 harg9 arg10 harg10 arg11 harg11 arg12 harg12 arg13 harg13 arg14 harg14 arg1 v9 v30 v32 v34
      rest i arg2 harg2 arg3 harg3 arg4 harg4 arg5 harg5 arg6 harg6 arg7 harg7 arg8 harg8 arg9 harg9 arg10 harg10 arg11 harg11 arg12 harg12 arg13 harg13 arg14 harg14 v4 v6 v9 v17 v18 v19 v20 v24 v28 v36 v37 v38 v39 v43 v47 v50 v64 v67 v70 v72) := by
  rw [cc0_sba_bwd_eq_skeleton]; rfl

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S256x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4x256x1 .f32) (harg12 : arg12.IsWhole) (arg13 : Memref sig .tc .vmem S4x256x1 .f32) (harg13 : arg13.IsWhole) (arg14 : Memref sig .tc .vmem S4x256x128 .f32) (harg14 : arg14.IsWhole)
  (x2 : Vec F S256x256 .bf16) (x3 : Vec F S4096x256 .bf16) (x4 : Vec F S4096x256 .bf16) (x5 : Vec F S256x256 .f32) (x6 : Vec F S256x256 .bf16) (x7 : Vec F S512x256 .bf16) (x8 : Vec F S512x256 .bf16)
variable (v4 : FVec F S512x256 .bf16) (v6 : FVec F S512x256 .bf16) (v9 : IVec S256x128 1) (v17 : FVec F S256x128 .bf16) (v18 : FVec F S256x128 .bf16) (v19 : FVec F S256x128 .bf16) (v20 : FVec F S256x128 .bf16) (v24 : FVec F S256x1 .f32) (v28 : FVec F S256x1 .f32) (v36 : FVec F S256x128 .bf16) (v37 : FVec F S256x128 .bf16) (v38 : FVec F S256x128 .bf16) (v39 : FVec F S256x128 .bf16) (v43 : FVec F S256x1 .f32) (v47 : FVec F S256x1 .f32) (v50 : IVec S256x256 1) (v64 : BitVec 32) (v67 : FVec F S256x128 .bf16) (v70 : FVec F S256x128 .bf16) (v72 : Vec F S256x128 .bf16)

theorem to_unread {s : Shape} {e : EltTy} {m : Memref sig .tc .vmem s e} (h : m.IsWhole) (f : Buf (Elt F) (m.view.loc (c : Thread nD τ))) :
    (m.view.loc (c : Thread nD τ) ↦{fullShare} f : sProp 𝕄) ⊢ (m.view.loc (c : Thread nD τ) ↦{fullShare} (h.unread (m.view.read (Elt F) f))) := by
  rw [h.unread_read]

set_option maxHeartbeats 2000000 in
/-- The rest of the body, run: the state the sweep starts from, the least mass passed then, and the stores of the queries' gradient. -/
@[irreducible] def restRun (dk dv : Vec F S4096x256 .f32) :
    Σ' (s0 : St F) (live : F .f32), { L9 : List (View.Piece (Elt F) S256x256 .bf16) //
    ∀ (f9 : Buf (Elt F) (arg9.view.loc (c : Thread nD τ))) (E : Set ℕ) (K : PUnit → sProp 𝕄),
      iprop((arg3.view.loc (c : Thread nD τ) ↦{fullShare} (harg3.unread x3)) ∗ (arg4.view.loc (c : Thread nD τ) ↦{fullShare} (harg4.unread x4)) ∗ (arg9.view.loc (c : Thread nD τ) ↦{fullShare} (f9)) ∗ (arg10.view.loc (c : Thread nD τ) ↦{fullShare} (harg10.unread dk)) ∗ (arg11.view.loc (c : Thread nD τ) ↦{fullShare} (harg11.unread dv)) ∗ (arg12.view.loc (c : Thread nD τ) ↦{fullShare} (harg12.unread k0_pay29)) ∗ (arg13.view.loc (c : Thread nD τ) ↦{fullShare} (harg13.unread k0_pay30)) ∗ (arg14.view.loc (c : Thread nD τ) ↦{fullShare} (harg14.unread k0_pay31))
          ∗ (iprop((arg3.view.loc (c : Thread nD τ) ↦{fullShare} (harg3.unread x3)) ∗ (arg4.view.loc (c : Thread nD τ) ↦{fullShare} (harg4.unread x4)) ∗ (arg9.view.loc (c : Thread nD τ) ↦{fullShare} (arg9.view.writes (Elt F) f9 L9))
              ∗ (arg10.view.loc (c : Thread nD τ) ↦{fullShare} (harg10.unread (sweep c i arg3 harg3 arg4 harg4 arg12 harg12 arg13 harg13 arg14 harg14 arg10 harg10 arg11 harg11 v17 v18 v36 v37 v19 v20 v38 v39 v4 v6 v24 v28 v43 v47 x3 x4 (i 1).val 0 (Nat.zero_add _) live s0).dk)) ∗ (arg11.view.loc (c : Thread nD τ) ↦{fullShare} (harg11.unread (sweep c i arg3 harg3 arg4 harg4 arg12 harg12 arg13 harg13 arg14 harg14 arg10 harg10 arg11 harg11 v17 v18 v36 v37 v19 v20 v38 v39 v4 v6 v24 v28 v43 v47 x3 x4 (i 1).val 0 (Nat.zero_add _) live s0).dv))
              ∗ (∃ f, (arg12.view.loc (c : Thread nD τ) ↦{fullShare} (f))) ∗ (∃ f, (arg13.view.loc (c : Thread nD τ) ↦{fullShare} (f))) ∗ (∃ f, (arg14.view.loc (c : Thread nD τ) ↦{fullShare} (f)))) -∗ K ⟨⟩))
        ⊢ wp frame (wpE (defs₀ (F := F)) Variants.nat (c : Thread nD τ) none) E (rest i arg2 harg2 arg3 harg3 arg4 harg4 arg5 harg5 arg6 harg6 arg7 harg7 arg8 harg8 arg9 harg9 arg10 harg10 arg11 harg11 arg12 harg12 arg13 harg13 arg14 harg14 v4 v6 v9 v17 v18 v19 v20 v24 v28 v36 v37 v38 v39 v43 v47 v50 v64 v67 v70 v72) K } := by
  refine ⟨?_, ?_, ?_, fun f9 E K => ?run⟩
  case run =>
    unfold rest
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    iintro ⟨H3, H4, H9, H10, H11, H12, H13, H14, Hk⟩
    sl_exec
    iapply (wp_call_spec Variants.nat (c : Thread nD τ) none E (spec c arg3 harg3 arg4 harg4 arg12 harg12 arg13 harg13 arg14 harg14 arg10 harg10 arg11 harg11 x3 x4 ⟨arg12.view.read (Elt F) _, arg13.view.read (Elt F) _, arg14.view.read (Elt F) _, arg10.view.read (Elt F) _, arg11.view.read (Elt F) _⟩ _) (i 1).val
        (fun u hu => nomatch hu)
        (spec_le c i arg3 harg3 arg4 harg4 arg12 harg12 arg13 harg13 arg14 harg14 arg10 harg10 arg11 harg11 v17 v18 v36 v37 v19 v20 v38 v39 v4 v6 v24 v28 v43 v47 x3 x4 E (i 1).val 0 (Nat.zero_add _) _ rfl _ _))
    rw [spec_apply]
    unfold held
    isplitl [H3 H4 H12 H13 H14 H10 H11]
    · isplitl [H3]; · iexact H3
      isplitl [H4]; · iexact H4
      isplitl [H12]; · iapply (to_unread c harg12 _); iexact H12
      isplitl [H13]; · iapply (to_unread c harg13 _); iexact H13
      isplitl [H14]; · iapply (to_unread c harg14 _); iexact H14
      isplitl [H10]; · iapply (to_unread c harg10 _); iexact H10
      iapply (to_unread c harg11 _); iexact H11
    iintro %r ⟨H3, H4, H12, H13, H14, H10, H11⟩
    sl_exec
    sl_step
    iapply Hk
    isplitl [H3]; · iexact H3
    isplitl [H4]; · iexact H4
    isplitl [H9]; · iexact H9
    isplitl [H10]; · iexact H10
    isplitl [H11]; · iexact H11
    isplitl [H12]; · iexists _; iexact H12
    isplitl [H13]; · iexists _; iexact H13
    iexists _; iexact H14

end Cert.KernelIdeal.Sba

end
-- ==== Proof.KI.Run.lean ====
/- One whole grid point, run: what it leaves in the three gradients' blocks. -/
module

public import proofs.«01_k».proof.Proof.KI.Rest
public import Idealize.ShloMosaic.Lib.Ring

@[expose] public section

set_option maxRecDepth 16384

noncomputable section

namespace Cert.KernelIdeal.Sba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S256x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4x256x1 .f32) (harg12 : arg12.IsWhole) (arg13 : Memref sig .tc .vmem S4x256x1 .f32) (harg13 : arg13.IsWhole) (arg14 : Memref sig .tc .vmem S4x256x128 .f32) (harg14 : arg14.IsWhole)
  (x2 : Vec F S256x256 .bf16) (x3 : Vec F S4096x256 .bf16) (x4 : Vec F S4096x256 .bf16) (x5 : Vec F S256x256 .f32) (x6 : Vec F S256x256 .bf16) (x7 : Vec F S512x256 .bf16) (x8 : Vec F S512x256 .bf16)

theorem own_open {s : Shape} {e : EltTy} {m : Memref sig .tc .vmem s e} (h : m.IsWhole) (x : s.Idx → Elt F e) :
    (owns (c : Thread nD τ) m fullShare x : sProp 𝕄) ⊢ (m.view.loc (c : Thread nD τ) ↦{fullShare} (h.unread x)) := by
  unfold owns
  rw [h.set_eq_univ]
  iintro ⟨%f, %hf, H⟩
  obtain rfl := h.eq_unread hf
  iexact H

theorem own_close {s : Shape} {e : EltTy} {m : Memref sig .tc .vmem s e} (h : m.IsWhole) (x : s.Idx → Elt F e)
    (f : Buf (Elt F) (m.view.loc (c : Thread nD τ))) (hf : m.view.read (Elt F) f = x) :
    (m.view.loc (c : Thread nD τ) ↦{fullShare} f : sProp 𝕄) ⊢ (owns (c : Thread nD τ) m fullShare x) := by
  unfold owns
  rw [h.set_eq_univ]
  iintro H
  iexists f
  isplitr
  · ipureintro; exact hf
  iexact H

/-- The values the body has when its first two parts are done. -/
def headVals : Σ' (v4 : FVec F S512x256 .bf16) (v6 : FVec F S512x256 .bf16) (v9 : IVec S256x128 1) (v17 : FVec F S256x128 .bf16) (v18 : FVec F S256x128 .bf16) (v19 : FVec F S256x128 .bf16) (v20 : FVec F S256x128 .bf16) (v24 : FVec F S256x1 .f32) (v28 : FVec F S256x1 .f32) (v36 : FVec F S256x128 .bf16) (v37 : FVec F S256x128 .bf16) (v38 : FVec F S256x128 .bf16) (v39 : FVec F S256x128 .bf16) (v43 : FVec F S256x1 .f32) (v47 : FVec F S256x1 .f32) (v50 : IVec S256x256 1) (v64 : BitVec 32) (v67 : FVec F S256x128 .bf16) (v70 : FVec F S256x128 .bf16), Vec F S256x128 .bf16 :=
  let p1 := (part1 c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8).1; let p2 := (part2 c i arg2 harg2 arg3 harg3 arg4 harg4 arg5 harg5 arg6 harg6 arg7 harg7 arg8 harg8 arg9 harg9 arg10 harg10 arg11 harg11 arg12 harg12 arg13 harg13 arg14 harg14 x3 x4 (p1.1) (p1.2.2.2.1) (p1.2.2.2.2.2.2.2.2.2.2.1) (p1.2.2.2.2.2.2.2.2.2.2.2.1) (p1.2.2.2.2.2.2.2.2.2.2.2.2)).1;
  ⟨p1.2.1, p1.2.2.1, p1.2.2.2.1, p1.2.2.2.2.1, p1.2.2.2.2.2.1, p1.2.2.2.2.2.2.1, p1.2.2.2.2.2.2.2.1, p1.2.2.2.2.2.2.2.2.1, p1.2.2.2.2.2.2.2.2.2.1, p2.1, p2.2.1, p2.2.2.1, p2.2.2.2.1, p2.2.2.2.2.1, p2.2.2.2.2.2.1, p2.2.2.2.2.2.2.1, p2.2.2.2.2.2.2.2.1, p2.2.2.2.2.2.2.2.2.1, p2.2.2.2.2.2.2.2.2.2.1, p2.2.2.2.2.2.2.2.2.2.2⟩

/-- The rest of the body at those values, from the gradients' blocks `dk`, `dv`. -/
abbrev theRun (dk dv : Vec F S4096x256 .f32) :=
  let h := headVals c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8
  restRun c i arg2 harg2 arg3 harg3 arg4 harg4 arg5 harg5 arg6 harg6 arg7 harg7 arg8 harg8 arg9 harg9 arg10 harg10 arg11 harg11 arg12 harg12 arg13 harg13 arg14 harg14 x3 x4 (h.1) (h.2.1) (h.2.2.1) (h.2.2.2.1) (h.2.2.2.2.1) (h.2.2.2.2.2.1) (h.2.2.2.2.2.2.1) (h.2.2.2.2.2.2.2.1) (h.2.2.2.2.2.2.2.2.1) (h.2.2.2.2.2.2.2.2.2.1) (h.2.2.2.2.2.2.2.2.2.2.1) (h.2.2.2.2.2.2.2.2.2.2.2.1) (h.2.2.2.2.2.2.2.2.2.2.2.2.1) (h.2.2.2.2.2.2.2.2.2.2.2.2.2.1) (h.2.2.2.2.2.2.2.2.2.2.2.2.2.2.1) (h.2.2.2.2.2.2.2.2.2.2.2.2.2.2.2.1) (h.2.2.2.2.2.2.2.2.2.2.2.2.2.2.2.2.1) (h.2.2.2.2.2.2.2.2.2.2.2.2.2.2.2.2.2.1) (h.2.2.2.2.2.2.2.2.2.2.2.2.2.2.2.2.2.2.1) (h.2.2.2.2.2.2.2.2.2.2.2.2.2.2.2.2.2.2.2) dk dv

/-- The state the sweep ends in, the gradients' blocks having held `dk`, `dv` before the point. -/
def swept (dk dv : Vec F S4096x256 .f32) : St F :=
  let h := headVals c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8
  let r := theRun c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 (zeroed i k0_pay3 dk) (zeroed i k0_pay4 dv)
  sweep c i arg3 harg3 arg4 harg4 arg12 harg12 arg13 harg13 arg14 harg14 arg10 harg10 arg11 harg11 (h.2.2.2.1) (h.2.2.2.2.1) (h.2.2.2.2.2.2.2.2.2.1) (h.2.2.2.2.2.2.2.2.2.2.1) (h.2.2.2.2.2.1) (h.2.2.2.2.2.2.1) (h.2.2.2.2.2.2.2.2.2.2.2.1) (h.2.2.2.2.2.2.2.2.2.2.2.2.1) (h.1) (h.2.1) (h.2.2.2.2.2.2.2.1) (h.2.2.2.2.2.2.2.2.1) (h.2.2.2.2.2.2.2.2.2.2.2.2.2.1) (h.2.2.2.2.2.2.2.2.2.2.2.2.2.2.1) x3 x4 (i 1).val 0 (Nat.zero_add _) r.2.1 r.1

/-- The queries' gradient the point stores: its two halves of the columns, over a buffer that they cover. -/
def stored (dk dv : Vec F S4096x256 .f32) : Vec F S256x256 .bf16 :=
  arg9.view.read (Elt F) (arg9.view.writes (Elt F) (harg9.unread x2) (theRun c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 (zeroed i k0_pay3 dk) (zeroed i k0_pay4 dv)).2.2.1)

/-- The two stores of the queries' gradient cover its block. -/
theorem covers (dk dv : Vec F S4096x256 .f32) : ∀ y, ∃ p ∈ (theRun c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 dk dv).2.2.1, y ∈ p.1.set := by
  unfold theRun
  dsimp only
  unfold restRun
  dsimp only
  intro y
  exact View.cover_of_tiledL (s := S256x256) _ ![256, 128] (by sl_kernel_rfl) y

set_option maxHeartbeats 2000000 in
/-- A whole point, on whole buffers at the contents named. -/
theorem body_run (dk dv : Vec F S4096x256 .f32) (E : Set ℕ) (K : PUnit → sProp 𝕄) :
    iprop(owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ (∃ d, owns (c : Thread nD τ) arg9 fullShare d) ∗ owns (c : Thread nD τ) arg10 fullShare (dk) ∗ owns (c : Thread nD τ) arg11 fullShare (dv)
        ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (stored c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 dk dv) ∗ owns (c : Thread nD τ) arg10 fullShare ((swept c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 dk dv).dk) ∗ owns (c : Thread nD τ) arg11 fullShare ((swept c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 dk dv).dv)
            ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.nat (c : Thread nD τ) none) E (cc0_sba_bwd i arg2 harg2 arg3 harg3 arg4 harg4 arg5 harg5 arg6 harg6 arg7 harg7 arg8 harg8 arg9 harg9 arg10 harg10 arg11 harg11 arg12 harg12 arg13 harg13 arg14 harg14) K := by
  rw [body_eq]
  have h1 := fun K' => (part1 c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8).2 dk dv Variants.nat none E
    (fun r => Bind.bind (k0_part2 i arg2 harg2 arg3 harg3 arg4 harg4 arg5 harg5 arg6 harg6 arg7 harg7 arg8 harg8 arg9 harg9 arg10 harg10 arg11 harg11 arg12 harg12 arg13 harg13 arg14 harg14 (r.1) (r.2.2.2.1) (r.2.2.2.2.2.2.2.2.2.2.1) (r.2.2.2.2.2.2.2.2.2.2.2.1) (r.2.2.2.2.2.2.2.2.2.2.2.2)) fun r2 => rest i arg2 harg2 arg3 harg3 arg4 harg4 arg5 harg5 arg6 harg6 arg7 harg7 arg8 harg8 arg9 harg9 arg10 harg10 arg11 harg11 arg12 harg12 arg13 harg13 arg14 harg14 (r.2.1) (r.2.2.1) (r.2.2.2.1) (r.2.2.2.2.1) (r.2.2.2.2.2.1) (r.2.2.2.2.2.2.1) (r.2.2.2.2.2.2.2.1) (r.2.2.2.2.2.2.2.2.1) (r.2.2.2.2.2.2.2.2.2.1) (r2.1) (r2.2.1) (r2.2.2.1) (r2.2.2.2.1) (r2.2.2.2.2.1) (r2.2.2.2.2.2.1) (r2.2.2.2.2.2.2.1) (r2.2.2.2.2.2.2.2.1) (r2.2.2.2.2.2.2.2.2.1) (r2.2.2.2.2.2.2.2.2.2.1) (r2.2.2.2.2.2.2.2.2.2.2)) K'
  have h2 := fun f12 f13 f14 K' => (part2 c i arg2 harg2 arg3 harg3 arg4 harg4 arg5 harg5 arg6 harg6 arg7 harg7 arg8 harg8 arg9 harg9 arg10 harg10 arg11 harg11 arg12 harg12 arg13 harg13 arg14 harg14 x3 x4 ((part1 c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8).1.1) ((part1 c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8).1.2.2.2.1) ((part1 c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8).1.2.2.2.2.2.2.2.2.2.2.1) ((part1 c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8).1.2.2.2.2.2.2.2.2.2.2.2.1) ((part1 c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8).1.2.2.2.2.2.2.2.2.2.2.2.2)).2 f12 f13 f14 Variants.nat none E
    (fun r2 => rest i arg2 harg2 arg3 harg3 arg4 harg4 arg5 harg5 arg6 harg6 arg7 harg7 arg8 harg8 arg9 harg9 arg10 harg10 arg11 harg11 arg12 harg12 arg13 harg13 arg14 harg14 ((part1 c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8).1.2.1) ((part1 c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8).1.2.2.1) ((part1 c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8).1.2.2.2.1) ((part1 c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8).1.2.2.2.2.1) ((part1 c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8).1.2.2.2.2.2.1) ((part1 c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8).1.2.2.2.2.2.2.1) ((part1 c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8).1.2.2.2.2.2.2.2.1) ((part1 c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8).1.2.2.2.2.2.2.2.2.1) ((part1 c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8).1.2.2.2.2.2.2.2.2.2.1) (r2.1) (r2.2.1) (r2.2.2.1) (r2.2.2.2.1) (r2.2.2.2.2.1) (r2.2.2.2.2.2.1) (r2.2.2.2.2.2.2.1) (r2.2.2.2.2.2.2.2.1) (r2.2.2.2.2.2.2.2.2.1) (r2.2.2.2.2.2.2.2.2.2.1) (r2.2.2.2.2.2.2.2.2.2.2)) K'
  have h3 := (theRun c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 (zeroed i k0_pay3 dk) (zeroed i k0_pay4 dv)).2.2.2
  refine BIBase.Entails.trans ?_ (h1 K)
  clear h1
  iintro ⟨H2, H3, H4, H5, H6, H7, H8, ⟨%d9, H9⟩, H10, H11, ⟨%d12, H12⟩, ⟨%d13, H13⟩, ⟨%d14, H14⟩, Hk⟩
  isplitl [H2]; · iapply (own_open c harg2 _); iexact H2
  isplitl [H3]; · iapply (own_open c harg3 _); iexact H3
  isplitl [H4]; · iapply (own_open c harg4 _); iexact H4
  isplitl [H5]; · iapply (own_open c harg5 _); iexact H5
  isplitl [H6]; · iapply (own_open c harg6 _); iexact H6
  isplitl [H7]; · iapply (own_open c harg7 _); iexact H7
  isplitl [H8]; · iapply (own_open c harg8 _); iexact H8
  isplitl [H10]; · iapply (own_open c harg10 _); iexact H10
  isplitl [H11]; · iapply (own_open c harg11 _); iexact H11
  iintro ⟨H2, H3, H4, H5, H6, H7, H8, H10, H11⟩
  iapply (h2 _ _ _ K)
  isplitl [H3]; · iexact H3
  isplitl [H4]; · iexact H4
  isplitl [H12]; · iapply (own_open c harg12 _); iexact H12
  isplitl [H13]; · iapply (own_open c harg13 _); iexact H13
  isplitl [H14]; · iapply (own_open c harg14 _); iexact H14
  iintro ⟨H3, H4, H12, H13, H14⟩
  iapply (h3 _ E K)
  isplitl [H3]; · iexact H3
  isplitl [H4]; · iexact H4
  isplitl [H9]; · iapply (own_open c harg9 _); iexact H9
  isplitl [H10]; · iexact H10
  isplitl [H11]; · iexact H11
  isplitl [H12]; · iexact H12
  isplitl [H13]; · iexact H13
  isplitl [H14]; · iexact H14
  iintro ⟨H3, H4, H9, H10, H11, ⟨%f12, H12⟩, ⟨%f13, H13⟩, ⟨%f14, H14⟩⟩
  iapply Hk
  isplitl [H2]; · iapply (own_close c harg2 _ _ (harg2.read_unread _)); iexact H2
  isplitl [H3]; · iapply (own_close c harg3 _ _ (harg3.read_unread _)); iexact H3
  isplitl [H4]; · iapply (own_close c harg4 _ _ (harg4.read_unread _)); iexact H4
  isplitl [H5]; · iapply (own_close c harg5 _ _ (harg5.read_unread _)); iexact H5
  isplitl [H6]; · iapply (own_close c harg6 _ _ (harg6.read_unread _)); iexact H6
  isplitl [H7]; · iapply (own_close c harg7 _ _ (harg7.read_unread _)); iexact H7
  isplitl [H8]; · iapply (own_close c harg8 _ _ (harg8.read_unread _)); iexact H8
  isplitl [H9]
  · iapply (own_close c harg9 _ _ (View.read_writes_of_cover _ _ _ _ _ (covers c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 (zeroed i k0_pay3 dk) (zeroed i k0_pay4 dv)))); iexact H9
  isplitl [H10]; · iapply (own_close c harg10 _ _ (harg10.read_unread _)); iexact H10
  isplitl [H11]; · iapply (own_close c harg11 _ _ (harg11.read_unread _)); iexact H11
  isplitl [H12]; · iexists _; iapply (own_close c harg12 _ _ rfl); iexact H12
  isplitl [H13]; · iexists _; iapply (own_close c harg13 _ _ rfl); iexact H13
  iexists _; iapply (own_close c harg14 _ _ rfl); iexact H14

end Cert.KernelIdeal.Sba

end
-- ==== Proof.KI.Launch.lean ====
/- The launch: what the gradients' blocks hold point by point, the body at every point, and the whole run. -/
module

public import proofs.«01_k».proof.Proof.KI.Run

@[expose] public section

set_option maxRecDepth 16384

noncomputable section

namespace Cert.KernelIdeal.Sba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers when the region is entered: after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, of the array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- A point is the first of its head group when its number is a multiple of 16. -/
theorem first_iff : ∀ t : Fin (cfg0 (F := F)).N, first (grid0.coords t) ↔ t.val % 16 = 0 :=
  (fun t => by
    have ht : t.val < 64 := Nat.lt_of_lt_of_eq t.isLt N_0
    have e1 : (grid0.coords t 1).val = t.val / 1 % 16 := Pipeline.Grid.coords_val t 1 (by decide) rfl
    simp only [first, e1]
    word_cmp
   : ∀ t : Fin grid0.N, first (grid0.coords t) ↔ t.val % 16 = 0)

/-! The staging buffers at a point. -/
abbrev ms0 (t : Fin (cfg0 (F := F)).N) : Memref sig .tc .vmem S256x256 .bf16 := win0_0.stage ((cfg0 (F := F)).slots t 0)
abbrev hs0 (t : Fin (cfg0 (F := F)).N) : (ms0 t).IsWhole := hstage0_0 (((cfg0 (F := F)).slots t 0).cast nbuf0_0)
abbrev ms1 (t : Fin (cfg0 (F := F)).N) : Memref sig .tc .vmem S4096x256 .bf16 := win0_1.stage ((cfg0 (F := F)).slots t 1)
abbrev hs1 (t : Fin (cfg0 (F := F)).N) : (ms1 t).IsWhole := hstage0_1 (((cfg0 (F := F)).slots t 1).cast nbuf0_1)
abbrev ms2 (t : Fin (cfg0 (F := F)).N) : Memref sig .tc .vmem S4096x256 .bf16 := win0_2.stage ((cfg0 (F := F)).slots t 2)
abbrev hs2 (t : Fin (cfg0 (F := F)).N) : (ms2 t).IsWhole := hstage0_2 (((cfg0 (F := F)).slots t 2).cast nbuf0_2)
abbrev ms3 (t : Fin (cfg0 (F := F)).N) : Memref sig .tc .vmem S256x256 .f32 := win0_3.stage ((cfg0 (F := F)).slots t 3)
abbrev hs3 (t : Fin (cfg0 (F := F)).N) : (ms3 t).IsWhole := hstage0_3 (((cfg0 (F := F)).slots t 3).cast nbuf0_3)
abbrev ms4 (t : Fin (cfg0 (F := F)).N) : Memref sig .tc .vmem S256x256 .bf16 := win0_4.stage ((cfg0 (F := F)).slots t 4)
abbrev hs4 (t : Fin (cfg0 (F := F)).N) : (ms4 t).IsWhole := hstage0_4 (((cfg0 (F := F)).slots t 4).cast nbuf0_4)
abbrev ms5 (t : Fin (cfg0 (F := F)).N) : Memref sig .tc .vmem S512x256 .bf16 := win0_5.stage ((cfg0 (F := F)).slots t 5)
abbrev hs5 (t : Fin (cfg0 (F := F)).N) : (ms5 t).IsWhole := hstage0_5 (((cfg0 (F := F)).slots t 5).cast nbuf0_5)
abbrev ms6 (t : Fin (cfg0 (F := F)).N) : Memref sig .tc .vmem S512x256 .bf16 := win0_6.stage ((cfg0 (F := F)).slots t 6)
abbrev hs6 (t : Fin (cfg0 (F := F)).N) : (ms6 t).IsWhole := hstage0_6 (((cfg0 (F := F)).slots t 6).cast nbuf0_6)
abbrev ms7 (t : Fin (cfg0 (F := F)).N) : Memref sig .tc .vmem S256x256 .bf16 := win0_7.stage ((cfg0 (F := F)).slots t 7)
abbrev hs7 (t : Fin (cfg0 (F := F)).N) : (ms7 t).IsWhole := hstage0_7 (((cfg0 (F := F)).slots t 7).cast nbuf0_7)
abbrev ms8 (t : Fin (cfg0 (F := F)).N) : Memref sig .tc .vmem S4096x256 .f32 := win0_8.stage ((cfg0 (F := F)).slots t 8)
abbrev hs8 (t : Fin (cfg0 (F := F)).N) : (ms8 t).IsWhole := hstage0_8 (((cfg0 (F := F)).slots t 8).cast nbuf0_8)
abbrev ms9 (t : Fin (cfg0 (F := F)).N) : Memref sig .tc .vmem S4096x256 .f32 := win0_9.stage ((cfg0 (F := F)).slots t 9)
abbrev hs9 (t : Fin (cfg0 (F := F)).N) : (ms9 t).IsWhole := hstage0_9 (((cfg0 (F := F)).slots t 9).cast nbuf0_9)
abbrev sc0 : Memref sig .tc .vmem S4x256x1 .f32 := Memref.whole cc0_scratch0
abbrev sc1 : Memref sig .tc .vmem S4x256x1 .f32 := Memref.whole cc0_scratch1
abbrev sc2 : Memref sig .tc .vmem S4x256x128 .f32 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The state a point's sweep ends in, the gradients' blocks having held `d` before it. -/
def ptSwept (c : Dev nD) (t : Fin (cfg0 (F := F)).N) (d : Vec F S4096x256 .f32 × Vec F S4096x256 .f32) : St F :=
  swept c (grid0.coords t) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (ms9 (F := F) t) (hs9 (F := F) t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) d.1 d.2

/-- The queries' gradient a point stores. -/
def ptStored (c : Dev nD) (t : Fin (cfg0 (F := F)).N) (d : Vec F S4096x256 .f32 × Vec F S4096x256 .f32) : Vec F S256x256 .bf16 :=
  stored c (grid0.coords t) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (ms9 (F := F) t) (hs9 (F := F) t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) d.1 d.2

/-- What the keys' and values' gradients' blocks hold before point `n`: at a head group's first point anything. -/
def grads (c : Dev nD) : (n : ℕ) → Vec F S4096x256 .f32 × Vec F S4096x256 .f32
  | 0 => (k0_pay3, k0_pay4)
  | n + 1 => if h : n < (cfg0 (F := F)).N then ((ptSwept m c ⟨n, h⟩ (grads c n)).dk, (ptSwept m c ⟨n, h⟩ (grads c n)).dv) else (k0_pay3, k0_pay4)

theorem grads_succ (c : Dev nD) (n : ℕ) (h : n < (cfg0 (F := F)).N) :
    grads m c (n + 1) = ((ptSwept m c ⟨n, h⟩ (grads m c n)).dk, (ptSwept m c ⟨n, h⟩ (grads m c n)).dv) := by
  rw [grads, dif_pos h]

theorem zeroed_first {i : grid0.Coords} (h : first i) (z d d' : Vec F S4096x256 .f32) : zeroed i z d = zeroed i z d' := by
  unfold zeroed; rw [if_pos h, if_pos h]

theorem ptSwept_first (c : Dev nD) (t : Fin (cfg0 (F := F)).N) (h : first (grid0.coords t)) (d d') : ptSwept m c t d = ptSwept m c t d' := by
  unfold ptSwept swept theRun
  rw [zeroed_first h k0_pay3 d.1 d'.1, zeroed_first h k0_pay4 d.2 d'.2]

theorem ptStored_first (c : Dev nD) (t : Fin (cfg0 (F := F)).N) (h : first (grid0.coords t)) (d d') : ptStored m c t d = ptStored m c t d' := by
  unfold ptStored stored theRun
  rw [zeroed_first h k0_pay3 d.1 d'.1, zeroed_first h k0_pay4 d.2 d'.2]

/-- The proof data: inputs at their blocks, the gradients' blocks at what the points so far leave. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => ptStored m c t (grads m c t.val)
    | ⟨8, _⟩ => (ptSwept m c t (grads m c t.val)).dk
    | ⟨9, _⟩ => (ptSwept m c t (grads m c t.val)).dv
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0 (c : Dev nD) (t : Fin (cfg0 (F := F)).N) : (dats m 0 c).after 0 t = iblk m c 0 t := rfl
theorem after1 (c : Dev nD) (t : Fin (cfg0 (F := F)).N) : (dats m 0 c).after 1 t = iblk m c 1 t := rfl
theorem after2 (c : Dev nD) (t : Fin (cfg0 (F := F)).N) : (dats m 0 c).after 2 t = iblk m c 2 t := rfl
theorem after3 (c : Dev nD) (t : Fin (cfg0 (F := F)).N) : (dats m 0 c).after 3 t = iblk m c 3 t := rfl
theorem after4 (c : Dev nD) (t : Fin (cfg0 (F := F)).N) : (dats m 0 c).after 4 t = iblk m c 4 t := rfl
theorem after5 (c : Dev nD) (t : Fin (cfg0 (F := F)).N) : (dats m 0 c).after 5 t = iblk m c 5 t := rfl
theorem after6 (c : Dev nD) (t : Fin (cfg0 (F := F)).N) : (dats m 0 c).after 6 t = iblk m c 6 t := rfl
theorem after7 (c : Dev nD) (t : Fin (cfg0 (F := F)).N) : (dats m 0 c).after 7 t = ptStored m c t (grads m c t.val) := rfl
theorem after8 (c : Dev nD) (t : Fin (cfg0 (F := F)).N) : (dats m 0 c).after 8 t = (ptSwept m c t (grads m c t.val)).dk := rfl
theorem after9 (c : Dev nD) (t : Fin (cfg0 (F := F)).N) : (dats m 0 c).after 9 t = (ptSwept m c t (grads m c t.val)).dv := rfl

theorem before0 (c : Dev nD) (t : Fin (cfg0 (F := F)).N) (d) : (dats m 0 c).before 0 t d = iblk m c 0 t := before0_of m (dats m 0 c) (A_eq m c 0) (after0 m c) t d
theorem before1 (c : Dev nD) (t : Fin (cfg0 (F := F)).N) (d) : (dats m 0 c).before 1 t d = iblk m c 1 t := before1_of m (dats m 0 c) (A_eq m c 1) (after1 m c) t d
theorem before2 (c : Dev nD) (t : Fin (cfg0 (F := F)).N) (d) : (dats m 0 c).before 2 t d = iblk m c 2 t := before2_of m (dats m 0 c) (A_eq m c 2) (after2 m c) t d
theorem before3 (c : Dev nD) (t : Fin (cfg0 (F := F)).N) (d) : (dats m 0 c).before 3 t d = iblk m c 3 t := before3_of m (dats m 0 c) (A_eq m c 3) (after3 m c) t d
theorem before4 (c : Dev nD) (t : Fin (cfg0 (F := F)).N) (d) : (dats m 0 c).before 4 t d = iblk m c 4 t := before4_of m (dats m 0 c) (A_eq m c 4) (after4 m c) t d
theorem before5 (c : Dev nD) (t : Fin (cfg0 (F := F)).N) (d) : (dats m 0 c).before 5 t d = iblk m c 5 t := before5_of m (dats m 0 c) (A_eq m c 5) (after5 m c) t d
theorem before6 (c : Dev nD) (t : Fin (cfg0 (F := F)).N) (d) : (dats m 0 c).before 6 t d = iblk m c 6 t := before6_of m (dats m 0 c) (A_eq m c 6) (after6 m c) t d

theorem before8 (c : Dev nD) (t : Fin (cfg0 (F := F)).N) (h : ¬t.val % 16 = 0) (d) : (dats m 0 c).before 8 t d = (grads m c t.val).1 := by
  obtain ⟨v, hv⟩ := t
  cases v with
  | zero => exact absurd rfl h
  | succ n =>
    have hN : n + 1 < 64 := lt_of_lt_of_eq hv (show (cfg0 (F := F)).N = 64 from N_0)
    refine ((dats m 0 c).before_out_kept 8 rfl ⟨n + 1, hv⟩ (Nat.succ_ne_zero n) (Bool.eq_false_iff.mpr fun hf => ?_) (fun _ => rfl) (fun _ _ => rfl) d).trans ?_
    · have := (flush0_8 _).mp hf
      simp only [Nat.add_sub_cancel] at this h; omega
    exact (after8 m c ⟨n, Nat.lt_of_succ_lt hv⟩).trans (congrArg Prod.fst (grads_succ m c n (Nat.lt_of_succ_lt hv))).symm

theorem before9 (c : Dev nD) (t : Fin (cfg0 (F := F)).N) (h : ¬t.val % 16 = 0) (d) : (dats m 0 c).before 9 t d = (grads m c t.val).2 := by
  obtain ⟨v, hv⟩ := t
  cases v with
  | zero => exact absurd rfl h
  | succ n =>
    have hN : n + 1 < 64 := lt_of_lt_of_eq hv (show (cfg0 (F := F)).N = 64 from N_0)
    refine ((dats m 0 c).before_out_kept 9 rfl ⟨n + 1, hv⟩ (Nat.succ_ne_zero n) (Bool.eq_false_iff.mpr fun hf => ?_) (fun _ => rfl) (fun _ _ => rfl) d).trans ?_
    · have := (flush0_9 _).mp hf
      simp only [Nat.add_sub_cancel] at this h; omega
    exact (after9 m c ⟨n, Nat.lt_of_succ_lt hv⟩).trans (congrArg Prod.snd (grads_succ m c n (Nat.lt_of_succ_lt hv))).symm

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0 (F := F) t) fullShare ((dats m 0 c).before 0 t d)) ∗ (∃ d, owns (c : Thread nD τ) (ms1 (F := F) t) fullShare ((dats m 0 c).before 1 t d)) ∗ (∃ d, owns (c : Thread nD τ) (ms2 (F := F) t) fullShare ((dats m 0 c).before 2 t d)) ∗ (∃ d, owns (c : Thread nD τ) (ms3 (F := F) t) fullShare ((dats m 0 c).before 3 t d)) ∗ (∃ d, owns (c : Thread nD τ) (ms4 (F := F) t) fullShare ((dats m 0 c).before 4 t d)) ∗ (∃ d, owns (c : Thread nD τ) (ms5 (F := F) t) fullShare ((dats m 0 c).before 5 t d)) ∗ (∃ d, owns (c : Thread nD τ) (ms6 (F := F) t) fullShare ((dats m 0 c).before 6 t d)) ∗ (∃ d, owns (c : Thread nD τ) (ms7 (F := F) t) fullShare ((dats m 0 c).before 7 t d)) ∗ (∃ d, owns (c : Thread nD τ) (ms8 (F := F) t) fullShare ((dats m 0 c).before 8 t d)) ∗ (∃ d, owns (c : Thread nD τ) (ms9 (F := F) t) fullShare ((dats m 0 c).before 9 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0 (F := F) t) fullShare ((dats m 0 c).after 0 t) ∗ owns (c : Thread nD τ) (ms1 (F := F) t) fullShare ((dats m 0 c).after 1 t) ∗ owns (c : Thread nD τ) (ms2 (F := F) t) fullShare ((dats m 0 c).after 2 t) ∗ owns (c : Thread nD τ) (ms3 (F := F) t) fullShare ((dats m 0 c).after 3 t) ∗ owns (c : Thread nD τ) (ms4 (F := F) t) fullShare ((dats m 0 c).after 4 t) ∗ owns (c : Thread nD τ) (ms5 (F := F) t) fullShare ((dats m 0 c).after 5 t) ∗ owns (c : Thread nD τ) (ms6 (F := F) t) fullShare ((dats m 0 c).after 6 t) ∗ owns (c : Thread nD τ) (ms7 (F := F) t) fullShare ((dats m 0 c).after 7 t) ∗ owns (c : Thread nD τ) (ms8 (F := F) t) fullShare ((dats m 0 c).after 8 t) ∗ owns (c : Thread nD τ) (ms9 (F := F) t) fullShare ((dats m 0 c).after 9 t))

/-- The body at a point, the gradients' blocks at what a run of it wants. -/
theorem sound_at (c : Dev nD) (t : Fin (cfg0 (F := F)).N) (d8 d9 : Vec F S4096x256 .f32)
    (hs : ptSwept m c t (d8, d9) = ptSwept m c t (grads m c t.val)) (ht : ptStored m c t (d8, d9) = ptStored m c t (grads m c t.val)) :
    iprop((dats m 0 c).Φ t.castSucc ∗ (dats m 0 c).owesAt () t.castSucc
      ∗ owns (c : Thread nD τ) (ms0 (F := F) t) fullShare (iblk m c 0 t) ∗ owns (c : Thread nD τ) (ms1 (F := F) t) fullShare (iblk m c 1 t) ∗ owns (c : Thread nD τ) (ms2 (F := F) t) fullShare (iblk m c 2 t) ∗ owns (c : Thread nD τ) (ms3 (F := F) t) fullShare (iblk m c 3 t) ∗ owns (c : Thread nD τ) (ms4 (F := F) t) fullShare (iblk m c 4 t) ∗ owns (c : Thread nD τ) (ms5 (F := F) t) fullShare (iblk m c 5 t) ∗ owns (c : Thread nD τ) (ms6 (F := F) t) fullShare (iblk m c 6 t) ∗ (∃ d, owns (c : Thread nD τ) (ms7 (F := F) t) fullShare d) ∗ owns (c : Thread nD τ) (ms8 (F := F) t) fullShare d8 ∗ owns (c : Thread nD τ) (ms9 (F := F) t) fullShare d9)
      ⊢ wp frame (wpE (defs₀ (F := F)) Variants.nat c none) Set.univ (bodyAt0 t) (fun _ => bodyPost m c t) := by
  unfold bodyPost bodyAt0
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, ← hs, ← ht]
  rw [show (dats m 0 c).Φ t.castSucc = Pipeline.ΦA spec0 c from rfl, PhiA_eq]
  iintro ⟨⟨⟨HS0, HS1, HS2⟩, Hg⟩, Ho, H0, H1, H2, H3, H4, H5, H6, H7, H8, H9⟩
  iapply (body_run c (grid0.coords t) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (ms9 (F := F) t) (hs9 (F := F) t) sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) d8 d9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre
  simp only [before0, before1, before2, before3, before4, before5, before6]
  by_cases h0 : t.val % 16 = 0
  · iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_at m c t _ _ (ptSwept_first m c t ((first_iff t).mpr h0) _ _) (ptStored_first m c t ((first_iff t).mpr h0) _ _))
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iexact H9
  · simp only [before8 m c t h0, before9 m c t h0]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_at m c t _ _ rfl rfl)
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iexact H9

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
/-- The launch: every array of the pipeline at what the points leave, every other buffer as the region found it, every
    semaphore counter at zero. -/
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hΦ := fun _ _ => rfl)

/-- The frame: the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (show ∀ w : Fin 10, (spec0 w).arr.view.ref ≠ main_arg0 by decide))).trans (V_main_arg0 m c),
      ((h.1 c).2 main_arg1 (Pipeline.mem_restRefs_of main_arg1 (by decide) (show ∀ w : Fin 10, (spec0 w).arr.view.ref ≠ main_arg1 by decide))).trans (V_main_arg1 m c),
      ((h.1 c).2 main_arg2 (Pipeline.mem_restRefs_of main_arg2 (by decide) (show ∀ w : Fin 10, (spec0 w).arr.view.ref ≠ main_arg2 by decide))).trans (V_main_arg2 m c)⟩, h.2⟩) (run_main m ρ)

end Cert.KernelIdeal.Sba

end
-- ==== Proof.KB.Rest.lean ====
/- The rest of one grid point: the diagonal block, the sweep over the earlier blocks, and the queries' gradient stored. -/
module

public import proofs.«01_k».proof.Proof.KB.Head

@[expose] public section

set_option maxRecDepth 16384

noncomputable section

namespace Cert.Kernel.Sba

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

set_option cleanup.letToHave false in
/-- The body after its first two parts. -/
def rest (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S256x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4x256x1 .f32) (harg12 : arg12.IsWhole) (arg13 : Memref sig .tc .vmem S4x256x1 .f32) (harg13 : arg13.IsWhole) (arg14 : Memref sig .tc .vmem S4x256x128 .f32) (harg14 : arg14.IsWhole) (v4 : FVec F S512x256 .bf16) (v6 : FVec F S512x256 .bf16) (v9 : IVec S256x128 1) (v17 : FVec F S256x128 .bf16) (v18 : FVec F S256x128 .bf16) (v19 : FVec F S256x128 .bf16) (v20 : FVec F S256x128 .bf16) (v24 : FVec F S256x1 .f32) (v28 : FVec F S256x1 .f32) (v36 : FVec F S256x128 .bf16) (v37 : FVec F S256x128 .bf16) (v38 : FVec F S256x128 .bf16) (v39 : FVec F S256x128 .bf16) (v43 : FVec F S256x1 .f32) (v47 : FVec F S256x1 .f32) (v50 : IVec S256x256 1) (v64 : BitVec 32) (v67 : FVec F S256x128 .bf16) (v70 : FVec F S256x128 .bf16) (v72 : Vec F S256x128 .bf16) :
    Prog (TpuEff nD τ sig (Elt F) (Λ₀ F) .tc) PUnit := do
  let ⟨v79, v80, v81, v82, v83, v84, v96, v99, v106, v111, v113⟩ : Σ' (v79 : FVec F S256x256 .f32) (v80 : FVec F S256x256 .f32) (v81 : FVec F S256x256 .f32) (v82 : FVec F S256x256 .f32) (v83 : FVec F S256x256 .f32) (v84 : FVec F S256x256 .f32) (v96 : FVec F S256x256 .f32) (v99 : FVec F S256x256 .f32) (v106 : FVec F S256x256 .f32) (v111 : FVec F S256x256 .f32), FVec F S256x256 .f32 ← k0_part3 i arg2 harg2 arg3 harg3 arg4 harg4 arg5 harg5 arg6 harg6 arg7 harg7 arg8 harg8 arg9 harg9 arg10 harg10 arg11 harg11 arg12 harg12 arg13 harg13 arg14 harg14 v17 v18 v19 v20 v36 v37 v38 v39 v50 v64 v67 v70 v72
  let ⟨v114, v126, v129, v141, v144, v153, v158, v160⟩ : Σ' (v114 : FVec F S256x256 .f32) (v126 : FVec F S256x256 .f32) (v129 : FVec F S256x256 .f32) (v141 : FVec F S256x256 .f32) (v144 : FVec F S256x256 .f32) (v153 : FVec F S256x256 .f32) (v158 : FVec F S256x256 .bf16), FVec F S256x256 .bf16 ← k0_part4 i arg2 harg2 arg3 harg3 arg4 harg4 arg5 harg5 arg6 harg6 arg7 harg7 arg8 harg8 arg9 harg9 arg10 harg10 arg11 harg11 arg12 harg12 arg13 harg13 arg14 harg14 v4 v50 v79 v80 v96 v106 v111 v113
  let ⟨v171, v180, v189, v191, v200⟩ : Σ' (v171 : FVec F S256x256 .f32) (v180 : FVec F S256x256 .f32) (v189 : FVec F S256x256 .bf16) (v191 : FVec F S256x256 .f32), FVec F S256x256 .f32 ← k0_part5 i arg2 harg2 arg3 harg3 arg4 harg4 arg5 harg5 arg6 harg6 arg7 harg7 arg8 harg8 arg9 harg9 arg10 harg10 arg11 harg11 arg12 harg12 arg13 harg13 arg14 harg14 v4 v50 v81 v96 v99 v114 v126 v141 v153 v158 v160
  let ⟨v208, v210, v227, v229, v238⟩ : Σ' (v208 : FVec F S256x256 .bf16) (v210 : FVec F S256x256 .f32) (v227 : FVec F S256x256 .bf16) (v229 : FVec F S256x256 .f32), FVec F S256x256 .f32 ← k0_part6 i arg2 harg2 arg3 harg3 arg4 harg4 arg5 harg5 arg6 harg6 arg7 harg7 arg8 harg8 arg9 harg9 arg10 harg10 arg11 harg11 arg12 harg12 arg13 harg13 arg14 harg14 v50 v82 v83 v111 v126 v129 v144 v171 v180 v200
  let ⟨v246, v248, v265, v274, v282⟩ : Σ' (v246 : FVec F S256x256 .bf16) (v248 : FVec F S256x256 .f32) (v265 : FVec F S256x256 .f32) (v274 : FVec F S256x256 .f32), FVec F S256x512 .bf16 ← k0_part7 i arg2 harg2 arg3 harg3 arg4 harg4 arg5 harg5 arg6 harg6 arg7 harg7 arg8 harg8 arg9 harg9 arg10 harg10 arg11 harg11 arg12 harg12 arg13 harg13 arg14 harg14 v6 v50 v84 v141 v191 v210 v229 v238
  let ⟨v283, v292, v304, v323⟩ : Σ' (v283 : FVec F S256x256 .f32) (v292 : FVec F S256x256 .f32) (v304 : FVec F S256x256 .bf16), FVec F S256x256 .f32 ← k0_part8 i arg2 harg2 arg3 harg3 arg4 harg4 arg5 harg5 arg6 harg6 arg7 harg7 arg8 harg8 arg9 harg9 arg10 harg10 arg11 harg11 arg12 harg12 arg13 harg13 arg14 harg14 v6 v24 v28 v50 v99 v114 v191 v210 v248 v265 v274 v282
  let ⟨v324, v344, v360⟩ : Σ' (v324 : FVec F S256x256 .bf16) (v344 : FVec F S256x256 .bf16), FVec F S256x256 .f32 ← k0_part9 i arg2 harg2 arg3 harg3 arg4 harg4 arg5 harg5 arg6 harg6 arg7 harg7 arg8 harg8 arg9 harg9 arg10 harg10 arg11 harg11 arg12 harg12 arg13 harg13 arg14 harg14 v43 v47 v50 v129 v144 v210 v229 v248 v283 v292 v323
  let ⟨v364, v390⟩ : Σ' (v364 : FVec F S256x256 .bf16), FVec F S256x128 .f32 ← k0_part10 i arg2 harg2 arg3 harg3 arg4 harg4 arg5 harg5 arg6 harg6 arg7 harg7 arg8 harg8 arg9 harg9 arg10 harg10 arg11 harg11 arg12 harg12 arg13 harg13 arg14 harg14 v50 v67 v70 v248 v304 v324 v344 v360
  let v425 : FVec F S256x128 .f32 ← k0_part11 i arg2 harg2 arg3 harg3 arg4 harg4 arg5 harg5 arg6 harg6 arg7 harg7 arg8 harg8 arg9 harg9 arg10 harg10 arg11 harg11 arg12 harg12 arg13 harg13 arg14 harg14 v17 v18 v19 v20 v36 v37 v64 v70 v189 v208 v304 v324 v344 v364 v390
  let ⟨v457, v458⟩ : Σ' (v457 : FVec F S256x128 .f32), FVec F S256x128 .f32 ← k0_part12 i arg2 harg2 arg3 harg3 arg4 harg4 arg5 harg5 arg6 harg6 arg7 harg7 arg8 harg8 arg9 harg9 arg10 harg10 arg11 harg11 arg12 harg12 arg13 harg13 arg14 harg14 v4 v6 v9 v17 v18 v19 v20 v24 v28 v36 v37 v38 v39 v43 v47 v64 v227 v246 v425
  let v461 : Vec F S256x128 .bf16 ← Prog.lift (.load arg9 (Rect.unit (s := S256x256) ![0, 0] S256x128.size inb_S256x256_S256x128_0_0).toLoadRect (View.loadsAt_vmem h_S256x128))
  Prog.lift (.store arg9 (Rect.unit (s := S256x256) ![0, 0] S256x128.size inb_S256x256_S256x128_0_0) (k0_pay1 v457 v458) Finset.univ (View.stores_vmem h_S256x128 (harg9.storeExact_slice rfl _ packedbf16_S256x256_S256x128_0_0) (fun _ => rfl)) (.inl rfl))
  let v462 : Vec F S1x256x128 .f32 ← Prog.lift (.load arg14 (Rect.unit (s := S4x256x128) ![2, 0, 0] S1x256x128.size inb_S4x256x128_S1x256x128_2_0_0).toLoadRect (View.loadsAt_vmem h_S1x256x128))
  let v464 : Vec F S1x256x128 .f32 ← Prog.lift (.load arg14 (Rect.unit (s := S4x256x128) ![3, 0, 0] S1x256x128.size inb_S4x256x128_S1x256x128_3_0_0).toLoadRect (View.loadsAt_vmem h_S1x256x128))
  let v470 : Vec F S256x128 .bf16 ← Prog.lift (.load arg9 (Rect.unit (s := S256x256) ![0, 128] S256x128.size inb_S256x256_S256x128_0_128).toLoadRect (View.loadsAt_vmem h_S256x128))
  Prog.lift (.store arg9 (Rect.unit (s := S256x256) ![0, 128] S256x128.size inb_S256x256_S256x128_0_128) (k0_pay2 v9 v462 v464) Finset.univ (View.stores_vmem h_S256x128 (harg9.storeExact_slice rfl _ packedbf16_S256x256_S256x128_0_128) (fun _ => rfl)) (.inl rfl))
  pure ⟨⟩

/-- The body is its first two parts and the rest. -/
theorem body_eq (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S256x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4x256x1 .f32) (harg12 : arg12.IsWhole) (arg13 : Memref sig .tc .vmem S4x256x1 .f32) (harg13 : arg13.IsWhole) (arg14 : Memref sig .tc .vmem S4x256x128 .f32) (harg14 : arg14.IsWhole) :
    cc0_sba_bwd (F := F) i arg2 harg2 arg3 harg3 arg4 harg4 arg5 harg5 arg6 harg6 arg7 harg7 arg8 harg8 arg9 harg9 arg10 harg10 arg11 harg11 arg12 harg12 arg13 harg13 arg14 harg14 = (do
      let ⟨arg1, v4, v6, v9, v17, v18, v19, v20, v24, v28, v30, v32, v34⟩ ← k0_part1 i arg2 harg2 arg3 harg3 arg4 harg4 arg5 harg5 arg6 harg6 arg7 harg7 arg8 harg8 arg9 harg9 arg10 harg10 arg11 harg11 arg12 harg12 arg13 harg13 arg14 harg14
      let ⟨v36, v37, v38, v39, v43, v47, v50, v64, v67, v70, v72⟩ ← k0_part2 i arg2 harg2 arg3 harg3 arg4 harg4 arg5 harg5 arg6 harg6 arg7 harg7 arg8 harg8 arg9 harg9 arg10 harg10 arg11 harg11 arg12 harg12 arg13 harg13 arg14 harg14 arg1 v9 v30 v32 v34
      rest i arg2 harg2 arg3 harg3 arg4 harg4 arg5 harg5 arg6 harg6 arg7 harg7 arg8 harg8 arg9 harg9 arg10 harg10 arg11 harg11 arg12 harg12 arg13 harg13 arg14 harg14 v4 v6 v9 v17 v18 v19 v20 v24 v28 v36 v37 v38 v39 v43 v47 v50 v64 v67 v70 v72) := by
  rw [cc0_sba_bwd_eq_skeleton]; rfl

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S256x256 .bf16) (harg9 : arg9.IsWhole) (arg10 : Memref sig .tc .vmem S4096x256 .f32) (harg10 : arg10.IsWhole) (arg11 : Memref sig .tc .vmem S4096x256 .f32) (harg11 : arg11.IsWhole) (arg12 : Memref sig .tc .vmem S4x256x1 .f32) (harg12 : arg12.IsWhole) (arg13 : Memref sig .tc .vmem S4x256x1 .f32) (harg13 : arg13.IsWhole) (arg14 : Memref sig .tc .vmem S4x256x128 .f32) (harg14 : arg14.IsWhole)
  (x2 : Vec F S256x256 .bf16) (x3 : Vec F S4096x256 .bf16) (x4 : Vec F S4096x256 .bf16) (x5 : Vec F S256x256 .f32) (x6 : Vec F S256x256 .bf16) (x7 : Vec F S512x256 .bf16) (x8 : Vec F S512x256 .bf16)
variable (v4 : FVec F S512x256 .bf16) (v6 : FVec F S512x256 .bf16) (v9 : IVec S256x128 1) (v17 : FVec F S256x128 .bf16) (v18 : FVec F S256x128 .bf16) (v19 : FVec F S256x128 .bf16) (v20 : FVec F S256x128 .bf16) (v24 : FVec F S256x1 .f32) (v28 : FVec F S256x1 .f32) (v36 : FVec F S256x128 .bf16) (v37 : FVec F S256x128 .bf16) (v38 : FVec F S256x128 .bf16) (v39 : FVec F S256x128 .bf16) (v43 : FVec F S256x1 .f32) (v47 : FVec F S256x1 .f32) (v50 : IVec S256x256 1) (v64 : BitVec 32) (v67 : FVec F S256x128 .bf16) (v70 : FVec F S256x128 .bf16) (v72 : Vec F S256x128 .bf16)

theorem to_unread {s : Shape} {e : EltTy} {m : Memref sig .tc .vmem s e} (h : m.IsWhole) (f : Buf (Elt F) (m.view.loc (c : Thread nD τ))) :
    (m.view.loc (c : Thread nD τ) ↦{fullShare} f : sProp 𝕄) ⊢ (m.view.loc (c : Thread nD τ) ↦{fullShare} (h.unread (m.view.read (Elt F) f))) := by
  rw [h.unread_read]

set_option maxHeartbeats 2000000 in
/-- The rest of the body, run: the state the sweep starts from, the least mass passed then, and the stores of the queries' gradient. -/
@[irreducible] def restRun (dk dv : Vec F S4096x256 .f32) :
    Σ' (s0 : St F) (live : F .f32), { L9 : List (View.Piece (Elt F) S256x256 .bf16) //
    ∀ (f9 : Buf (Elt F) (arg9.view.loc (c : Thread nD τ))) (E : Set ℕ) (K : PUnit → sProp 𝕄),
      iprop((arg3.view.loc (c : Thread nD τ) ↦{fullShare} (harg3.unread x3)) ∗ (arg4.view.loc (c : Thread nD τ) ↦{fullShare} (harg4.unread x4)) ∗ (arg9.view.loc (c : Thread nD τ) ↦{fullShare} (f9)) ∗ (arg10.view.loc (c : Thread nD τ) ↦{fullShare} (harg10.unread dk)) ∗ (arg11.view.loc (c : Thread nD τ) ↦{fullShare} (harg11.unread dv)) ∗ (arg12.view.loc (c : Thread nD τ) ↦{fullShare} (harg12.unread k0_pay30)) ∗ (arg13.view.loc (c : Thread nD τ) ↦{fullShare} (harg13.unread k0_pay31)) ∗ (arg14.view.loc (c : Thread nD τ) ↦{fullShare} (harg14.unread k0_pay32))
          ∗ (iprop((arg3.view.loc (c : Thread nD τ) ↦{fullShare} (harg3.unread x3)) ∗ (arg4.view.loc (c : Thread nD τ) ↦{fullShare} (harg4.unread x4)) ∗ (arg9.view.loc (c : Thread nD τ) ↦{fullShare} (arg9.view.writes (Elt F) f9 L9))
              ∗ (arg10.view.loc (c : Thread nD τ) ↦{fullShare} (harg10.unread (sweep c i arg3 harg3 arg4 harg4 arg12 harg12 arg13 harg13 arg14 harg14 arg10 harg10 arg11 harg11 v17 v18 v36 v37 v19 v20 v38 v39 v4 v6 v24 v28 v43 v47 x3 x4 (i 1).val 0 (Nat.zero_add _) live s0).dk)) ∗ (arg11.view.loc (c : Thread nD τ) ↦{fullShare} (harg11.unread (sweep c i arg3 harg3 arg4 harg4 arg12 harg12 arg13 harg13 arg14 harg14 arg10 harg10 arg11 harg11 v17 v18 v36 v37 v19 v20 v38 v39 v4 v6 v24 v28 v43 v47 x3 x4 (i 1).val 0 (Nat.zero_add _) live s0).dv))
              ∗ (∃ f, (arg12.view.loc (c : Thread nD τ) ↦{fullShare} (f))) ∗ (∃ f, (arg13.view.loc (c : Thread nD τ) ↦{fullShare} (f))) ∗ (∃ f, (arg14.view.loc (c : Thread nD τ) ↦{fullShare} (f)))) -∗ K ⟨⟩))
        ⊢ wp frame (wpE (defs₀ (F := F)) Variants.nat (c : Thread nD τ) none) E (rest i arg2 harg2 arg3 harg3 arg4 harg4 arg5 harg5 arg6 harg6 arg7 harg7 arg8 harg8 arg9 harg9 arg10 harg10 arg11 harg11 arg12 harg12 arg13 harg13 arg14 harg14 v4 v6 v9 v17 v18 v19 v20 v24 v28 v36 v37 v38 v39 v43 v47 v50 v64 v67 v70 v72) K } := by
  refine ⟨?_, ?_, ?_, fun f9 E K => ?run⟩
  case run =>
    unfold rest
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    iintro ⟨H3, H4, H9, H10, H11, H12, H13, H14, Hk⟩
    sl_exec
    iapply (wp_call_spec Variants.nat (c : Thread nD τ) none E (spec c arg3 harg3 arg4 harg4 arg12 harg12 arg13 harg13 arg14 harg14 arg10 harg10 arg11 harg11 x3 x4 ⟨arg12.view.read (Elt F) _, arg13.view.read (Elt F) _, arg14.view.read (Elt F) _, arg10.view.read (Elt F) _, arg11.view.read (Elt F) _⟩ _) (i 1).val
        (fun u hu => nomatch hu)
        (spec_le c i arg3 harg3 arg4 harg4 arg12 harg12 arg13 harg13 arg14 harg14 arg10 harg10 arg11 harg11 v17 v18 v36 v37 v19 v20 v38 v39 v4 v6 v24 v28 v43 v47 x3 x4 E (i 1).val 0 (Nat.zero_add _) _ rfl _ _))
    rw [spec_apply]
    unfold held
    isplitl [H3 H4 H12 H13 H14 H10 H11]
    · isplitl [H3]; · iexact H3
      isplitl [H4]; · iexact H4
      isplitl [H12]; · iapply (to_unread c harg12 _); iexact H12
      isplitl [H13]; · iapply (to_unread c harg13 _); iexact H13
      isplitl [H14]; · iapply (to_unread c harg14 _); iexact H14
      isplitl [H10]; · iapply (to_unread c harg10 _); iexact H10
      iapply (to_unread c harg11 _); iexact H11
    iintro %r ⟨H3, H4, H12, H13, H14, H10, H11⟩
    sl_exec
    sl_step
    iapply Hk
    isplitl [H3]; · iexact H3
    isplitl [H4]; · iexact H4
    isplitl [H9]; · iexact H9
    isplitl [H10]; · iexact H10
    isplitl [H11]; · iexact H11
    isplitl [H12]; · iexists _; iexact H12
    isplitl [H13]; · iexists _; iexact H13
    iexists _; iexact H14

end Cert.Kernel.Sba

end
-- ==== Proof.Mlp.DownRun.lean ====
/- The backward pass of the product after the squared relu. One grid point, run: what the body leaves in every block. -/
module

public import proofs.«01_k».proof.Proof.Gen.Kernel2Ideal.Frame
public import proofs.«01_k».proof.Proof.Gen.Kernel2Ideal.Skeleton
public import Idealize.ShloMosaic.Lib.VecWindow
public import Idealize.ShloMosaic.Lib.Pipeline.TableIdle
public import Idealize.ShloMosaic.Lib.Pipeline.ValueKit
public import Idealize.ShloMosaic.Lib.Claim

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point of the first token tile. -/
theorem run_top (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1x1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (h0 : k0_cond1 i = 1#1) (h1 : k0_cond2 i = 1#1) (h2 : ¬k0_cond3 i = 1#1)
    (x0 : Vec F S1024x1024 .f32) (x1 : Vec F S1024x1024 .f32) (x2 : Vec F S1x1024 .f32) (x3 : Vec F S1x1x1024x1024 .bf16) (x4 : Vec F S1024x1024 .bf16)  (E : Set ℕ) (Q : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ (∃ d, owns (c : Thread nD τ) arg7 fullShare (d)) ∗ (∃ d, owns (c : Thread nD τ) arg8 fullShare (d)) ∗ (∃ d, owns (c : Thread nD τ) arg9 fullShare (d))
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (k0_pay4 x0 x1 x2) ∗ owns (c : Thread nD τ) arg8 fullShare (k0_pay6 (k0_pay4 x0 x1 x2) x3 x4) ∗ owns (c : Thread nD τ) arg9 fullShare (k0_pay3 x0 x1)) -∗ Q ⟨⟩))
      ⊢ wp frame (wpE (defs₀ (F := F)) Variants.none c none) E (cc0_mlp_down_bwd i arg2 harg2 arg3 harg3 arg4 harg4 arg5 harg5 arg6 harg6 arg7 harg7 arg8 harg8 arg9 harg9) Q := by
  simp only [cc0_mlp_down_bwd_eq_skeleton]; unfold cc0_mlp_down_bwd_skel
  unfold owns
  iintro ⟨⟨%f0, %hf0, H0⟩, ⟨%f1, %hf1, H1⟩, ⟨%f2, %hf2, H2⟩, ⟨%f3, %hf3, H3⟩, ⟨%f4, %hf4, H4⟩, ⟨%e5, %f5, -, H5⟩, ⟨%e6, %f6, -, H6⟩, ⟨%e7, %f7, -, H7⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact h0 | sl_exact h1 | sl_exact h2)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _
  isplitl [H6]
  · iexists _; isplitr; swap; · iexact H6
    ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _
  iexists _; isplitr; swap; · iexact H7
  ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _

set_option maxHeartbeats 1000000 in
/-- The first point of a later token tile. -/
theorem run_start (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1x1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (h0 : k0_cond1 i = 1#1) (h1 : ¬k0_cond2 i = 1#1) (h2 : k0_cond3 i = 1#1)
    (x0 : Vec F S1024x1024 .f32) (x1 : Vec F S1024x1024 .f32) (x2 : Vec F S1x1024 .f32) (x3 : Vec F S1x1x1024x1024 .bf16) (x4 : Vec F S1024x1024 .bf16) (d7 : Vec F S1x1024 .f32) (E : Set ℕ) (Q : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ (∃ d, owns (c : Thread nD τ) arg7 fullShare (d)) ∗ (∃ d, owns (c : Thread nD τ) arg8 fullShare (d)) ∗ owns (c : Thread nD τ) arg9 fullShare (d7)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (k0_pay4 x0 x1 x2) ∗ owns (c : Thread nD τ) arg8 fullShare (k0_pay6 (k0_pay4 x0 x1 x2) x3 x4) ∗ owns (c : Thread nD τ) arg9 fullShare (k0_pay5 x0 x1 d7)) -∗ Q ⟨⟩))
      ⊢ wp frame (wpE (defs₀ (F := F)) Variants.none c none) E (cc0_mlp_down_bwd i arg2 harg2 arg3 harg3 arg4 harg4 arg5 harg5 arg6 harg6 arg7 harg7 arg8 harg8 arg9 harg9) Q := by
  simp only [cc0_mlp_down_bwd_eq_skeleton]; unfold cc0_mlp_down_bwd_skel
  unfold owns
  iintro ⟨⟨%f0, %hf0, H0⟩, ⟨%f1, %hf1, H1⟩, ⟨%f2, %hf2, H2⟩, ⟨%f3, %hf3, H3⟩, ⟨%f4, %hf4, H4⟩, ⟨%e5, %f5, -, H5⟩, ⟨%e6, %f6, -, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hf7
  sl_exec (disch := first | sl_exact h0 | sl_exact h1 | sl_exact h2)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _
  isplitl [H6]
  · iexists _; isplitr; swap; · iexact H6
    ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _
  iexists _; isplitr; swap; · iexact H7
  ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _

set_option maxHeartbeats 1000000 in
/-- A later point of a token tile. -/
theorem run_rest (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1x1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (h0 : ¬k0_cond1 i = 1#1)
    (x0 : Vec F S1024x1024 .f32) (x1 : Vec F S1024x1024 .f32) (x2 : Vec F S1x1024 .f32) (x3 : Vec F S1x1x1024x1024 .bf16) (x4 : Vec F S1024x1024 .bf16) (d5 : Vec F S1024x1024 .bf16) (d7 : Vec F S1x1024 .f32) (E : Set ℕ) (Q : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (d5) ∗ (∃ d, owns (c : Thread nD τ) arg8 fullShare (d)) ∗ owns (c : Thread nD τ) arg9 fullShare (d7)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (d5) ∗ owns (c : Thread nD τ) arg8 fullShare (k0_pay6 d5 x3 x4) ∗ owns (c : Thread nD τ) arg9 fullShare (d7)) -∗ Q ⟨⟩))
      ⊢ wp frame (wpE (defs₀ (F := F)) Variants.none c none) E (cc0_mlp_down_bwd i arg2 harg2 arg3 harg3 arg4 harg4 arg5 harg5 arg6 harg6 arg7 harg7 arg8 harg8 arg9 harg9) Q := by
  simp only [cc0_mlp_down_bwd_eq_skeleton]; unfold cc0_mlp_down_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
  sl_exec (disch := first | sl_exact h0)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _
  iexists _; isplitr; swap; · iexact H7
  ipureintro; exact harg9.read_unread _

end Cert.Kernel2Ideal.Down

end
-- ==== Proof.Mlp.DownLaunch.lean ====
/- The backward pass of the product after the squared relu. The launch: what the blocks hold point by point, the body at every point, and the whole run. -/
module

public import proofs.«01_k».proof.Proof.Gen.Kernel2Ideal.Frame
public import proofs.«01_k».proof.Proof.Gen.Kernel2Ideal.Skeleton
public import proofs.«01_k».proof.Proof.Mlp.DownRun
public import Idealize.ShloMosaic.Lib.VecWindow
public import Idealize.ShloMosaic.Lib.Pipeline.TableIdle
public import Idealize.ShloMosaic.Lib.Pipeline.ValueKit
public import Idealize.ShloMosaic.Lib.Claim

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)
theorem cond2_iff : ∀ t : Fin cfg0.N, k0_cond2 (grid0.coords t) = 1#1 ↔ t.val < 4 :=
  (by decide +kernel : ∀ t : Fin grid0.N, k0_cond2 (grid0.coords t) = 1#1 ↔ t.val < 4)
theorem cond3_iff : ∀ t : Fin cfg0.N, k0_cond3 (grid0.coords t) = 1#1 ↔ ¬t.val < 4 :=
  (by decide +kernel : ∀ t : Fin grid0.N, k0_cond3 (grid0.coords t) = 1#1 ↔ ¬t.val < 4)

/-- The first point of a point's token tile. -/
def start (t : Fin cfg0.N) : Fin cfg0.N := ⟨4 * (t.val / 4), by have := t.isLt; omega⟩

theorem start_of (t : Fin cfg0.N) (h : t.val % 4 = 0) : start t = t := Fin.ext (by simp only [start]; omega)

theorem start_pred (t : Fin cfg0.N) (h : ¬t.val % 4 = 0) : start ⟨t.val - 1, Nat.lt_of_le_of_lt (Nat.sub_le _ _) t.isLt⟩ = start t :=
  Fin.ext (by simp only [start]; omega)

/-- The gradient a token tile's points hold of the normalised product. -/
def dz (c : Dev nD) (t : Fin cfg0.N) : Vec F S1024x1024 .bf16 :=
  k0_pay4 (iblk m c 0 (start t)) (iblk m c 1 (start t)) (iblk m c 2 (start t))

theorem dz_start (c : Dev nD) (t : Fin cfg0.N) (h : t.val % 4 = 0) : k0_pay4 (iblk m c 0 t) (iblk m c 1 t) (iblk m c 2 t) = dz m c t := by
  unfold dz; rw [start_of t h]

theorem du_start (c : Dev nD) (t : Fin cfg0.N) (h : t.val % 4 = 0) :
    k0_pay6 (k0_pay4 (iblk m c 0 t) (iblk m c 1 t) (iblk m c 2 t)) (iblk m c 3 t) (iblk m c 4 t) = k0_pay6 (dz m c t) (iblk m c 3 t) (iblk m c 4 t) := by
  rw [dz_start m c t h]

theorem dz_pred (c : Dev nD) (t : Fin cfg0.N) (h : ¬t.val % 4 = 0) : dz m c ⟨t.val - 1, Nat.lt_of_le_of_lt (Nat.sub_le _ _) t.isLt⟩ = dz m c t := by
  unfold dz; rw [start_pred t h]

/-- The first point of token tile `n`. -/
def tile (n : ℕ) : Fin cfg0.N := ⟨4 * (n % 4), by have : cfg0.N = 16 := N_0; omega⟩

theorem tile_of (t : Fin cfg0.N) (h : t.val % 4 = 0) : tile (t.val / 4) = t :=
  Fin.ext (by have := lt_of_lt_of_eq t.isLt (show cfg0.N = 16 from N_0); simp only [tile]; omega)

/-- The gain's gradient after token tile `n`: the tiles' sums added up. -/
def dg (c : Dev nD) : ℕ → Vec F S1x1024 .f32
  | 0 => k0_pay3 (iblk m c 0 (tile 0)) (iblk m c 1 (tile 0))
  | n + 1 => k0_pay5 (iblk m c 0 (tile (n + 1))) (iblk m c 1 (tile (n + 1))) (dg c n)

theorem dg_top (c : Dev nD) (t : Fin cfg0.N) (h : t.val % 4 = 0) (h1 : t.val < 4) : k0_pay3 (iblk m c 0 t) (iblk m c 1 t) = dg m c (t.val / 4) := by
  have e : tile 0 = t := by rw [← tile_of t h, show t.val / 4 = 0 by omega]
  rw [show t.val / 4 = 0 by omega, dg, e]

theorem dg_start (c : Dev nD) (t : Fin cfg0.N) (h : t.val % 4 = 0) (h1 : ¬t.val < 4) :
    k0_pay5 (iblk m c 0 t) (iblk m c 1 t) (dg m c ((t.val - 1) / 4)) = dg m c (t.val / 4) := by
  have e : tile ((t.val - 1) / 4 + 1) = t := by rw [← tile_of t h, show (tile (t.val / 4)).val - 1 = t.val - 1 by rw [tile_of t h], show (t.val - 1) / 4 + 1 = t.val / 4 by omega]
  rw [show t.val / 4 = (t.val - 1) / 4 + 1 by omega, dg, e]

theorem dg_rest (c : Dev nD) (t : Fin cfg0.N) (h : ¬t.val % 4 = 0) : dg m c ((t.val - 1) / 4) = dg m c (t.val / 4) := by
  rw [show (t.val - 1) / 4 = t.val / 4 by omega]

/-! The staging buffers at a point. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024 .f32 := win0_7.stage (cfg0.slots t 7)
abbrev hs7 (t : Fin cfg0.N) : (ms7 t).IsWhole := hstage0_7 ((cfg0.slots t 7).cast nbuf0_7)

/-- The proof data: inputs at their blocks, the results' blocks at what the points so far leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dz m c t
    | ⟨6, _⟩ => k0_pay6 (dz m c t) (iblk m c 3 t) (iblk m c 4 t)
    | ⟨7, _⟩ => dg m c (t.val / 4)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := rfl
theorem after1 (c : Dev nD) (t : Fin cfg0.N) : (dats m 0 c).after 1 t = iblk m c 1 t := rfl
theorem after2 (c : Dev nD) (t : Fin cfg0.N) : (dats m 0 c).after 2 t = iblk m c 2 t := rfl
theorem after3 (c : Dev nD) (t : Fin cfg0.N) : (dats m 0 c).after 3 t = iblk m c 3 t := rfl
theorem after4 (c : Dev nD) (t : Fin cfg0.N) : (dats m 0 c).after 4 t = iblk m c 4 t := rfl
theorem after5 (c : Dev nD) (t : Fin cfg0.N) : (dats m 0 c).after 5 t = dz m c t := rfl
theorem after6 (c : Dev nD) (t : Fin cfg0.N) : (dats m 0 c).after 6 t = k0_pay6 (dz m c t) (iblk m c 3 t) (iblk m c 4 t) := rfl
theorem after7 (c : Dev nD) (t : Fin cfg0.N) : (dats m 0 c).after 7 t = dg m c (t.val / 4) := rfl
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d

/-- What a point may hand back of a block: what the proof data says, a block it leaves alone holding that already. -/
theorem leaf (c : Dev nD) (w : Fin cfg0.W) (t : Fin cfg0.N) (X : (cfg0.win w).block.Idx → Elt F (cfg0.win w).elt) (hX : X = (dats m 0 c).after w t)
    (h : cfg0.idle w (grid0.coords t) = true → (cfg0.win w).flush t = false → ∃ d, (dats m 0 c).before w t d = (dats m 0 c).after w t) :
    (owns (c : Thread nD τ) ((cfg0.win w).stage (cfg0.slots t w)) fullShare X : sProp 𝕄) ⊢ (dats m 0 c).leavesExact w t := by
  subst hX
  by_cases hi : cfg0.idle w (grid0.coords t) = true
  · by_cases hf : (cfg0.win w).flush t = true
    · unfold Dat.leavesExact
      rw [show cfg0.idle w (cfg0.grid.coords t) = true from hi, hf]
    · rw [Dat.leavesExact_idle _ w t hi (Bool.eq_false_iff.mpr hf)]
      obtain ⟨d, hd⟩ := h hi (Bool.eq_false_iff.mpr hf)
      rw [← hd]
      iintro H
      iexists d
      iexact H
  · unfold Dat.leavesExact
    rw [show cfg0.idle w (cfg0.grid.coords t) = false from Bool.eq_false_iff.mpr hi]

theorem carry5 (c : Dev nD) (t : Fin cfg0.N) (h : t.val ≠ 0) (hi : cfg0.idle 5 (grid0.coords t) = true) (hf : cfg0.fresh 5 t.val = false) :
    (dats m 0 c).after 5 t = (dats m 0 c).after 5 ⟨t.val - 1, by omega⟩ := by
  have hi' : ¬t.val % 4 = 0 := (by decide +kernel : ∀ t : Fin grid0.N, cfg0.idle 5 (grid0.coords t) = true → ¬t.val % 4 = 0) t hi
  rw [after5, after5]
  unfold dz; rw [start_pred t hi']

theorem fresh5 (t : Fin cfg0.N) : cfg0.fresh 5 t.val = true ↔ t.val % 4 = 0 :=
  (by decide +kernel : ∀ t : Fin cfg0.N, cfg0.fresh 5 t.val = true ↔ t.val % 4 = 0) t

theorem before5 (c : Dev nD) (t : Fin cfg0.N) (h : ¬(t.val % 4 = 0)) (d) : (dats m 0 c).before 5 t d = (dats m 0 c).after 5 ⟨t.val - 1, Nat.lt_of_le_of_lt (Nat.sub_le _ _) t.isLt⟩ := by
  rw [Dat.before_out_traj _ 5 rfl (fun _ _ => rfl) (carry5 m c) t.val t rfl d, if_neg fun hf => h ((fresh5 t).mp hf)]

theorem leaf5 (c : Dev nD) (t : Fin cfg0.N) (X : Vec F S1024x1024 .bf16) (hX : X = dz m c t) :
    (owns (c : Thread nD τ) (ms5 t) fullShare X : sProp 𝕄) ⊢ (dats m 0 c).leavesExact 5 t :=
  leaf m c 5 t X hX fun hi _ => by
    simp only [Dat.before_out_traj _ 5 rfl (fun _ _ => rfl) (carry5 m c) t.val t rfl]
    by_cases hf : cfg0.fresh 5 t.val = true
    · exact ⟨_, if_pos hf⟩
    · refine ⟨(dats m 0 c).after 5 t, (if_neg hf).trans (carry5 m c t (fun e => hf ?_) hi (Bool.eq_false_iff.mpr hf)).symm⟩
      rw [e]; rfl

theorem carry7 (c : Dev nD) (t : Fin cfg0.N) (h : t.val ≠ 0) (hi : cfg0.idle 7 (grid0.coords t) = true) (hf : cfg0.fresh 7 t.val = false) :
    (dats m 0 c).after 7 t = (dats m 0 c).after 7 ⟨t.val - 1, by omega⟩ := by
  have hi' : ¬t.val % 4 = 0 := (by decide +kernel : ∀ t : Fin grid0.N, cfg0.idle 7 (grid0.coords t) = true → ¬t.val % 4 = 0) t hi
  rw [after7, after7]
  exact (dg_rest m c t hi').symm

theorem fresh7 (t : Fin cfg0.N) : cfg0.fresh 7 t.val = true ↔ t.val = 0 :=
  (by decide +kernel : ∀ t : Fin cfg0.N, cfg0.fresh 7 t.val = true ↔ t.val = 0) t

theorem before7 (c : Dev nD) (t : Fin cfg0.N) (h : ¬(t.val = 0)) (d) : (dats m 0 c).before 7 t d = (dats m 0 c).after 7 ⟨t.val - 1, Nat.lt_of_le_of_lt (Nat.sub_le _ _) t.isLt⟩ := by
  rw [Dat.before_out_traj _ 7 rfl (fun _ _ => rfl) (carry7 m c) t.val t rfl d, if_neg fun hf => h ((fresh7 t).mp hf)]

theorem leaf7 (c : Dev nD) (t : Fin cfg0.N) (X : Vec F S1x1024 .f32) (hX : X = dg m c (t.val / 4)) :
    (owns (c : Thread nD τ) (ms7 t) fullShare X : sProp 𝕄) ⊢ (dats m 0 c).leavesExact 7 t :=
  leaf m c 7 t X hX fun hi _ => by
    simp only [Dat.before_out_traj _ 7 rfl (fun _ _ => rfl) (carry7 m c) t.val t rfl]
    by_cases hf : cfg0.fresh 7 t.val = true
    · exact ⟨_, if_pos hf⟩
    · refine ⟨(dats m 0 c).after 7 t, (if_neg hf).trans (carry7 m c t (fun e => hf ?_) hi (Bool.eq_false_iff.mpr hf)).symm⟩
      rw [e]; rfl

theorem leaf0 (c : Dev nD) (t : Fin cfg0.N) (X : Vec F S1024x1024 .f32) (hX : X = iblk m c 0 t) :
    (owns (c : Thread nD τ) (ms0 t) fullShare X : sProp 𝕄) ⊢ (dats m 0 c).leavesExact 0 t :=
  leaf m c 0 t X hX fun hi _ => absurd hi Bool.false_ne_true

theorem leaf1 (c : Dev nD) (t : Fin cfg0.N) (X : Vec F S1024x1024 .f32) (hX : X = iblk m c 1 t) :
    (owns (c : Thread nD τ) (ms1 t) fullShare X : sProp 𝕄) ⊢ (dats m 0 c).leavesExact 1 t :=
  leaf m c 1 t X hX fun hi _ => absurd hi Bool.false_ne_true

theorem leaf2 (c : Dev nD) (t : Fin cfg0.N) (X : Vec F S1x1024 .f32) (hX : X = iblk m c 2 t) :
    (owns (c : Thread nD τ) (ms2 t) fullShare X : sProp 𝕄) ⊢ (dats m 0 c).leavesExact 2 t :=
  leaf m c 2 t X hX fun hi _ => absurd hi Bool.false_ne_true

theorem leaf3 (c : Dev nD) (t : Fin cfg0.N) (X : Vec F S1x1x1024x1024 .bf16) (hX : X = iblk m c 3 t) :
    (owns (c : Thread nD τ) (ms3 t) fullShare X : sProp 𝕄) ⊢ (dats m 0 c).leavesExact 3 t :=
  leaf m c 3 t X hX fun hi _ => absurd hi Bool.false_ne_true

theorem leaf4 (c : Dev nD) (t : Fin cfg0.N) (X : Vec F S1024x1024 .bf16) (hX : X = iblk m c 4 t) :
    (owns (c : Thread nD τ) (ms4 t) fullShare X : sProp 𝕄) ⊢ (dats m 0 c).leavesExact 4 t :=
  leaf m c 4 t X hX fun hi _ => absurd hi Bool.false_ne_true

theorem leaf6 (c : Dev nD) (t : Fin cfg0.N) (X : Vec F S1024x1024 .bf16) (hX : X = k0_pay6 (dz m c t) (iblk m c 3 t) (iblk m c 4 t)) :
    (owns (c : Thread nD τ) (ms6 t) fullShare X : sProp 𝕄) ⊢ (dats m 0 c).leavesExact 6 t :=
  leaf m c 6 t X hX fun hi _ => absurd hi Bool.false_ne_true

/-- What the body is called with at a point, -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  simp only [before0, before1, before2, before3, before4]
  by_cases h0 : t.val % 4 = 0
  · by_cases h1 : t.val < 4
    · have h2 : t.val = 0 := by omega
      iintro ⟨HP, Ho, ⟨%e0, H0⟩, ⟨%e1, H1⟩, ⟨%e2, H2⟩, ⟨%e3, H3⟩, ⟨%e4, H4⟩, ⟨%e5, H5⟩, ⟨%e6, H6⟩, ⟨%e7, H7⟩⟩
      iapply (run_top c (grid0.coords t) (ms0 t) (hs0 t) (ms1 t) (hs1 t) (ms2 t) (hs2 t) (ms3 t) (hs3 t) (ms4 t) (hs4 t) (ms5 t) (hs5 t) (ms6 t) (hs6 t) (ms7 t) (hs7 t) ((cond1_iff t).mpr h0) ((cond2_iff t).mpr h1) (fun h => (cond3_iff t).mp h h1) (iblk m c 0 t) (iblk m c 1 t) (iblk m c 2 t) (iblk m c 3 t) (iblk m c 4 t)  Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      iintro ⟨H0, H1, H2, H3, H4, H5, H6, H7⟩
      isplitl [HP]; · iexact HP
      isplitl [Ho]; · iexact Ho
      isplitl [H0]; · iapply (leaf0 m c t  _ rfl); iexact H0
      isplitl [H1]; · iapply (leaf1 m c t  _ rfl); iexact H1
      isplitl [H2]; · iapply (leaf2 m c t  _ rfl); iexact H2
      isplitl [H3]; · iapply (leaf3 m c t  _ rfl); iexact H3
      isplitl [H4]; · iapply (leaf4 m c t  _ rfl); iexact H4
      isplitl [H5]; · iapply (leaf5 m c t  _ (dz_start m c t h0)); iexact H5
      isplitl [H6]; · iapply (leaf6 m c t  _ (du_start m c t h0)); iexact H6
      iapply (leaf7 m c t  _ (dg_top m c t h0 h1)); iexact H7
    · simp only [before7 m c t (by omega), after7]
      iintro ⟨HP, Ho, ⟨%e0, H0⟩, ⟨%e1, H1⟩, ⟨%e2, H2⟩, ⟨%e3, H3⟩, ⟨%e4, H4⟩, ⟨%e5, H5⟩, ⟨%e6, H6⟩, ⟨%e7, H7⟩⟩
      iapply (run_start c (grid0.coords t) (ms0 t) (hs0 t) (ms1 t) (hs1 t) (ms2 t) (hs2 t) (ms3 t) (hs3 t) (ms4 t) (hs4 t) (ms5 t) (hs5 t) (ms6 t) (hs6 t) (ms7 t) (hs7 t) ((cond1_iff t).mpr h0) (fun h => h1 ((cond2_iff t).mp h)) ((cond3_iff t).mpr h1) (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      iintro ⟨H0, H1, H2, H3, H4, H5, H6, H7⟩
      isplitl [HP]; · iexact HP
      isplitl [Ho]; · iexact Ho
      isplitl [H0]; · iapply (leaf0 m c t  _ rfl); iexact H0
      isplitl [H1]; · iapply (leaf1 m c t  _ rfl); iexact H1
      isplitl [H2]; · iapply (leaf2 m c t  _ rfl); iexact H2
      isplitl [H3]; · iapply (leaf3 m c t  _ rfl); iexact H3
      isplitl [H4]; · iapply (leaf4 m c t  _ rfl); iexact H4
      isplitl [H5]; · iapply (leaf5 m c t  _ (dz_start m c t h0)); iexact H5
      isplitl [H6]; · iapply (leaf6 m c t  _ (du_start m c t h0)); iexact H6
      iapply (leaf7 m c t  _ (dg_start m c t h0 h1)); iexact H7
  · simp only [before5 m c t h0, before7 m c t (by omega), after5, after7, dz_pred m c t h0]
    iintro ⟨HP, Ho, ⟨%e0, H0⟩, ⟨%e1, H1⟩, ⟨%e2, H2⟩, ⟨%e3, H3⟩, ⟨%e4, H4⟩, ⟨%e5, H5⟩, ⟨%e6, H6⟩, ⟨%e7, H7⟩⟩
    iapply (run_rest c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((cond1_iff t).mp h)) (iblk m c 0 t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, H6, H7⟩
    isplitl [HP]; · iexact HP
    isplitl [Ho]; · iexact Ho
    isplitl [H0]; · iapply (leaf0 m c t  _ rfl); iexact H0
    isplitl [H1]; · iapply (leaf1 m c t  _ rfl); iexact H1
    isplitl [H2]; · iapply (leaf2 m c t  _ rfl); iexact H2
    isplitl [H3]; · iapply (leaf3 m c t  _ rfl); iexact H3
    isplitl [H4]; · iapply (leaf4 m c t  _ rfl); iexact H4
    isplitl [H5]; · iapply (leaf5 m c t  _ rfl); iexact H5
    isplitl [H6]; · iapply (leaf6 m c t  _ rfl); iexact H6
    iapply (leaf7 m c t  _ (dg_rest m c t h0)); iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact sound_body m c t

set_option backward.isDefEq.respectTransparency.types false in
/-- The launch: every array of the pipeline at what the points leave, every other buffer as the region found it, every
    semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame: the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel2Ideal.Down

end
-- ==== Proof.Mlp.FwdRun.lean ====
/- The forward pass of the layer's second half. One grid point, run: what the body leaves in every block. -/
module

public import proofs.«01_k».proof.Proof.Gen.Kernel6Ideal.Frame
public import proofs.«01_k».proof.Proof.Gen.Kernel6Ideal.Skeleton
public import Idealize.ShloMosaic.Lib.VecWindow
public import Idealize.ShloMosaic.Lib.Pipeline.TableIdle
public import Idealize.ShloMosaic.Lib.Pipeline.ValueKit
public import Idealize.ShloMosaic.Lib.Claim

@[expose] public section

set_option maxRecDepth 16384

noncomputable section

namespace Cert.Kernel6Ideal.Fwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point of a token tile. -/
theorem run_start (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (arg10 : Memref sig .tc .vmem S1024x1024 .f32) (harg10 : arg10.IsWhole) (h0 : k0_cond1 i = 1#1) (h1 : k0_cond2 i = 1#1) (h2 : ¬k0_cond3 i = 1#1) (h3 : ¬k0_cond4 i = 1#1)
    (x0 : Vec F S1024x1024 .f32) (x1 : Vec F S1x1024 .f32) (x2 : Vec F S1x1x1024x1024 .bf16) (x3 : Vec F S1x1x1024x1024 .bf16) (x4 : Vec F S1x1024 .f32) (d8 : Vec F S1024x1024 .f32) (E : Set ℕ) (Q : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ (∃ d, owns (c : Thread nD τ) arg7 fullShare (d)) ∗ (∃ d, owns (c : Thread nD τ) arg8 fullShare (d)) ∗ (∃ d, owns (c : Thread nD τ) arg9 fullShare (d)) ∗ owns (c : Thread nD τ) arg10 fullShare (d8)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (k0_pay1 x0 x1) ∗ owns (c : Thread nD τ) arg8 fullShare (k0_pay2 (k0_pay1 x0 x1) x2) ∗ owns (c : Thread nD τ) arg9 fullShare (k0_pay3 (k0_pay1 x0 x1) x2 x3) ∗ owns (c : Thread nD τ) arg10 fullShare (d8)) -∗ Q ⟨⟩))
      ⊢ wp frame (wpE (defs₀ (F := F)) Variants.none c none) E (cc0_mlp_fwd i arg2 harg2 arg3 harg3 arg4 harg4 arg5 harg5 arg6 harg6 arg7 harg7 arg8 harg8 arg9 harg9 arg10 harg10) Q := by
  simp only [cc0_mlp_fwd_eq_skeleton]; unfold cc0_mlp_fwd_skel
  unfold owns
  iintro ⟨⟨%f0, %hf0, H0⟩, ⟨%f1, %hf1, H1⟩, ⟨%f2, %hf2, H2⟩, ⟨%f3, %hf3, H3⟩, ⟨%f4, %hf4, H4⟩, ⟨%e5, %f5, -, H5⟩, ⟨%e6, %f6, -, H6⟩, ⟨%e7, %f7, -, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf8
  sl_exec (disch := first | sl_exact h0 | sl_exact h1 | sl_exact h2 | sl_exact h3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _
  isplitl [H6]
  · iexists _; isplitr; swap; · iexact H6
    ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _
  isplitl [H7]
  · iexists _; isplitr; swap; · iexact H7
    ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _
  iexists _; isplitr; swap; · iexact H8
  ipureintro; exact harg10.read_unread _

set_option maxHeartbeats 1000000 in
/-- A point in the middle of a token tile. -/
theorem run_mid (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (arg10 : Memref sig .tc .vmem S1024x1024 .f32) (harg10 : arg10.IsWhole) (h0 : ¬k0_cond1 i = 1#1) (h1 : ¬k0_cond2 i = 1#1) (h2 : k0_cond3 i = 1#1) (h3 : ¬k0_cond4 i = 1#1)
    (x0 : Vec F S1024x1024 .f32) (x1 : Vec F S1x1024 .f32) (x2 : Vec F S1x1x1024x1024 .bf16) (x3 : Vec F S1x1x1024x1024 .bf16) (x4 : Vec F S1x1024 .f32) (d5 : Vec F S1024x1024 .bf16) (d7 : Vec F S1024x1024 .f32) (d8 : Vec F S1024x1024 .f32) (E : Set ℕ) (Q : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (d5) ∗ (∃ d, owns (c : Thread nD τ) arg8 fullShare (d)) ∗ owns (c : Thread nD τ) arg9 fullShare (d7) ∗ owns (c : Thread nD τ) arg10 fullShare (d8)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (d5) ∗ owns (c : Thread nD τ) arg8 fullShare (k0_pay2 d5 x2) ∗ owns (c : Thread nD τ) arg9 fullShare (k0_pay4 d5 x2 x3 d7) ∗ owns (c : Thread nD τ) arg10 fullShare (d8)) -∗ Q ⟨⟩))
      ⊢ wp frame (wpE (defs₀ (F := F)) Variants.none c none) E (cc0_mlp_fwd i arg2 harg2 arg3 harg3 arg4 harg4 arg5 harg5 arg6 harg6 arg7 harg7 arg8 harg8 arg9 harg9 arg10 harg10) Q := by
  simp only [cc0_mlp_fwd_eq_skeleton]; unfold cc0_mlp_fwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
  sl_exec (disch := first | sl_exact h0 | sl_exact h1 | sl_exact h2 | sl_exact h3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _
  isplitl [H7]
  · iexists _; isplitr; swap; · iexact H7
    ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _
  iexists _; isplitr; swap; · iexact H8
  ipureintro; exact harg10.read_unread _

set_option maxHeartbeats 1000000 in
/-- The last point of a token tile. -/
theorem run_end (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024x1024 .bf16) (harg4 : arg4.IsWhole) (arg5 : Memref sig .tc .vmem S1x1x1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (arg10 : Memref sig .tc .vmem S1024x1024 .f32) (harg10 : arg10.IsWhole) (h0 : ¬k0_cond1 i = 1#1) (h1 : ¬k0_cond2 i = 1#1) (h2 : k0_cond3 i = 1#1) (h3 : k0_cond4 i = 1#1)
    (x0 : Vec F S1024x1024 .f32) (x1 : Vec F S1x1024 .f32) (x2 : Vec F S1x1x1024x1024 .bf16) (x3 : Vec F S1x1x1024x1024 .bf16) (x4 : Vec F S1x1024 .f32) (d5 : Vec F S1024x1024 .bf16) (d7 : Vec F S1024x1024 .f32) (E : Set ℕ) (Q : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (d5) ∗ (∃ d, owns (c : Thread nD τ) arg8 fullShare (d)) ∗ owns (c : Thread nD τ) arg9 fullShare (d7) ∗ (∃ d, owns (c : Thread nD τ) arg10 fullShare (d))
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (d5) ∗ owns (c : Thread nD τ) arg8 fullShare (k0_pay2 d5 x2) ∗ owns (c : Thread nD τ) arg9 fullShare (k0_pay4 d5 x2 x3 d7) ∗ owns (c : Thread nD τ) arg10 fullShare (k0_pay5 (k0_pay4 d5 x2 x3 d7) x0 x4)) -∗ Q ⟨⟩))
      ⊢ wp frame (wpE (defs₀ (F := F)) Variants.none c none) E (cc0_mlp_fwd i arg2 harg2 arg3 harg3 arg4 harg4 arg5 harg5 arg6 harg6 arg7 harg7 arg8 harg8 arg9 harg9 arg10 harg10) Q := by
  simp only [cc0_mlp_fwd_eq_skeleton]; unfold cc0_mlp_fwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%f7, %hf7, H7⟩, ⟨%e8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
  sl_exec (disch := first | sl_exact h0 | sl_exact h1 | sl_exact h2 | sl_exact h3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _
  isplitl [H7]
  · iexists _; isplitr; swap; · iexact H7
    ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _
  iexists _; isplitr; swap; · iexact H8
  ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _

end Cert.Kernel6Ideal.Fwd

end
-- ==== Proof.Mlp.FwdLaunch.lean ====
/- The forward pass of the layer's second half. The launch: what the blocks hold point by point, the body at every point, and the whole run. -/
module

public import proofs.«01_k».proof.Proof.Gen.Kernel6Ideal.Frame
public import proofs.«01_k».proof.Proof.Gen.Kernel6Ideal.Skeleton
public import proofs.«01_k».proof.Proof.Mlp.FwdRun
public import Idealize.ShloMosaic.Lib.VecWindow
public import Idealize.ShloMosaic.Lib.Pipeline.TableIdle
public import Idealize.ShloMosaic.Lib.Pipeline.ValueKit
public import Idealize.ShloMosaic.Lib.Claim

@[expose] public section

set_option maxRecDepth 16384

noncomputable section

namespace Cert.Kernel6Ideal.Fwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)
theorem cond2_iff : ∀ t : Fin cfg0.N, k0_cond2 (grid0.coords t) = 1#1 ↔ t.val % 4 = 0 :=
  (by decide +kernel : ∀ t : Fin grid0.N, k0_cond2 (grid0.coords t) = 1#1 ↔ t.val % 4 = 0)
theorem cond3_iff : ∀ t : Fin cfg0.N, k0_cond3 (grid0.coords t) = 1#1 ↔ ¬t.val % 4 = 0 :=
  (by decide +kernel : ∀ t : Fin grid0.N, k0_cond3 (grid0.coords t) = 1#1 ↔ ¬t.val % 4 = 0)
theorem cond4_iff : ∀ t : Fin cfg0.N, k0_cond4 (grid0.coords t) = 1#1 ↔ t.val % 4 = 3 :=
  (by decide +kernel : ∀ t : Fin grid0.N, k0_cond4 (grid0.coords t) = 1#1 ↔ t.val % 4 = 3)

/-- The first point of a point's token tile. -/
def start (t : Fin cfg0.N) : Fin cfg0.N := ⟨4 * (t.val / 4), by have := t.isLt; omega⟩

theorem start_of (t : Fin cfg0.N) (h : t.val % 4 = 0) : start t = t := Fin.ext (by simp only [start]; omega)

theorem start_pred (t : Fin cfg0.N) (h : ¬t.val % 4 = 0) : start ⟨t.val - 1, Nat.lt_of_le_of_lt (Nat.sub_le _ _) t.isLt⟩ = start t :=
  Fin.ext (by simp only [start]; omega)

/-- The normalised tokens a token tile's points hold. -/
def hid (c : Dev nD) (t : Fin cfg0.N) : Vec F S1024x1024 .bf16 :=
  k0_pay1 (iblk m c 0 (start t)) (iblk m c 1 (start t))

theorem hid_start (c : Dev nD) (t : Fin cfg0.N) (h : t.val % 4 = 0) : k0_pay1 (iblk m c 0 t) (iblk m c 1 t) = hid m c t := by
  unfold hid; rw [start_of t h]

theorem relu_start (c : Dev nD) (t : Fin cfg0.N) (h : t.val % 4 = 0) :
    k0_pay2 (k0_pay1 (iblk m c 0 t) (iblk m c 1 t)) (iblk m c 2 t) = k0_pay2 (hid m c t) (iblk m c 2 t) := by
  rw [hid_start m c t h]

theorem hid_pred (c : Dev nD) (t : Fin cfg0.N) (h : ¬t.val % 4 = 0) : hid m c ⟨t.val - 1, Nat.lt_of_le_of_lt (Nat.sub_le _ _) t.isLt⟩ = hid m c t := by
  unfold hid; rw [start_pred t h]

/-- The second product's block after point `n`: the columns' products so far added up. -/
def acc (c : Dev nD) : (n : ℕ) → n < cfg0.N → Vec F S1024x1024 .f32
  | 0, h => k0_pay3 (hid m c ⟨0, h⟩) (iblk m c 2 ⟨0, h⟩) (iblk m c 3 ⟨0, h⟩)
  | n + 1, h => if (n + 1) % 4 = 0 then k0_pay3 (hid m c ⟨n + 1, h⟩) (iblk m c 2 ⟨n + 1, h⟩) (iblk m c 3 ⟨n + 1, h⟩)
      else k0_pay4 (hid m c ⟨n + 1, h⟩) (iblk m c 2 ⟨n + 1, h⟩) (iblk m c 3 ⟨n + 1, h⟩) (acc c n (Nat.lt_of_succ_lt h))

theorem acc_start (c : Dev nD) (t : Fin cfg0.N) (h : t.val % 4 = 0) :
    acc m c t.val t.isLt = k0_pay3 (hid m c t) (iblk m c 2 t) (iblk m c 3 t) := by
  obtain ⟨n, hn⟩ := t
  cases n with
  | zero => rfl
  | succ n => exact if_pos h

theorem acc_step (c : Dev nD) (t : Fin cfg0.N) (h : ¬t.val % 4 = 0) :
    acc m c t.val t.isLt = k0_pay4 (hid m c t) (iblk m c 2 t) (iblk m c 3 t) (acc m c (t.val - 1) (Nat.lt_of_le_of_lt (Nat.sub_le _ _) t.isLt)) := by
  obtain ⟨n, hn⟩ := t
  cases n with
  | zero => exact absurd rfl h
  | succ n => exact if_neg h

theorem acc_first (c : Dev nD) (t : Fin cfg0.N) (h : t.val % 4 = 0) :
    k0_pay3 (k0_pay1 (iblk m c 0 t) (iblk m c 1 t)) (iblk m c 2 t) (iblk m c 3 t) = acc m c t.val t.isLt := by
  rw [acc_start m c t h, hid_start m c t h]

theorem out_last (c : Dev nD) (t : Fin cfg0.N) (h : ¬t.val % 4 = 0) :
    k0_pay5 (k0_pay4 (hid m c t) (iblk m c 2 t) (iblk m c 3 t) (acc m c (t.val - 1) (Nat.lt_of_le_of_lt (Nat.sub_le _ _) t.isLt))) (iblk m c 0 t) (iblk m c 4 t)
      = k0_pay5 (acc m c t.val t.isLt) (iblk m c 0 t) (iblk m c 4 t) := by
  rw [acc_step m c t h]

/-! The staging buffers at a point. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x1024 .f32 := win0_8.stage (cfg0.slots t 8)
abbrev hs8 (t : Fin cfg0.N) : (ms8 t).IsWhole := hstage0_8 ((cfg0.slots t 8).cast nbuf0_8)

/-- The proof data: inputs at their blocks, the results' blocks at what the points so far leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hid m c t
    | ⟨6, _⟩ => k0_pay2 (hid m c t) (iblk m c 2 t)
    | ⟨7, _⟩ => acc m c t.val t.isLt
    | ⟨8, _⟩ => k0_pay5 (acc m c t.val t.isLt) (iblk m c 0 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := rfl
theorem after1 (c : Dev nD) (t : Fin cfg0.N) : (dats m 0 c).after 1 t = iblk m c 1 t := rfl
theorem after2 (c : Dev nD) (t : Fin cfg0.N) : (dats m 0 c).after 2 t = iblk m c 2 t := rfl
theorem after3 (c : Dev nD) (t : Fin cfg0.N) : (dats m 0 c).after 3 t = iblk m c 3 t := rfl
theorem after4 (c : Dev nD) (t : Fin cfg0.N) : (dats m 0 c).after 4 t = iblk m c 4 t := rfl
theorem after5 (c : Dev nD) (t : Fin cfg0.N) : (dats m 0 c).after 5 t = hid m c t := rfl
theorem after6 (c : Dev nD) (t : Fin cfg0.N) : (dats m 0 c).after 6 t = k0_pay2 (hid m c t) (iblk m c 2 t) := rfl
theorem after7 (c : Dev nD) (t : Fin cfg0.N) : (dats m 0 c).after 7 t = acc m c t.val t.isLt := rfl
theorem after8 (c : Dev nD) (t : Fin cfg0.N) : (dats m 0 c).after 8 t = k0_pay5 (acc m c t.val t.isLt) (iblk m c 0 t) (iblk m c 4 t) := rfl
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d

/-- What a point may hand back of a block: what the proof data says, a block it leaves alone holding that already. -/
theorem leaf (c : Dev nD) (w : Fin cfg0.W) (t : Fin cfg0.N) (X : (cfg0.win w).block.Idx → Elt F (cfg0.win w).elt) (hX : X = (dats m 0 c).after w t)
    (h : cfg0.idle w (grid0.coords t) = true → (cfg0.win w).flush t = false → ∃ d, (dats m 0 c).before w t d = (dats m 0 c).after w t) :
    (owns (c : Thread nD τ) ((cfg0.win w).stage (cfg0.slots t w)) fullShare X : sProp 𝕄) ⊢ (dats m 0 c).leavesExact w t := by
  subst hX
  by_cases hi : cfg0.idle w (grid0.coords t) = true
  · by_cases hf : (cfg0.win w).flush t = true
    · unfold Dat.leavesExact
      rw [show cfg0.idle w (cfg0.grid.coords t) = true from hi, hf]
    · rw [Dat.leavesExact_idle _ w t hi (Bool.eq_false_iff.mpr hf)]
      obtain ⟨d, hd⟩ := h hi (Bool.eq_false_iff.mpr hf)
      rw [← hd]
      iintro H
      iexists d
      iexact H
  · unfold Dat.leavesExact
    rw [show cfg0.idle w (cfg0.grid.coords t) = false from Bool.eq_false_iff.mpr hi]

theorem carry5 (c : Dev nD) (t : Fin cfg0.N) (h : t.val ≠ 0) (hi : cfg0.idle 5 (grid0.coords t) = true) (hf : cfg0.fresh 5 t.val = false) :
    (dats m 0 c).after 5 t = (dats m 0 c).after 5 ⟨t.val - 1, by omega⟩ := by
  have hi' : ¬t.val % 4 = 0 := (by decide +kernel : ∀ t : Fin grid0.N, cfg0.idle 5 (grid0.coords t) = true → ¬t.val % 4 = 0) t hi
  rw [after5, after5]
  unfold hid; rw [start_pred t hi']

theorem fresh5 (t : Fin cfg0.N) : cfg0.fresh 5 t.val = true ↔ t.val % 4 = 0 :=
  (by decide +kernel : ∀ t : Fin cfg0.N, cfg0.fresh 5 t.val = true ↔ t.val % 4 = 0) t

theorem before5 (c : Dev nD) (t : Fin cfg0.N) (h : ¬(t.val % 4 = 0)) (d) : (dats m 0 c).before 5 t d = (dats m 0 c).after 5 ⟨t.val - 1, Nat.lt_of_le_of_lt (Nat.sub_le _ _) t.isLt⟩ := by
  rw [Dat.before_out_traj _ 5 rfl (fun _ _ => rfl) (carry5 m c) t.val t rfl d, if_neg fun hf => h ((fresh5 t).mp hf)]

theorem leaf5 (c : Dev nD) (t : Fin cfg0.N) (X : Vec F S1024x1024 .bf16) (hX : X = hid m c t) :
    (owns (c : Thread nD τ) (ms5 t) fullShare X : sProp 𝕄) ⊢ (dats m 0 c).leavesExact 5 t :=
  leaf m c 5 t X hX fun hi _ => by
    simp only [Dat.before_out_traj _ 5 rfl (fun _ _ => rfl) (carry5 m c) t.val t rfl]
    by_cases hf : cfg0.fresh 5 t.val = true
    · exact ⟨_, if_pos hf⟩
    · refine ⟨(dats m 0 c).after 5 t, (if_neg hf).trans (carry5 m c t (fun e => hf ?_) hi (Bool.eq_false_iff.mpr hf)).symm⟩
      rw [e]; rfl

theorem carry7 (c : Dev nD) (t : Fin cfg0.N) (h : t.val ≠ 0) (hi : cfg0.idle 7 (grid0.coords t) = true) (hf : cfg0.fresh 7 t.val = false) :
    (dats m 0 c).after 7 t = (dats m 0 c).after 7 ⟨t.val - 1, by omega⟩ := by
  have hi' : ¬t.val % 4 = 0 := (by decide +kernel : ∀ t : Fin grid0.N, cfg0.idle 7 (grid0.coords t) = true → ¬t.val % 4 = 0) t hi
  rw [after7, after7]
  exact absurd hi (by revert hi; exact (by decide +kernel : ∀ t : Fin grid0.N, cfg0.idle 7 (grid0.coords t) = true → ¬cfg0.idle 7 (grid0.coords t) = true) t)

theorem fresh7 (t : Fin cfg0.N) : cfg0.fresh 7 t.val = true ↔ t.val % 4 = 0 :=
  (by decide +kernel : ∀ t : Fin cfg0.N, cfg0.fresh 7 t.val = true ↔ t.val % 4 = 0) t

theorem before7 (c : Dev nD) (t : Fin cfg0.N) (h : ¬(t.val % 4 = 0)) (d) : (dats m 0 c).before 7 t d = (dats m 0 c).after 7 ⟨t.val - 1, Nat.lt_of_le_of_lt (Nat.sub_le _ _) t.isLt⟩ := by
  rw [Dat.before_out_traj _ 7 rfl (fun _ _ => rfl) (carry7 m c) t.val t rfl d, if_neg fun hf => h ((fresh7 t).mp hf)]

theorem leaf7 (c : Dev nD) (t : Fin cfg0.N) (X : Vec F S1024x1024 .f32) (hX : X = acc m c t.val t.isLt) :
    (owns (c : Thread nD τ) (ms7 t) fullShare X : sProp 𝕄) ⊢ (dats m 0 c).leavesExact 7 t :=
  leaf m c 7 t X hX fun hi _ => by
    simp only [Dat.before_out_traj _ 7 rfl (fun _ _ => rfl) (carry7 m c) t.val t rfl]
    by_cases hf : cfg0.fresh 7 t.val = true
    · exact ⟨_, if_pos hf⟩
    · refine ⟨(dats m 0 c).after 7 t, (if_neg hf).trans (carry7 m c t (fun e => hf ?_) hi (Bool.eq_false_iff.mpr hf)).symm⟩
      rw [e]; rfl

theorem leaf0 (c : Dev nD) (t : Fin cfg0.N) (X : Vec F S1024x1024 .f32) (hX : X = iblk m c 0 t) :
    (owns (c : Thread nD τ) (ms0 t) fullShare X : sProp 𝕄) ⊢ (dats m 0 c).leavesExact 0 t :=
  leaf m c 0 t X hX fun hi _ => absurd hi Bool.false_ne_true

theorem leaf1 (c : Dev nD) (t : Fin cfg0.N) (X : Vec F S1x1024 .f32) (hX : X = iblk m c 1 t) :
    (owns (c : Thread nD τ) (ms1 t) fullShare X : sProp 𝕄) ⊢ (dats m 0 c).leavesExact 1 t :=
  leaf m c 1 t X hX fun hi _ => absurd hi Bool.false_ne_true

theorem leaf2 (c : Dev nD) (t : Fin cfg0.N) (X : Vec F S1x1x1024x1024 .bf16) (hX : X = iblk m c 2 t) :
    (owns (c : Thread nD τ) (ms2 t) fullShare X : sProp 𝕄) ⊢ (dats m 0 c).leavesExact 2 t :=
  leaf m c 2 t X hX fun hi _ => absurd hi Bool.false_ne_true

theorem leaf3 (c : Dev nD) (t : Fin cfg0.N) (X : Vec F S1x1x1024x1024 .bf16) (hX : X = iblk m c 3 t) :
    (owns (c : Thread nD τ) (ms3 t) fullShare X : sProp 𝕄) ⊢ (dats m 0 c).leavesExact 3 t :=
  leaf m c 3 t X hX fun hi _ => absurd hi Bool.false_ne_true

theorem leaf4 (c : Dev nD) (t : Fin cfg0.N) (X : Vec F S1x1024 .f32) (hX : X = iblk m c 4 t) :
    (owns (c : Thread nD τ) (ms4 t) fullShare X : sProp 𝕄) ⊢ (dats m 0 c).leavesExact 4 t :=
  leaf m c 4 t X hX fun hi _ => absurd hi Bool.false_ne_true

theorem leaf6 (c : Dev nD) (t : Fin cfg0.N) (X : Vec F S1024x1024 .bf16) (hX : X = k0_pay2 (hid m c t) (iblk m c 2 t)) :
    (owns (c : Thread nD τ) (ms6 t) fullShare X : sProp 𝕄) ⊢ (dats m 0 c).leavesExact 6 t :=
  leaf m c 6 t X hX fun hi _ => absurd hi Bool.false_ne_true

theorem leaf8 (c : Dev nD) (t : Fin cfg0.N) (h : t.val % 4 = 3) (X : Vec F S1024x1024 .f32) (hX : X = k0_pay5 (acc m c t.val t.isLt) (iblk m c 0 t) (iblk m c 4 t)) :
    (owns (c : Thread nD τ) (ms8 t) fullShare X : sProp 𝕄) ⊢ (dats m 0 c).leavesExact 8 t :=
  leaf m c 8 t X hX fun hi _ => absurd h ((by decide +kernel : ∀ t : Fin grid0.N, cfg0.idle 8 (grid0.coords t) = true → ¬t.val % 4 = 3) t hi)

theorem keep8 (c : Dev nD) (t : Fin cfg0.N) (h : ¬t.val % 4 = 3) (d) :
    (owns (c : Thread nD τ) (ms8 t) fullShare ((dats m 0 c).before 8 t d) : sProp 𝕄) ⊢ (dats m 0 c).leavesExact 8 t := by
  rw [Dat.leavesExact_idle _ 8 t ((by decide +kernel : ∀ t : Fin grid0.N, ¬t.val % 4 = 3 → cfg0.idle 8 (grid0.coords t) = true) t h)
    ((by decide +kernel : ∀ t : Fin grid0.N, ¬t.val % 4 = 3 → (cfg0.win 8).flush t = false) t h)]
  iintro H
  iexists d
  iexact H

/-- What the body is called with at a point, -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  simp only [before0, before1, before2, before3, before4]
  by_cases h0 : t.val % 4 = 0
  · have h3 : ¬t.val % 4 = 3 := by omega
    iintro ⟨HP, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (run_start c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((cond1_iff t).mpr h0) ((cond2_iff t).mpr h0) (fun h => (cond3_iff t).mp h h0) (fun h => h3 ((cond4_iff t).mp h)) (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    iintro ⟨H0, H1, H2, H3, H4, H5, H6, H7, H8⟩
    isplitl [HP]; · iexact HP
    isplitl [Ho]; · iexact Ho
    isplitl [H0]; · iapply (leaf0 m c t  _ rfl); iexact H0
    isplitl [H1]; · iapply (leaf1 m c t  _ rfl); iexact H1
    isplitl [H2]; · iapply (leaf2 m c t  _ rfl); iexact H2
    isplitl [H3]; · iapply (leaf3 m c t  _ rfl); iexact H3
    isplitl [H4]; · iapply (leaf4 m c t  _ rfl); iexact H4
    isplitl [H5]; · iapply (leaf5 m c t  _ (hid_start m c t h0)); iexact H5
    isplitl [H6]; · iapply (leaf6 m c t  _ (relu_start m c t h0)); iexact H6
    isplitl [H7]; · iapply (leaf7 m c t  _ (acc_first m c t h0)); iexact H7
    iapply (keep8 m c t h3 _); iexact H8
  · simp only [before5 m c t h0, before7 m c t h0, after5, after7, hid_pred m c t h0]
    by_cases h3 : t.val % 4 = 3
    · iintro ⟨HP, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      iapply (run_end c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((cond1_iff t).mp h)) (fun h => h0 ((cond2_iff t).mp h)) ((cond3_iff t).mpr h0) ((cond4_iff t).mpr h3) (iblk m c 0 t) (iblk m c 1 t) (iblk m c 2 t) (iblk m c 3 t) (iblk m c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexists _; iexact H8
      iintro ⟨H0, H1, H2, H3, H4, H5, H6, H7, H8⟩
      isplitl [HP]; · iexact HP
      isplitl [Ho]; · iexact Ho
      isplitl [H0]; · iapply (leaf0 m c t  _ rfl); iexact H0
      isplitl [H1]; · iapply (leaf1 m c t  _ rfl); iexact H1
      isplitl [H2]; · iapply (leaf2 m c t  _ rfl); iexact H2
      isplitl [H3]; · iapply (leaf3 m c t  _ rfl); iexact H3
      isplitl [H4]; · iapply (leaf4 m c t  _ rfl); iexact H4
      isplitl [H5]; · iapply (leaf5 m c t  _ rfl); iexact H5
      isplitl [H6]; · iapply (leaf6 m c t  _ rfl); iexact H6
      isplitl [H7]; · iapply (leaf7 m c t  _ (acc_step m c t h0).symm); iexact H7
      iapply (leaf8 m c t h3 _ (out_last m c t h0)); iexact H8
    · iintro ⟨HP, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      iapply (run_mid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((cond1_iff t).mp h)) (fun h => h0 ((cond2_iff t).mp h)) ((cond3_iff t).mpr h0) (fun h => h3 ((cond4_iff t).mp h)) (iblk m c 0 t) (iblk m c 1 t) (iblk m c 2 t) (iblk m c 3 t) (iblk m c 4 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      iintro ⟨H0, H1, H2, H3, H4, H5, H6, H7, H8⟩
      isplitl [HP]; · iexact HP
      isplitl [Ho]; · iexact Ho
      isplitl [H0]; · iapply (leaf0 m c t  _ rfl); iexact H0
      isplitl [H1]; · iapply (leaf1 m c t  _ rfl); iexact H1
      isplitl [H2]; · iapply (leaf2 m c t  _ rfl); iexact H2
      isplitl [H3]; · iapply (leaf3 m c t  _ rfl); iexact H3
      isplitl [H4]; · iapply (leaf4 m c t  _ rfl); iexact H4
      isplitl [H5]; · iapply (leaf5 m c t  _ rfl); iexact H5
      isplitl [H6]; · iapply (leaf6 m c t  _ rfl); iexact H6
      isplitl [H7]; · iapply (leaf7 m c t  _ (acc_step m c t h0).symm); iexact H7
      iapply (keep8 m c t h3 _); iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact sound_body m c t

set_option backward.isDefEq.respectTransparency.types false in
/-- The launch: every array of the pipeline at what the points leave, every other buffer as the region found it, every
    semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame: the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel6Ideal.Fwd

end
-- ==== Proof.Mlp.FirstLaunch.lean ====
/- The first layer's norm and its product by the MLP's first weight. One grid point, run, and the launch: what the blocks hold point by point. -/
module

public import proofs.«01_k».proof.Proof.Gen.Kernel14Ideal.Frame
public import proofs.«01_k».proof.Proof.Gen.Kernel14Ideal.Skeleton
public import Idealize.ShloMosaic.Lib.VecWindow
public import Idealize.ShloMosaic.Lib.Pipeline.TableIdle
public import Idealize.ShloMosaic.Lib.Pipeline.ValueKit
public import Idealize.ShloMosaic.Lib.Claim

@[expose] public section

set_option maxRecDepth 16384

noncomputable section

namespace Cert.Kernel14Ideal.First

open Cert.Kernel14Ideal Cert.Kernel14Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point of a token tile. -/
theorem run_start (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1x1024x1024 .bf16) (harg4 : arg4.IsWhole) (arg5 : Memref sig .tc .vmem S2048x1024 .bf16) (harg5 : arg5.IsWhole) (arg6 : Memref sig .tc .vmem S2048x1024 .bf16) (harg6 : arg6.IsWhole) (h0 : k0_cond1 i = 1#1)
    (x0 : Vec F S2048x1024 .f32) (x1 : Vec F S1x1024 .f32) (x2 : Vec F S1x1x1024x1024 .bf16) (E : Set ℕ) (Q : PUnit → sProp 𝕄) :
    iprop(owns (c : Thread nD τ) arg2 fullShare (x0) ∗ owns (c : Thread nD τ) arg3 fullShare (x1) ∗ owns (c : Thread nD τ) arg4 fullShare (x2) ∗ (∃ d, owns (c : Thread nD τ) arg5 fullShare (d)) ∗ (∃ d, owns (c : Thread nD τ) arg6 fullShare (d))
        ∗ (iprop(owns (c : Thread nD τ) arg2 fullShare (x0) ∗ owns (c : Thread nD τ) arg3 fullShare (x1) ∗ owns (c : Thread nD τ) arg4 fullShare (x2) ∗ owns (c : Thread nD τ) arg5 fullShare (k0_pay1 x0 x1) ∗ owns (c : Thread nD τ) arg6 fullShare (k0_pay2 (k0_pay1 x0 x1) x2)) -∗ Q ⟨⟩))
      ⊢ wp frame (wpE (defs₀ (F := F)) Variants.none c none) E (cc0_mlp_up_fwd i arg2 harg2 arg3 harg3 arg4 harg4 arg5 harg5 arg6 harg6) Q := by
  simp only [cc0_mlp_up_fwd_eq_skeleton]; unfold cc0_mlp_up_fwd_skel
  unfold owns
  iintro ⟨⟨%f0, %hf0, H0⟩, ⟨%f1, %hf1, H1⟩, ⟨%f2, %hf2, H2⟩, ⟨%e3, %f3, -, H3⟩, ⟨%e4, %f4, -, H4⟩, Hk⟩
  obtain rfl := harg2.eq_unread hf0; obtain rfl := harg3.eq_unread hf1; obtain rfl := harg4.eq_unread hf2
  sl_exec (disch := sl_exact h0)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _
  iexists _; isplitr; swap; · iexact H4
  ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _

set_option maxHeartbeats 1000000 in
/-- A later point of a token tile. -/
theorem run_step (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1x1024x1024 .bf16) (harg4 : arg4.IsWhole) (arg5 : Memref sig .tc .vmem S2048x1024 .bf16) (harg5 : arg5.IsWhole) (arg6 : Memref sig .tc .vmem S2048x1024 .bf16) (harg6 : arg6.IsWhole) (h0 : ¬k0_cond1 i = 1#1)
    (x0 : Vec F S2048x1024 .f32) (x1 : Vec F S1x1024 .f32) (x2 : Vec F S1x1x1024x1024 .bf16) (d3 : Vec F S2048x1024 .bf16) (E : Set ℕ) (Q : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (d3) ∗ (∃ d, owns (c : Thread nD τ) arg6 fullShare (d))
        ∗ (iprop(owns (c : Thread nD τ) arg2 fullShare (x0) ∗ owns (c : Thread nD τ) arg3 fullShare (x1) ∗ owns (c : Thread nD τ) arg4 fullShare (x2) ∗ owns (c : Thread nD τ) arg5 fullShare (d3) ∗ owns (c : Thread nD τ) arg6 fullShare (k0_pay2 d3 x2)) -∗ Q ⟨⟩))
      ⊢ wp frame (wpE (defs₀ (F := F)) Variants.none c none) E (cc0_mlp_up_fwd i arg2 harg2 arg3 harg3 arg4 harg4 arg5 harg5 arg6 harg6) Q := by
  simp only [cc0_mlp_up_fwd_eq_skeleton]; unfold cc0_mlp_up_fwd_skel
  unfold owns
  iintro ⟨⟨%f0, %hf0, H0⟩, ⟨%f1, %hf1, H1⟩, ⟨%f2, %hf2, H2⟩, ⟨%f3, %hf3, H3⟩, ⟨%e4, %f4, -, H4⟩, Hk⟩
  obtain rfl := harg2.eq_unread hf0; obtain rfl := harg3.eq_unread hf1; obtain rfl := harg4.eq_unread hf2; obtain rfl := harg5.eq_unread hf3
  sl_exec (disch := sl_exact h0)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  iexists _; isplitr; swap; · iexact H4
  ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _

variable (m : (ℓ : Loc nD τ sig) → Buf (Elt F) ℓ) (ρ : Dev nD → PrngReg)

theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The first point of a point's token tile. -/
def start (t : Fin cfg0.N) : Fin cfg0.N := ⟨4 * (t.val / 4), by have := t.isLt; omega⟩

theorem start_of (t : Fin cfg0.N) (h : t.val % 4 = 0) : start t = t := Fin.ext (by simp only [start]; omega)

theorem start_pred (t : Fin cfg0.N) (h : ¬t.val % 4 = 0) : start ⟨t.val - 1, Nat.lt_of_le_of_lt (Nat.sub_le _ _) t.isLt⟩ = start t :=
  Fin.ext (by simp only [start]; omega)

/-- The normalised tokens a token tile's points hold. -/
def hid (c : Dev nD) (t : Fin cfg0.N) : Vec F S2048x1024 .bf16 :=
  k0_pay1 (iblk m c 0 (start t)) (iblk m c 1 (start t))

theorem hid_start (c : Dev nD) (t : Fin cfg0.N) (h : t.val % 4 = 0) : k0_pay1 (iblk m c 0 t) (iblk m c 1 t) = hid m c t := by
  unfold hid; rw [start_of t h]

theorem out_start (c : Dev nD) (t : Fin cfg0.N) (h : t.val % 4 = 0) :
    k0_pay2 (k0_pay1 (iblk m c 0 t) (iblk m c 1 t)) (iblk m c 2 t) = k0_pay2 (hid m c t) (iblk m c 2 t) := by
  rw [hid_start m c t h]

theorem hid_pred (c : Dev nD) (t : Fin cfg0.N) (h : ¬t.val % 4 = 0) : hid m c ⟨t.val - 1, Nat.lt_of_le_of_lt (Nat.sub_le _ _) t.isLt⟩ = hid m c t := by
  unfold hid; rw [start_pred t h]

/-! The staging buffers at a point. -/
abbrev ms0 (t : Fin cfg0.N) : Memref sig .tc .vmem S2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1024 .bf16 := win0_4.stage (cfg0.slots t 4)
abbrev hs4 (t : Fin cfg0.N) : (ms4 t).IsWhole := hstage0_4 ((cfg0.slots t 4).cast nbuf0_4)

/-- The proof data: inputs at their blocks, the normalised tokens, and the relu of the product by the point's columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hid m c t
    | ⟨4, _⟩ => k0_pay2 (hid m c t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := rfl
theorem after1 (c : Dev nD) (t : Fin cfg0.N) : (dats m 0 c).after 1 t = iblk m c 1 t := rfl
theorem after2 (c : Dev nD) (t : Fin cfg0.N) : (dats m 0 c).after 2 t = iblk m c 2 t := rfl
theorem after3 (c : Dev nD) (t : Fin cfg0.N) : (dats m 0 c).after 3 t = hid m c t := rfl
theorem after4 (c : Dev nD) (t : Fin cfg0.N) : (dats m 0 c).after 4 t = k0_pay2 (hid m c t) (iblk m c 2 t) := rfl
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d

/-- What a point may hand back of a block: what the proof data says, a block it leaves alone holding that already. -/
theorem leaf (c : Dev nD) (w : Fin cfg0.W) (t : Fin cfg0.N) (X : (cfg0.win w).block.Idx → Elt F (cfg0.win w).elt) (hX : X = (dats m 0 c).after w t)
    (h : cfg0.idle w (grid0.coords t) = true → (cfg0.win w).flush t = false → ∃ d, (dats m 0 c).before w t d = (dats m 0 c).after w t) :
    (owns (c : Thread nD τ) ((cfg0.win w).stage (cfg0.slots t w)) fullShare X : sProp 𝕄) ⊢ (dats m 0 c).leavesExact w t := by
  subst hX
  by_cases hi : cfg0.idle w (grid0.coords t) = true
  · by_cases hf : (cfg0.win w).flush t = true
    · unfold Dat.leavesExact
      rw [show cfg0.idle w (cfg0.grid.coords t) = true from hi, hf]
    · rw [Dat.leavesExact_idle _ w t hi (Bool.eq_false_iff.mpr hf)]
      obtain ⟨d, hd⟩ := h hi (Bool.eq_false_iff.mpr hf)
      rw [← hd]
      iintro H
      iexists d
      iexact H
  · unfold Dat.leavesExact
    rw [show cfg0.idle w (cfg0.grid.coords t) = false from Bool.eq_false_iff.mpr hi]

theorem carry3 (c : Dev nD) (t : Fin cfg0.N) (h : t.val ≠ 0) (hi : cfg0.idle 3 (grid0.coords t) = true) (hf : cfg0.fresh 3 t.val = false) :
    (dats m 0 c).after 3 t = (dats m 0 c).after 3 ⟨t.val - 1, by omega⟩ := by
  have hi' : ¬t.val % 4 = 0 := (by decide +kernel : ∀ t : Fin grid0.N, cfg0.idle 3 (grid0.coords t) = true → ¬t.val % 4 = 0) t hi
  rw [after3, after3]
  unfold hid; rw [start_pred t hi']

theorem fresh3 (t : Fin cfg0.N) : cfg0.fresh 3 t.val = true ↔ t.val % 4 = 0 :=
  (by decide +kernel : ∀ t : Fin cfg0.N, cfg0.fresh 3 t.val = true ↔ t.val % 4 = 0) t

theorem before3 (c : Dev nD) (t : Fin cfg0.N) (h : ¬(t.val % 4 = 0)) (d) : (dats m 0 c).before 3 t d = (dats m 0 c).after 3 ⟨t.val - 1, Nat.lt_of_le_of_lt (Nat.sub_le _ _) t.isLt⟩ := by
  rw [Dat.before_out_traj _ 3 rfl (fun _ _ => rfl) (carry3 m c) t.val t rfl d, if_neg fun hf => h ((fresh3 t).mp hf)]

theorem leaf3 (c : Dev nD) (t : Fin cfg0.N) (X : Vec F S2048x1024 .bf16) (hX : X = hid m c t) :
    (owns (c : Thread nD τ) (ms3 t) fullShare X : sProp 𝕄) ⊢ (dats m 0 c).leavesExact 3 t :=
  leaf m c 3 t X hX fun hi _ => by
    simp only [Dat.before_out_traj _ 3 rfl (fun _ _ => rfl) (carry3 m c) t.val t rfl]
    by_cases hf : cfg0.fresh 3 t.val = true
    · exact ⟨_, if_pos hf⟩
    · refine ⟨(dats m 0 c).after 3 t, (if_neg hf).trans (carry3 m c t (fun e => hf ?_) hi (Bool.eq_false_iff.mpr hf)).symm⟩
      rw [e]; rfl

theorem leaf0 (c : Dev nD) (t : Fin cfg0.N) (X : Vec F S2048x1024 .f32) (hX : X = iblk m c 0 t) :
    (owns (c : Thread nD τ) (ms0 t) fullShare X : sProp 𝕄) ⊢ (dats m 0 c).leavesExact 0 t :=
  leaf m c 0 t X hX fun hi _ => absurd hi Bool.false_ne_true

theorem leaf1 (c : Dev nD) (t : Fin cfg0.N) (X : Vec F S1x1024 .f32) (hX : X = iblk m c 1 t) :
    (owns (c : Thread nD τ) (ms1 t) fullShare X : sProp 𝕄) ⊢ (dats m 0 c).leavesExact 1 t :=
  leaf m c 1 t X hX fun hi _ => absurd hi Bool.false_ne_true

theorem leaf2 (c : Dev nD) (t : Fin cfg0.N) (X : Vec F S1x1x1024x1024 .bf16) (hX : X = iblk m c 2 t) :
    (owns (c : Thread nD τ) (ms2 t) fullShare X : sProp 𝕄) ⊢ (dats m 0 c).leavesExact 2 t :=
  leaf m c 2 t X hX fun hi _ => absurd hi Bool.false_ne_true

theorem leaf4 (c : Dev nD) (t : Fin cfg0.N) (X : Vec F S2048x1024 .bf16) (hX : X = k0_pay2 (hid m c t) (iblk m c 2 t)) :
    (owns (c : Thread nD τ) (ms4 t) fullShare X : sProp 𝕄) ⊢ (dats m 0 c).leavesExact 4 t :=
  leaf m c 4 t X hX fun hi _ => absurd hi Bool.false_ne_true

/-- What the body is called with at a point, -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t)

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  simp only [before0, before1, before2]
  by_cases h0 : t.val % 4 = 0
  · iintro ⟨HP, Ho, ⟨%e0, H0⟩, ⟨%e1, H1⟩, ⟨%e2, H2⟩, ⟨%e3, H3⟩, ⟨%e4, H4⟩⟩
    iapply (run_start c (grid0.coords t) (ms0 t) (hs0 t) (ms1 t) (hs1 t) (ms2 t) (hs2 t) (ms3 t) (hs3 t) (ms4 t) (hs4 t) ((cond1_iff t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HP]; · iexact HP
    isplitl [Ho]; · iexact Ho
    isplitl [H0]; · iapply (leaf0 m c t _ rfl); iexact H0
    isplitl [H1]; · iapply (leaf1 m c t _ rfl); iexact H1
    isplitl [H2]; · iapply (leaf2 m c t _ rfl); iexact H2
    isplitl [H3]; · iapply (leaf3 m c t _ (hid_start m c t h0)); iexact H3
    iapply (leaf4 m c t _ (out_start m c t h0)); iexact H4
  · simp only [before3 m c t h0, after3, hid_pred m c t h0]
    iintro ⟨HP, Ho, ⟨%e0, H0⟩, ⟨%e1, H1⟩, ⟨%e2, H2⟩, ⟨%e3, H3⟩, ⟨%e4, H4⟩⟩
    iapply (run_step c (grid0.coords t) (ms0 t) (hs0 t) (ms1 t) (hs1 t) (ms2 t) (hs2 t) (ms3 t) (hs3 t) (ms4 t) (hs4 t) (fun h => h0 ((cond1_iff t).mp h)) (iblk m c 0 t) (iblk m c 1 t) (iblk m c 2 t) _ Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HP]; · iexact HP
    isplitl [Ho]; · iexact Ho
    isplitl [H0]; · iapply (leaf0 m c t _ rfl); iexact H0
    isplitl [H1]; · iapply (leaf1 m c t _ rfl); iexact H1
    isplitl [H2]; · iapply (leaf2 m c t _ rfl); iexact H2
    isplitl [H3]; · iapply (leaf3 m c t _ rfl); iexact H3
    iapply (leaf4 m c t _ rfl); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact sound_body m c t

set_option backward.isDefEq.respectTransparency.types false in
/-- The launch: every array of the pipeline at what the points leave, every other buffer as the region found it, every
    semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame: the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel14Ideal.First

end
-- ==== Proof.Proj.KeyValueLaunch.lean ====
/- The keys' and values' projection and the norm before it. One grid point, run, and the launch: what the blocks hold point by point. -/
module

public import proofs.«01_k».proof.Proof.Gen.Kernel15Ideal.Frame
public import proofs.«01_k».proof.Proof.Gen.Kernel15Ideal.Skeleton
public import Idealize.ShloMosaic.Lib.VecWindow
public import Idealize.ShloMosaic.Lib.Pipeline.TableIdle
public import Idealize.ShloMosaic.Lib.Pipeline.ValueKit
public import Idealize.ShloMosaic.Lib.Claim

@[expose] public section

set_option maxRecDepth 16384

noncomputable section

namespace Cert.Kernel15Ideal.KeyValue

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point of a token tile. -/
theorem run_start (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1x1024x512 .bf16) (harg4 : arg4.IsWhole) (arg5 : Memref sig .tc .vmem S2048x1024 .bf16) (harg5 : arg5.IsWhole) (arg6 : Memref sig .tc .vmem S2048x512 .bf16) (harg6 : arg6.IsWhole) (h0 : k0_cond1 i = 1#1)
    (x0 : Vec F S2048x1024 .f32) (x1 : Vec F S1x1024 .f32) (x2 : Vec F S1x1x1024x512 .bf16) (E : Set ℕ) (Q : PUnit → sProp 𝕄) :
    iprop(owns (c : Thread nD τ) arg2 fullShare (x0) ∗ owns (c : Thread nD τ) arg3 fullShare (x1) ∗ owns (c : Thread nD τ) arg4 fullShare (x2) ∗ (∃ d, owns (c : Thread nD τ) arg5 fullShare (d)) ∗ (∃ d, owns (c : Thread nD τ) arg6 fullShare (d))
        ∗ (iprop(owns (c : Thread nD τ) arg2 fullShare (x0) ∗ owns (c : Thread nD τ) arg3 fullShare (x1) ∗ owns (c : Thread nD τ) arg4 fullShare (x2) ∗ owns (c : Thread nD τ) arg5 fullShare (k0_pay1 x0 x1) ∗ owns (c : Thread nD τ) arg6 fullShare (k0_pay2 (k0_pay1 x0 x1) x2)) -∗ Q ⟨⟩))
      ⊢ wp frame (wpE (defs₀ (F := F)) Variants.none c none) E (cc0_kv_proj_fwd i arg2 harg2 arg3 harg3 arg4 harg4 arg5 harg5 arg6 harg6) Q := by
  simp only [cc0_kv_proj_fwd_eq_skeleton]; unfold cc0_kv_proj_fwd_skel
  unfold owns
  iintro ⟨⟨%f0, %hf0, H0⟩, ⟨%f1, %hf1, H1⟩, ⟨%f2, %hf2, H2⟩, ⟨%e3, %f3, -, H3⟩, ⟨%e4, %f4, -, H4⟩, Hk⟩
  obtain rfl := harg2.eq_unread hf0; obtain rfl := harg3.eq_unread hf1; obtain rfl := harg4.eq_unread hf2
  sl_exec (disch := sl_exact h0)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _
  iexists _; isplitr; swap; · iexact H4
  ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _

set_option maxHeartbeats 1000000 in
/-- A later point of a token tile. -/
theorem run_step (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1x1024x512 .bf16) (harg4 : arg4.IsWhole) (arg5 : Memref sig .tc .vmem S2048x1024 .bf16) (harg5 : arg5.IsWhole) (arg6 : Memref sig .tc .vmem S2048x512 .bf16) (harg6 : arg6.IsWhole) (h0 : ¬k0_cond1 i = 1#1)
    (x0 : Vec F S2048x1024 .f32) (x1 : Vec F S1x1024 .f32) (x2 : Vec F S1x1x1024x512 .bf16) (d3 : Vec F S2048x1024 .bf16) (E : Set ℕ) (Q : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (d3) ∗ (∃ d, owns (c : Thread nD τ) arg6 fullShare (d))
        ∗ (iprop(owns (c : Thread nD τ) arg2 fullShare (x0) ∗ owns (c : Thread nD τ) arg3 fullShare (x1) ∗ owns (c : Thread nD τ) arg4 fullShare (x2) ∗ owns (c : Thread nD τ) arg5 fullShare (d3) ∗ owns (c : Thread nD τ) arg6 fullShare (k0_pay2 d3 x2)) -∗ Q ⟨⟩))
      ⊢ wp frame (wpE (defs₀ (F := F)) Variants.none c none) E (cc0_kv_proj_fwd i arg2 harg2 arg3 harg3 arg4 harg4 arg5 harg5 arg6 harg6) Q := by
  simp only [cc0_kv_proj_fwd_eq_skeleton]; unfold cc0_kv_proj_fwd_skel
  unfold owns
  iintro ⟨⟨%f0, %hf0, H0⟩, ⟨%f1, %hf1, H1⟩, ⟨%f2, %hf2, H2⟩, ⟨%f3, %hf3, H3⟩, ⟨%e4, %f4, -, H4⟩, Hk⟩
  obtain rfl := harg2.eq_unread hf0; obtain rfl := harg3.eq_unread hf1; obtain rfl := harg4.eq_unread hf2; obtain rfl := harg5.eq_unread hf3
  sl_exec (disch := sl_exact h0)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  iexists _; isplitr; swap; · iexact H4
  ipureintro; sl_unfold_words; simp (disch := decide) only [View.read_writes_full, View.readAt_writes_full, View.readCov_unit_lit', View.readCov_cons_unit_lit', View.readAt_eq_ld, View.ld_unit_lit', Memref.IsWhole.read_unread]; exact View.read_writes_full _ _ _ _ _

variable (m : (ℓ : Loc nD τ sig) → Buf (Elt F) ℓ) (ρ : Dev nD → PrngReg)

theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The first point of a point's token tile. -/
def start (t : Fin cfg0.N) : Fin cfg0.N := ⟨4 * (t.val / 4), by have := t.isLt; omega⟩

theorem start_of (t : Fin cfg0.N) (h : t.val % 4 = 0) : start t = t := Fin.ext (by simp only [start]; omega)

theorem start_pred (t : Fin cfg0.N) (h : ¬t.val % 4 = 0) : start ⟨t.val - 1, Nat.lt_of_le_of_lt (Nat.sub_le _ _) t.isLt⟩ = start t :=
  Fin.ext (by simp only [start]; omega)

/-- The normalised tokens a token tile's points hold. -/
def hid (c : Dev nD) (t : Fin cfg0.N) : Vec F S2048x1024 .bf16 :=
  k0_pay1 (iblk m c 0 (start t)) (iblk m c 1 (start t))

theorem hid_start (c : Dev nD) (t : Fin cfg0.N) (h : t.val % 4 = 0) : k0_pay1 (iblk m c 0 t) (iblk m c 1 t) = hid m c t := by
  unfold hid; rw [start_of t h]

theorem out_start (c : Dev nD) (t : Fin cfg0.N) (h : t.val % 4 = 0) :
    k0_pay2 (k0_pay1 (iblk m c 0 t) (iblk m c 1 t)) (iblk m c 2 t) = k0_pay2 (hid m c t) (iblk m c 2 t) := by
  rw [hid_start m c t h]

theorem hid_pred (c : Dev nD) (t : Fin cfg0.N) (h : ¬t.val % 4 = 0) : hid m c ⟨t.val - 1, Nat.lt_of_le_of_lt (Nat.sub_le _ _) t.isLt⟩ = hid m c t := by
  unfold hid; rw [start_pred t h]

/-! The staging buffers at a point. -/
abbrev ms0 (t : Fin cfg0.N) : Memref sig .tc .vmem S2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x512 .bf16 := win0_4.stage (cfg0.slots t 4)
abbrev hs4 (t : Fin cfg0.N) : (ms4 t).IsWhole := hstage0_4 ((cfg0.slots t 4).cast nbuf0_4)

/-- The proof data: inputs at their blocks, the normalised tokens, and the product by the point's columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hid m c t
    | ⟨4, _⟩ => k0_pay2 (hid m c t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := rfl
theorem after1 (c : Dev nD) (t : Fin cfg0.N) : (dats m 0 c).after 1 t = iblk m c 1 t := rfl
theorem after2 (c : Dev nD) (t : Fin cfg0.N) : (dats m 0 c).after 2 t = iblk m c 2 t := rfl
theorem after3 (c : Dev nD) (t : Fin cfg0.N) : (dats m 0 c).after 3 t = hid m c t := rfl
theorem after4 (c : Dev nD) (t : Fin cfg0.N) : (dats m 0 c).after 4 t = k0_pay2 (hid m c t) (iblk m c 2 t) := rfl
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d

/-- What a point may hand back of a block: what the proof data says, a block it leaves alone holding that already. -/
theorem leaf (c : Dev nD) (w : Fin cfg0.W) (t : Fin cfg0.N) (X : (cfg0.win w).block.Idx → Elt F (cfg0.win w).elt) (hX : X = (dats m 0 c).after w t)
    (h : cfg0.idle w (grid0.coords t) = true → (cfg0.win w).flush t = false → ∃ d, (dats m 0 c).before w t d = (dats m 0 c).after w t) :
    (owns (c : Thread nD τ) ((cfg0.win w).stage (cfg0.slots t w)) fullShare X : sProp 𝕄) ⊢ (dats m 0 c).leavesExact w t := by
  subst hX
  by_cases hi : cfg0.idle w (grid0.coords t) = true
  · by_cases hf : (cfg0.win w).flush t = true
    · unfold Dat.leavesExact
      rw [show cfg0.idle w (cfg0.grid.coords t) = true from hi, hf]
    · rw [Dat.leavesExact_idle _ w t hi (Bool.eq_false_iff.mpr hf)]
      obtain ⟨d, hd⟩ := h hi (Bool.eq_false_iff.mpr hf)
      rw [← hd]
      iintro H
      iexists d
      iexact H
  · unfold Dat.leavesExact
    rw [show cfg0.idle w (cfg0.grid.coords t) = false from Bool.eq_false_iff.mpr hi]

theorem carry3 (c : Dev nD) (t : Fin cfg0.N) (h : t.val ≠ 0) (hi : cfg0.idle 3 (grid0.coords t) = true) (hf : cfg0.fresh 3 t.val = false) :
    (dats m 0 c).after 3 t = (dats m 0 c).after 3 ⟨t.val - 1, by omega⟩ := by
  have hi' : ¬t.val % 4 = 0 := (by decide +kernel : ∀ t : Fin grid0.N, cfg0.idle 3 (grid0.coords t) = true → ¬t.val % 4 = 0) t hi
  rw [after3, after3]
  unfold hid; rw [start_pred t hi']

theorem fresh3 (t : Fin cfg0.N) : cfg0.fresh 3 t.val = true ↔ t.val % 4 = 0 :=
  (by decide +kernel : ∀ t : Fin cfg0.N, cfg0.fresh 3 t.val = true ↔ t.val % 4 = 0) t

theorem before3 (c : Dev nD) (t : Fin cfg0.N) (h : ¬(t.val % 4 = 0)) (d) : (dats m 0 c).before 3 t d = (dats m 0 c).after 3 ⟨t.val - 1, Nat.lt_of_le_of_lt (Nat.sub_le _ _) t.isLt⟩ := by
  rw [Dat.before_out_traj _ 3 rfl (fun _ _ => rfl) (carry3 m c) t.val t rfl d, if_neg fun hf => h ((fresh3 t).mp hf)]

theorem leaf3 (c : Dev nD) (t : Fin cfg0.N) (X : Vec F S2048x1024 .bf16) (hX : X = hid m c t) :
    (owns (c : Thread nD τ) (ms3 t) fullShare X : sProp 𝕄) ⊢ (dats m 0 c).leavesExact 3 t :=
  leaf m c 3 t X hX fun hi _ => by
    simp only [Dat.before_out_traj _ 3 rfl (fun _ _ => rfl) (carry3 m c) t.val t rfl]
    by_cases hf : cfg0.fresh 3 t.val = true
    · exact ⟨_, if_pos hf⟩
    · refine ⟨(dats m 0 c).after 3 t, (if_neg hf).trans (carry3 m c t (fun e => hf ?_) hi (Bool.eq_false_iff.mpr hf)).symm⟩
      rw [e]; rfl

theorem leaf0 (c : Dev nD) (t : Fin cfg0.N) (X : Vec F S2048x1024 .f32) (hX : X = iblk m c 0 t) :
    (owns (c : Thread nD τ) (ms0 t) fullShare X : sProp 𝕄) ⊢ (dats m 0 c).leavesExact 0 t :=
  leaf m c 0 t X hX fun hi _ => absurd hi Bool.false_ne_true

theorem leaf1 (c : Dev nD) (t : Fin cfg0.N) (X : Vec F S1x1024 .f32) (hX : X = iblk m c 1 t) :
    (owns (c : Thread nD τ) (ms1 t) fullShare X : sProp 𝕄) ⊢ (dats m 0 c).leavesExact 1 t :=
  leaf m c 1 t X hX fun hi _ => absurd hi Bool.false_ne_true

theorem leaf2 (c : Dev nD) (t : Fin cfg0.N) (X : Vec F S1x1x1024x512 .bf16) (hX : X = iblk m c 2 t) :
    (owns (c : Thread nD τ) (ms2 t) fullShare X : sProp 𝕄) ⊢ (dats m 0 c).leavesExact 2 t :=
  leaf m c 2 t X hX fun hi _ => absurd hi Bool.false_ne_true

theorem leaf4 (c : Dev nD) (t : Fin cfg0.N) (X : Vec F S2048x512 .bf16) (hX : X = k0_pay2 (hid m c t) (iblk m c 2 t)) :
    (owns (c : Thread nD τ) (ms4 t) fullShare X : sProp 𝕄) ⊢ (dats m 0 c).leavesExact 4 t :=
  leaf m c 4 t X hX fun hi _ => absurd hi Bool.false_ne_true

/-- What the body is called with at a point, -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t)

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  simp only [before0, before1, before2]
  by_cases h0 : t.val % 4 = 0
  · iintro ⟨HP, Ho, ⟨%e0, H0⟩, ⟨%e1, H1⟩, ⟨%e2, H2⟩, ⟨%e3, H3⟩, ⟨%e4, H4⟩⟩
    iapply (run_start c (grid0.coords t) (ms0 t) (hs0 t) (ms1 t) (hs1 t) (ms2 t) (hs2 t) (ms3 t) (hs3 t) (ms4 t) (hs4 t) ((cond1_iff t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HP]; · iexact HP
    isplitl [Ho]; · iexact Ho
    isplitl [H0]; · iapply (leaf0 m c t _ rfl); iexact H0
    isplitl [H1]; · iapply (leaf1 m c t _ rfl); iexact H1
    isplitl [H2]; · iapply (leaf2 m c t _ rfl); iexact H2
    isplitl [H3]; · iapply (leaf3 m c t _ (hid_start m c t h0)); iexact H3
    iapply (leaf4 m c t _ (out_start m c t h0)); iexact H4
  · simp only [before3 m c t h0, after3, hid_pred m c t h0]
    iintro ⟨HP, Ho, ⟨%e0, H0⟩, ⟨%e1, H1⟩, ⟨%e2, H2⟩, ⟨%e3, H3⟩, ⟨%e4, H4⟩⟩
    iapply (run_step c (grid0.coords t) (ms0 t) (hs0 t) (ms1 t) (hs1 t) (ms2 t) (hs2 t) (ms3 t) (hs3 t) (ms4 t) (hs4 t) (fun h => h0 ((cond1_iff t).mp h)) (iblk m c 0 t) (iblk m c 1 t) (iblk m c 2 t) _ Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HP]; · iexact HP
    isplitl [Ho]; · iexact Ho
    isplitl [H0]; · iapply (leaf0 m c t _ rfl); iexact H0
    isplitl [H1]; · iapply (leaf1 m c t _ rfl); iexact H1
    isplitl [H2]; · iapply (leaf2 m c t _ rfl); iexact H2
    isplitl [H3]; · iapply (leaf3 m c t _ rfl); iexact H3
    iapply (leaf4 m c t _ rfl); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact sound_body m c t

set_option backward.isDefEq.respectTransparency.types false in
/-- The launch: every array of the pipeline at what the points leave, every other buffer as the region found it, every
    semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame: the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel15Ideal.KeyValue

end
-- ==== Proof.Mlp.NormGrad.lean ====
/- The gradient of a root-mean-square norm over the extended reals: the kernels' closed form of a row's gradient is the
derivative of the norm, whatever the row holds. -/
module

public import Idealize.ShloMosaic.PureOps.Ideal

@[expose] public section

noncomputable section

namespace Cert.Norm

open Idealize.ShloMosaic

variable {n : ℕ}

theorem sum_mul_real (f : Fin n → EReal) {a : ℝ} (ha : 0 ≤ a) : ∑ k, f k * (a : EReal) = (∑ k, f k) * (a : EReal) := by
  have h : ∀ s : Finset (Fin n), ∑ k ∈ s, f k * (a : EReal) = (∑ k ∈ s, f k) * (a : EReal) := fun s => by
    induction s using Finset.induction_on with
    | empty => simp
    | insert i s hi ih =>
      rw [Finset.sum_insert hi, Finset.sum_insert hi, ih, EReal.right_distrib_of_nonneg_of_ne_top (EReal.coe_nonneg.mpr ha) (EReal.coe_ne_top a)]
  exact h Finset.univ

theorem sq_nonneg (x : EReal) : 0 ≤ x * x := by
  induction x with
  | bot => simp
  | top => simp
  | coe r => exact_mod_cast mul_self_nonneg r

/-- What is under the root: the mean of the squares and a positive constant. -/
theorem mean_cases (z : Fin n → EReal) {N e : ℝ} (hN : 0 < N) (he : 0 < e) :
    Ideal.div (∑ k, z k * z k) (N : EReal) + (e : EReal) = ⊤
      ∨ ∃ v : ℝ, 0 < v ∧ Ideal.div (∑ k, z k * z k) (N : EReal) + (e : EReal) = (v : EReal) := by
  have h0 : 0 ≤ ∑ k, z k * z k := Finset.sum_nonneg fun k _ => sq_nonneg (z k)
  rw [Ideal.div_coe hN.ne']
  generalize ∑ k, z k * z k = S at h0 ⊢
  have hn : 0 < 1 / N := by positivity
  induction S with
  | bot => simp at h0
  | top => exact Or.inl (by rw [EReal.top_mul_coe_of_pos hn, EReal.top_add_coe])
  | coe s =>
    have hs : 0 ≤ s := by exact_mod_cast h0
    exact Or.inr ⟨s * (1 / N) + e, by positivity, by push_cast; rfl⟩

theorem add_self (x : EReal) : x + x = x * ((2 : ℝ) : EReal) := by
  have h := EReal.right_distrib_of_nonneg (a := 1) (b := 1) (c := x) zero_le_one zero_le_one
  rw [one_mul] at h
  rw [← h, mul_comm]
  rw [show (1 : EReal) + 1 = ((2 : ℝ) : EReal) from (EReal.coe_add 1 1).symm.trans (by norm_num)]

/-- A row's gradient: the closed form against the derivative of the norm as the product of the row and its own root. -/
theorem row_grad (z d : Fin n → EReal) {N e : ℝ} (hN : 0 < N) (he : 0 < e) (i : Fin n) (v r : EReal)
    (hv : v = Ideal.div (∑ k, z k * z k) (N : EReal) + (e : EReal)) (hr : r = Ideal.rsqrt v) :
    r * (d i - z i * r * Ideal.div (∑ k, d k * (z k * r)) (N : EReal))
      = d i * r + z i * Ideal.div ((∑ k, z k * d k) * ((((-(1 / 2) : ℝ)) : EReal) * Ideal.div r v)) (N : EReal)
        + Ideal.div ((∑ k, z k * d k) * ((((-(1 / 2) : ℝ)) : EReal) * Ideal.div r v)) (N : EReal) * z i := by
  rcases hv ▸ mean_cases z hN he with h | ⟨w, hw, h⟩
  · rw [h, Ideal.rsqrt_top] at hr
    have hd : Ideal.div r v = 0 := by rw [hr, h]; simp [Ideal.div]
    rw [hd, hr, Ideal.div_coe hN.ne', Ideal.div_coe hN.ne']
    simp
  · have hs : 0 < Real.sqrt w := Real.sqrt_pos.mpr hw
    have hr' : r = (((Real.sqrt w)⁻¹ : ℝ) : EReal) := by rw [hr, h, Ideal.rsqrt_coe, if_neg hw.not_gt, if_neg hw.ne']
    have hρ : 0 < (Real.sqrt w)⁻¹ := by positivity
    have hww : (Real.sqrt w)⁻¹ * (Real.sqrt w)⁻¹ = 1 / w := by
      rw [← mul_inv, Real.mul_self_sqrt hw.le, one_div]
    have hsum : ∑ k, d k * (z k * (((Real.sqrt w)⁻¹ : ℝ) : EReal)) = (∑ k, z k * d k) * (((Real.sqrt w)⁻¹ : ℝ) : EReal) := by
      rw [← sum_mul_real _ hρ.le]
      exact Finset.sum_congr rfl fun k _ => by ac_rfl
    rw [hr', h, hsum, Ideal.div_coe hw.ne', Ideal.div_coe hN.ne', Ideal.div_coe hN.ne']
    generalize ∑ k, z k * d k = S
    generalize hq : (Real.sqrt w)⁻¹ = ρ at hρ hww
    rw [sub_eq_add_neg, EReal.left_distrib_of_nonneg_of_ne_top (EReal.coe_nonneg.mpr hρ.le) (EReal.coe_ne_top ρ), mul_neg, mul_comm (ρ : EReal) (d i), add_assoc]
    congr 1
    have e1 : (ρ : EReal) * (z i * (ρ : EReal) * (S * (ρ : EReal) * ((1 / N : ℝ) : EReal))) = z i * S * ((ρ * (1 / w) * (1 / N) : ℝ) : EReal) := by
      rw [← hww, EReal.coe_mul, EReal.coe_mul, EReal.coe_mul]
      ac_rfl
    have e2 : z i * (S * (((-(1 / 2) : ℝ) : EReal) * ((ρ : EReal) * ((1 / w : ℝ) : EReal))) * ((1 / N : ℝ) : EReal)) = z i * S * ((-(1 / 2) * (ρ * (1 / w)) * (1 / N) : ℝ) : EReal) := by
      rw [EReal.coe_mul, EReal.coe_mul, EReal.coe_mul]
      ac_rfl
    rw [mul_comm _ (z i), add_self, e1, e2, mul_assoc (z i * S), ← EReal.coe_mul, ← mul_neg, ← EReal.coe_neg]
    congr 2
    ring

theorem width : Ideal.ofBits .f32 0x44800000#32 = ((1024 : ℝ) : EReal) := by
  simp [Ideal.ofBits, Ideal.ieee, -EReal.coe_mul]; norm_num

theorem minus_half : Ideal.ofBits .f32 0xBF000000#32 = ((-(1 / 2) : ℝ) : EReal) := by
  simp [Ideal.ofBits, Ideal.ieee, -EReal.coe_mul]; norm_num

theorem floor : ∃ e : ℝ, 0 < e ∧ Ideal.ofBits .f32 0x358637BD#32 = (e : EReal) := by
  refine ⟨(8796093 : ℝ) * (2 : ℝ) ^ (-43 : Int), by positivity, ?_⟩
  simp [Ideal.ofBits, Ideal.ieee, -EReal.coe_mul]

/-- The root a row is divided by, inverted. -/
def root (z : Fin n → EReal) : EReal :=
  Ideal.rsqrt (Ideal.div (∑ k, z k * z k) (Ideal.ofBits .f32 0x44800000#32) + Ideal.ofBits .f32 0x358637BD#32)

/-- A row's gradient in closed form, `d` the gradient of the normalised row. -/
def row (z d : Fin n → EReal) (i : Fin n) : EReal :=
  root z * (d i - z i * root z * Ideal.div (∑ k, d k * (z k * root z)) (Ideal.ofBits .f32 0x44800000#32))

/-- The closed form is the derivative. -/
theorem row_eq (z d : Fin n → EReal) (i : Fin n) :
    d i * root z
        + z i * Ideal.div ((∑ k, z k * d k) * (Ideal.ofBits .f32 0xBF000000#32 * Ideal.div (root z) (Ideal.div (∑ k, z k * z k) (Ideal.ofBits .f32 0x44800000#32) + Ideal.ofBits .f32 0x358637BD#32))) (Ideal.ofBits .f32 0x44800000#32)
        + Ideal.div ((∑ k, z k * d k) * (Ideal.ofBits .f32 0xBF000000#32 * Ideal.div (root z) (Ideal.div (∑ k, z k * z k) (Ideal.ofBits .f32 0x44800000#32) + Ideal.ofBits .f32 0x358637BD#32))) (Ideal.ofBits .f32 0x44800000#32) * z i
      = row z d i := by
  obtain ⟨e, he, h⟩ := floor
  unfold row root
  rw [width, minus_half, h]
  exact (row_grad z d (by norm_num) he i _ _ rfl rfl).symm

end Cert.Norm

end
-- ==== Proof.Mlp.Down.lean ====
/- The backward pass of the product after the squared relu: what the arrays hold at the end is the reference's. -/
module

public import proofs.«01_k».proof.Proof.Mlp.DownLaunch
public import proofs.«01_k».proof.Proof.Mlp.NormGrad
public import proofs.«01_k».proof.Defs
public import proofs.«01_k».proof.Proof.Gen.Reference2Ideal.Run
public import Idealize.ShloMosaic.Lib.Pipeline.ValueKit
public import Idealize.ShloMosaic.Lib.Claim

@[expose] public section

set_option maxRecDepth 16384

noncomputable section

namespace Cert.Kernel2Ideal.Down

open Idealize.ShloMosaic Idealize.ShloMosaic.TcCoe Idealize.SL.Sem
open Idealize.ShloMosaic.Pipeline (Dat)
open Cert.Kernel2Ideal Cert.Kernel2Ideal.Gen

/-- The mean of every row's squares and the constant. -/
def MEAN (z : FVec Ideal Cert.Reference2Ideal.S4096x1024 .f32) : FVec Ideal Cert.Reference2Ideal.S4096x1 .f32 :=
  addf (Host.divf (broadcastInDim Cert.Reference2Ideal.S4096x1 ![0] Cert.Reference2Ideal.Gen.bcast_S4096_S4096x1_0 (Host.reduceAdd (mulf z z) (constant Cert.Reference2Ideal.S_ .f32 0x00000000#32) Cert.Reference2Ideal.Gen.reducesTo_S4096x1024_S4096_d1 Cert.Reference2Ideal.Gen.h_S_)) (broadcastInDim Cert.Reference2Ideal.S4096x1 ![] Cert.Reference2Ideal.Gen.bcast_S_S4096x1 (constant Cert.Reference2Ideal.S_ .f32 0x44800000#32))) (broadcastInDim Cert.Reference2Ideal.S4096x1 ![] Cert.Reference2Ideal.Gen.bcast_S_S4096x1 (constant Cert.Reference2Ideal.S_ .f32 0x358637BD#32))

/-- The gradient of the normalised rows. -/
def DXH (d : FVec Ideal Cert.Reference2Ideal.S4096x1024 .f32) (g : FVec Ideal Cert.Reference2Ideal.S1024 .f32) : FVec Ideal Cert.Reference2Ideal.S4096x1024 .f32 :=
  mulf d (broadcastInDim Cert.Reference2Ideal.S4096x1024 ![0, 1] Cert.Reference2Ideal.Gen.bcast_S1x1024_S4096x1024_0_1 (broadcastInDim Cert.Reference2Ideal.S1x1024 ![1] Cert.Reference2Ideal.Gen.bcast_S1024_S1x1024_1 g))

/-- Every row's gradient by the root's factor, for each of the row's two places in its square. -/
def ROOT (d z : FVec Ideal Cert.Reference2Ideal.S4096x1024 .f32) (g : FVec Ideal Cert.Reference2Ideal.S1024 .f32) : FVec Ideal Cert.Reference2Ideal.S4096x1024 .f32 :=
  broadcastInDim Cert.Reference2Ideal.S4096x1024 ![0] Cert.Reference2Ideal.Gen.bcast_S4096_S4096x1024_0 (Host.reduceAdd (Host.divf (mulf (shapeCast _ (Host.reduceAdd (mulf z (DXH d g)) (constant Cert.Reference2Ideal.S_ .f32 0x00000000#32) Cert.Reference2Ideal.Gen.reducesTo_S4096x1024_S4096_d1 Cert.Reference2Ideal.Gen.h_S_) Cert.Reference2Ideal.Gen.shapeCasts_S4096_S4096x1)
    (mulf (broadcastInDim Cert.Reference2Ideal.S4096x1 ![] Cert.Reference2Ideal.Gen.bcast_S_S4096x1 (constant Cert.Reference2Ideal.S_ .f32 0xBF000000#32)) (Host.divf (Host.rsqrt (MEAN z)) (MEAN z)))) (broadcastInDim Cert.Reference2Ideal.S4096x1 ![] Cert.Reference2Ideal.Gen.bcast_S_S4096x1 (constant Cert.Reference2Ideal.S_ .f32 0x44800000#32))) (constant Cert.Reference2Ideal.S_ .f32 0x00000000#32) Cert.Reference2Ideal.Gen.reducesTo_S4096x1_S4096_d1 Cert.Reference2Ideal.Gen.h_S_)

/-- The gradient of the norm by the rows. -/
def DZ (d z : FVec Ideal Cert.Reference2Ideal.S4096x1024 .f32) (g : FVec Ideal Cert.Reference2Ideal.S1024 .f32) : FVec Ideal Cert.Reference2Ideal.S4096x1024 .f32 :=
  addf (addf (mulf (DXH d g) (broadcastInDim Cert.Reference2Ideal.S4096x1024 ![0, 1] Cert.Reference2Ideal.Gen.bcast_S4096x1_S4096x1024_0_1 (Host.rsqrt (MEAN z)))) (mulf z (ROOT d z g))) (mulf (ROOT d z g) z)

/-- The gradient of the norm by the gain. -/
def DG (d z : FVec Ideal Cert.Reference2Ideal.S4096x1024 .f32) : FVec Ideal Cert.Reference2Ideal.S1x1024 .f32 :=
  shapeCast _ (Host.reduceAdd (shapeCast _ (Host.reduceAdd (mulf (mulf z (broadcastInDim Cert.Reference2Ideal.S4096x1024 ![0, 1] Cert.Reference2Ideal.Gen.bcast_S4096x1_S4096x1024_0_1 (Host.rsqrt (MEAN z)))) d) (constant Cert.Reference2Ideal.S_ .f32 0x00000000#32) Cert.Reference2Ideal.Gen.reducesTo_S4096x1024_S1024_d0 Cert.Reference2Ideal.Gen.h_S_) Cert.Reference2Ideal.Gen.shapeCasts_S1024_S1x1024) (constant Cert.Reference2Ideal.S_ .f32 0x00000000#32) Cert.Reference2Ideal.Gen.reducesTo_S1x1024_S1024_d0 Cert.Reference2Ideal.Gen.h_S_) Cert.Reference2Ideal.Gen.shapeCasts_S1024_S1x1024

/-- The gradient of the relu's output. -/
def DU (d z : FVec Ideal Cert.Reference2Ideal.S4096x1024 .f32) (g : FVec Ideal Cert.Reference2Ideal.S1024 .f32) (w : FVec Ideal Cert.Reference2Ideal.S4096x1024 .f32) (r : FVec Ideal Cert.Reference2Ideal.S4096x4096 .f32) : FVec Ideal Cert.Reference2Ideal.S4096x4096 .bf16 :=
  truncf .bf16 (mulf (Host.dotGeneral Cert.Reference2Ideal.dot_S4096x1024_S4096x1024_S4096x4096_1_1_0_0_n_n none (DZ d z g) w) (mulf (broadcastInDim Cert.Reference2Ideal.S4096x4096 ![] Cert.Reference2Ideal.Gen.bcast_S_S4096x4096 (constant Cert.Reference2Ideal.S_ .f32 0x40000000#32)) r)) Cert.Reference2Ideal.Gen.bitsLt_bf16_f32

open Cert.Norm (row root)

theorem DZ_apply (d z : FVec Ideal Cert.Reference2Ideal.S4096x1024 .f32) (g : FVec Ideal Cert.Reference2Ideal.S1024 .f32) (a : Fin 4096) (b : Fin 1024) :
    DZ d z g (ix2 a b) = row (fun k : Fin 1024 => z (ix2 a k)) (fun k => d (ix2 a k) * g (ix1 k)) b := by
  pointwise [DZ, ROOT, DXH, MEAN]
  simp only [Finset.univ_unique, Finset.sum_singleton]
  exact Cert.Norm.row_eq (fun k : Fin 1024 => z (ix2 a k)) (fun k => d (ix2 a k) * g (ix1 k)) b

theorem dz_apply (d z : Vec Ideal S1024x1024 .f32) (g : Vec Ideal S1x1024 .f32) (a : Fin 1024) (b : Fin 1024) :
    k0_pay4 d z g (ix2 a b) = row (fun k : Fin 1024 => z (ix2 a k)) (fun k => d (ix2 a k) * g (ix2 0 k)) b := by
  pointwise [k0_pay4, k0_pay2, k0_pay1]
  rfl

theorem DG_apply (d z : FVec Ideal Cert.Reference2Ideal.S4096x1024 .f32) (a : Fin 1) (b : Fin 1024) :
    DG d z (ix2 a b) = ∑ t : Fin 4096, z (ix2 t b) * root (fun k : Fin 1024 => z (ix2 t k)) * d (ix2 t b) := by
  pointwise [DG, MEAN]
  simp only [Finset.univ_unique, Finset.sum_singleton]
  rfl

theorem dg_apply (d z : Vec Ideal S1024x1024 .f32) (a : Fin 1) (b : Fin 1024) :
    k0_pay3 d z (ix2 a b) = ∑ t : Fin 1024, d (ix2 t b) * (z (ix2 t b) * root (fun k : Fin 1024 => z (ix2 t k))) := by
  pointwise [k0_pay3, k0_pay2, k0_pay1]
  rfl

theorem du_apply (x : Vec Ideal S1024x1024 .bf16) (w : Vec Ideal S1x1x1024x1024 .bf16) (r : Vec Ideal S1024x1024 .bf16) (a : Fin 1024) (b : Fin 1024) :
    k0_pay6 x w r (ix2 a b) = (∑ k : Fin 1024, x (ix2 a k) * w (ix4 0 0 b k)) * (Ideal.ofBits .f32 0x40000000#32 * r (ix2 a b)) := by
  pointwise [k0_pay6]

theorem DU_apply (d z : FVec Ideal Cert.Reference2Ideal.S4096x1024 .f32) (g : FVec Ideal Cert.Reference2Ideal.S1024 .f32) (w : FVec Ideal Cert.Reference2Ideal.S4096x1024 .f32)
    (r : FVec Ideal Cert.Reference2Ideal.S4096x4096 .f32) (a : Fin 4096) (b : Fin 4096) :
    DU d z g w r (ix2 a b) = (∑ k : Fin 1024, DZ d z g (ix2 a k) * w (ix2 b k)) * (Ideal.ofBits .f32 0x40000000#32 * r (ix2 a b)) := by
  pointwise [DU]

variable (m : (ℓ : Loc nD τ sig) → Buf (Elt Ideal) ℓ)

/-- Where each window's block sits at each grid point. -/
theorem idx : ∀ t : Fin cfg0.N, win0_0.index t = ![t.val / 4, 0] ∧ win0_1.index t = ![t.val / 4, 0] ∧ win0_2.index t = ![0, 0]
    ∧ win0_3.index t = ![t.val % 4, 0, 0, 0] ∧ win0_4.index t = ![t.val / 4, t.val % 4] ∧ win0_5.index t = ![t.val / 4, 0]
    ∧ win0_6.index t = ![t.val / 4, t.val % 4] ∧ win0_7.index t = ![0, 0] :=
  (by decide +kernel : ∀ t : Fin grid0.N, _)

theorem lt_N (t : Fin cfg0.N) : t.val < 16 := lt_of_lt_of_eq t.isLt (show cfg0.N = 16 from N_0)

/-- The token a row of a point's token tile is, and the hidden unit a column of its tile is. -/
def tok (t : Fin cfg0.N) (a : Fin 1024) : Fin 4096 := ⟨t.val / 4 * 1024 + a.val, by have := lt_N t; omega⟩
def unit (t : Fin cfg0.N) (a : Fin 1024) : Fin 4096 := ⟨t.val % 4 * 1024 + a.val, by omega⟩

theorem tok_start (t : Fin cfg0.N) (a : Fin 1024) : tok (start t) a = tok t a := Fin.ext (by simp only [tok, start]; omega)

abbrev D (c : Dev nD) : FVec Ideal Cert.Reference2Ideal.S4096x1024 .f32 := m ((c : Thread nD τ).loc main_arg0)
abbrev Z (c : Dev nD) : FVec Ideal Cert.Reference2Ideal.S4096x1024 .f32 := m ((c : Thread nD τ).loc main_arg1)
abbrev G (c : Dev nD) : FVec Ideal Cert.Reference2Ideal.S1024 .f32 := m ((c : Thread nD τ).loc main_arg2)
abbrev W (c : Dev nD) : FVec Ideal Cert.Reference2Ideal.S4096x1024 .f32 := m ((c : Thread nD τ).loc main_arg3)
abbrev R (c : Dev nD) : FVec Ideal Cert.Reference2Ideal.S4096x4096 .f32 := m ((c : Thread nD τ).loc main_arg4)

theorem blk0 (c : Dev nD) (t : Fin cfg0.N) (a b : Fin 1024) : iblk m c 0 t (ix2 a b) = D m c (ix2 (tok t a) b) := by
  blk_point [iblk, idx t, tok]

theorem blk1 (c : Dev nD) (t : Fin cfg0.N) (a b : Fin 1024) : iblk m c 1 t (ix2 a b) = Z m c (ix2 (tok t a) b) := by
  blk_point [iblk, idx t, tok]

theorem blk2 (c : Dev nD) (t : Fin cfg0.N) (b : Fin 1024) : iblk m c 2 t (ix2 0 b) = G m c (ix1 b) := by
  blk_point [iblk, idx t]

theorem blk3 (c : Dev nD) (t : Fin cfg0.N) (a b : Fin 1024) : iblk m c 3 t (ix4 0 0 a b) = W m c (ix2 (unit t a) b) := by
  blk_point [iblk, idx t, unit]

theorem blk4 (c : Dev nD) (t : Fin cfg0.N) (a b : Fin 1024) : iblk m c 4 t (ix2 a b) = R m c (ix2 (tok t a) (unit t b)) := by
  blk_point [iblk, idx t, tok, unit]

theorem at5 (X : FVec Ideal S4096x1024 .bf16) (t : Fin cfg0.N) (a b : Fin 1024) : X (((cfg0.win 5).blk t).view.emb (ix2 a b)) = X (ix2 (tok t a) b) := by
  blk_point [idx t, tok]

theorem at6 (X : FVec Ideal S4096x4096 .bf16) (t : Fin cfg0.N) (a b : Fin 1024) : X (((cfg0.win 6).blk t).view.emb (ix2 a b)) = X (ix2 (tok t a) (unit t b)) := by
  blk_point [idx t, tok, unit]

theorem at7 (X : FVec Ideal S1x1024 .f32) (t : Fin cfg0.N) (a : Fin 1) (b : Fin 1024) : X (((cfg0.win 7).blk t).view.emb (ix2 a b)) = X (ix2 a b) := by
  blk_point [idx t]

theorem dz_eq (c : Dev nD) (t : Fin cfg0.N) (a b : Fin 1024) : dz m c t (ix2 a b) = DZ (D m c) (Z m c) (G m c) (ix2 (tok t a) b) := by
  unfold dz
  rw [dz_apply, DZ_apply]
  simp only [blk0, blk1, blk2, tok_start]

theorem du_eq (c : Dev nD) (t : Fin cfg0.N) (a b : Fin 1024) :
    k0_pay6 (dz m c t) (iblk m c 3 t) (iblk m c 4 t) (ix2 a b) = DU (D m c) (Z m c) (G m c) (W m c) (R m c) (ix2 (tok t a) (unit t b)) := by
  rw [du_apply, DU_apply]
  simp only [blk3, blk4, dz_eq]

/-- A token's part of the gain's gradient. -/
def part (c : Dev nD) (b : Fin 1024) (t : Fin 4096) : EReal :=
  Z m c (ix2 t b) * root (fun k : Fin 1024 => Z m c (ix2 t k)) * D m c (ix2 t b)

theorem part_eq (c : Dev nD) (t : Fin cfg0.N) (a : Fin 1) (b : Fin 1024) :
    k0_pay3 (iblk m c 0 t) (iblk m c 1 t) (ix2 a b) = ∑ k : Fin 1024, part m c b (tok t k) := by
  rw [dg_apply]
  simp only [blk0, blk1]
  exact Finset.sum_congr rfl fun k _ => mul_comm _ _

theorem step_apply (d z : Vec Ideal S1024x1024 .f32) (x : Vec Ideal S1x1024 .f32) (a : Fin 1) (b : Fin 1024) :
    k0_pay5 d z x (ix2 a b) = x (ix2 a b) + k0_pay3 d z (ix2 a b) := by
  pointwise [k0_pay5]

theorem dg_sum (c : Dev nD) (a : Fin 1) (b : Fin 1024) (n : ℕ) :
    dg m c n (ix2 a b) = ∑ i ∈ Finset.range (n + 1), ∑ k : Fin 1024, part m c b (tok (tile i) k) := by
  induction n with
  | zero => rw [dg, part_eq, Finset.sum_range_one]
  | succ n ih => rw [dg, step_apply, part_eq, ih, Finset.sum_range_succ _ (n + 1)]

theorem dg_eq (c : Dev nD) (a : Fin 1) (b : Fin 1024) : dg m c 3 (ix2 a b) = DG (D m c) (Z m c) (ix2 a b) := by
  rw [dg_sum, DG_apply, Finset.sum_range]
  refine Fin.sum_mul_add_congr fun s k h => ?_
  have e : tok (tile s.val) k = ⟨s.val * 1024 + k.val, h⟩ := Fin.ext (by simp only [tok, tile]; omega)
  rw [e]
  rfl

/-! The arrays at the end. -/

theorem final5 (c : Dev nD) : (dats m 0 c).arrAt 5 (cfgs 0).N
    = truncf .bf16 (DZ (D m c) (Z m c) (G m c)) Cert.Reference2Ideal.Gen.bitsLt_bf16_f32 := by
  refine (dats m 0 c).arrAt_eq_of_covers 5 _ (by decide +kernel) fun t hf y => ?_
  blk_simp
  rw [after5]
  idx_vars y
  exact (dz_eq m c t _ _).trans (at5 _ t _ _).symm

theorem final6 (c : Dev nD) : (dats m 0 c).arrAt 6 (cfgs 0).N = DU (D m c) (Z m c) (G m c) (W m c) (R m c) := by
  refine (dats m 0 c).arrAt_eq_of_covers 6 _ (by decide +kernel) fun t hf y => ?_
  blk_simp
  rw [after6]
  idx_vars y
  exact (du_eq m c t _ _).trans (at6 _ t _ _).symm

theorem final7 (c : Dev nD) : (dats m 0 c).arrAt 7 (cfgs 0).N = DG (D m c) (Z m c) := by
  refine (dats m 0 c).arrAt_eq_of_covers 7 _ (by decide +kernel) fun t hf y => ?_
  blk_simp
  rw [after7, (by decide +kernel : ∀ t : Fin grid0.N, win0_7.flush t = true → t.val / 4 = 3) t hf]
  idx_vars y
  exact (dg_eq m c _ _).trans (at7 _ t _ _).symm

/-- The kernel's and the reference's gradients are one. -/
theorem algebraic : Cert.algebraic_Kernel2Ideal_Reference2Ideal := by
  pair_intro
  · run_from ((θ_run defs _ _).mono (fun _ h => h.1) (run_main (F := Ideal) m g))
  · run_from Cert.Reference2Ideal.Value.run m' g'
    · rw [final5]
      unfold DZ ROOT DXH MEAN
      with_reducible rfl
    · rw [final6]
      obtain ⟨h0, h1, h2, h3, h4⟩ := hagree c
      unfold Cert.Reference2Ideal.Value.res_main_v43
      simp only [h0, h1, h2, h3, h4]
      unfold DU DZ ROOT DXH MEAN
      with_reducible rfl
    · rw [final7]
      unfold DG MEAN
      with_reducible rfl

end Cert.Kernel2Ideal.Down

end
-- ==== Proof.Mlp.DownWeight.lean ====
/- The gradient of a perceptron's second weight, every product summed over the tokens. -/
module

public import proofs.«01_k».proof.Proof.Gen.Kernel3Ideal.Value
public import proofs.«01_k».proof.Defs
public import proofs.«01_k».proof.Proof.Gen.Reference3Ideal.Run
public import Idealize.ShloMosaic.Lib.Pipeline.ValueKit
public import Idealize.ShloMosaic.Lib.Claim

@[expose] public section

set_option maxRecDepth 16384

noncomputable section

namespace Cert.Kernel3Ideal.Grad

open Idealize.ShloMosaic Idealize.ShloMosaic.TcCoe Idealize.SL.Sem
open Idealize.ShloMosaic.Pipeline (Dat)
open Cert.Kernel3Ideal Cert.Kernel3Ideal.Gen

/-- The reference's result over its arguments. -/
abbrev REF (X : FVec Ideal S4096x4096 .f32) (D : FVec Ideal S4096x1024 .f32) : FVec Ideal S4x1024x1024 .bf16 :=
  truncf .bf16 (shapeCast _ (transpose Cert.Reference3Ideal.S4096x1024 [1, 0] (Host.dotGeneral Cert.Reference3Ideal.dot_S4096x1024_S4096x4096_S1024x4096_0_0_1_1_n_n none D (mulf X X)) Cert.Reference3Ideal.Gen.transposes_S1024x4096_S4096x1024_1_0) Cert.Reference3Ideal.Gen.shapeCasts_S4096x1024_S4x1024x1024) Cert.Reference3Ideal.Gen.bitsLt_bf16_f32

variable (m : (ℓ : Loc nD τ sig) → Buf (Elt Ideal) ℓ)

/-- Where each window's block sits at each grid point. -/
theorem idx : ∀ t : Fin cfg0.N, win0_0.index t = ![0, t.val] ∧ win0_1.index t = ![0, 0] ∧ win0_2.index t = ![t.val, 0, 0] :=
  (by decide +kernel : ∀ t : Fin grid0.N, _)

/-- What one grid point stores is the reference's gradient where its block sits. -/
theorem point (c : Dev nD) (t : Fin cfg0.N) (y) : k0_pay4 (k0_pay2 (F := Ideal) (iblk m c 0 t) (iblk m c 1 t)) y
    = REF (m ((c : Thread nD τ).loc main_arg0)) (m ((c : Thread nD τ).loc main_arg1)) (((cfg0.win 2).blk t).view.emb y) := by
  pointwise [k0_pay4, k0_pay2, k0_pay1, REF]
  blk_point [iblk, idx t]

/-- The gradient after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The kernel's and the reference's gradients of the weight are one. -/
theorem algebraic : Cert.algebraic_Kernel3Ideal_Reference3Ideal := by
  pair_intro
  · run_from Cert.Kernel3Ideal.Gen.run_main m g
  · run_from Cert.Reference3Ideal.Value.run m' g'
    exact (final m c).symm

end Cert.Kernel3Ideal.Grad

end
-- ==== Proof.Mlp.UpWeight.lean ====
/- The gradient of a perceptron's first weight, every product summed over the tokens. -/
module

public import proofs.«01_k».proof.Proof.Gen.Kernel4Ideal.Value
public import proofs.«01_k».proof.Defs
public import proofs.«01_k».proof.Proof.Gen.Reference4Ideal.Run
public import Idealize.ShloMosaic.Lib.Pipeline.ValueKit
public import Idealize.ShloMosaic.Lib.Claim

@[expose] public section

set_option maxRecDepth 16384

noncomputable section

namespace Cert.Kernel4Ideal.Grad

open Idealize.ShloMosaic Idealize.ShloMosaic.TcCoe Idealize.SL.Sem
open Idealize.ShloMosaic.Pipeline (Dat)
open Cert.Kernel4Ideal Cert.Kernel4Ideal.Gen

/-- The reference's result over its arguments. -/
abbrev REF (X : FVec Ideal S4096x1024 .f32) (D : FVec Ideal S4096x4096 .f32) : FVec Ideal S4x1024x1024 .bf16 :=
  truncf .bf16 (transpose Cert.Reference4Ideal.S4x1024x1024 [1, 0, 2] (shapeCast _ (transpose Cert.Reference4Ideal.S1024x4096 [1, 0] (Host.dotGeneral Cert.Reference4Ideal.dot_S4096x4096_S4096x1024_S4096x1024_0_0_1_1_n_n none D X) Cert.Reference4Ideal.Gen.transposes_S4096x1024_S1024x4096_1_0) Cert.Reference4Ideal.Gen.shapeCasts_S1024x4096_S1024x4x1024) Cert.Reference4Ideal.Gen.transposes_S1024x4x1024_S4x1024x1024_1_0_2) Cert.Reference4Ideal.Gen.bitsLt_bf16_f32

variable (m : (ℓ : Loc nD τ sig) → Buf (Elt Ideal) ℓ)

/-- Where each window's block sits at each grid point. -/
theorem idx : ∀ t : Fin cfg0.N, win0_0.index t = ![0, 0] ∧ win0_1.index t = ![0, t.val] ∧ win0_2.index t = ![t.val, 0, 0] :=
  (by decide +kernel : ∀ t : Fin grid0.N, _)

/-- What one grid point stores is the reference's gradient where its block sits. -/
theorem point (c : Dev nD) (t : Fin cfg0.N) (y) : k0_pay4 (k0_pay2 (F := Ideal) (iblk m c 0 t) (iblk m c 1 t)) y
    = REF (m ((c : Thread nD τ).loc main_arg0)) (m ((c : Thread nD τ).loc main_arg1)) (((cfg0.win 2).blk t).view.emb y) := by
  pointwise [k0_pay4, k0_pay2, k0_pay1, REF]
  refine Eq.trans ?_ (Fin.sum_fin_congr fun x => mul_comm _ _)
  blk_point [iblk, idx t]

/-- The gradient after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The kernel's and the reference's gradients of the weight are one. -/
theorem algebraic : Cert.algebraic_Kernel4Ideal_Reference4Ideal := by
  pair_intro
  · run_from Cert.Kernel4Ideal.Gen.run_main m g
  · run_from Cert.Reference4Ideal.Value.run m' g'
    exact (final m c).symm

end Cert.Kernel4Ideal.Grad

end
-- ==== Proof.Mlp.Up.lean ====
/- The backward pass of the product before the squared relu: what the arrays hold at the end is the reference's. -/
module

public import proofs.«01_k».proof.Proof.Mlp.NormGrad
public import proofs.«01_k».proof.Defs
public import proofs.«01_k».proof.Proof.Gen.Kernel5Ideal.Frame
public import proofs.«01_k».proof.Proof.Gen.Reference5Ideal.Run
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel5Ideal.Up

open Idealize.ShloMosaic Idealize.ShloMosaic.TcCoe Idealize.SL.Sem
open Idealize.ShloMosaic.Pipeline (Dat)
open Cert.Kernel5Ideal Cert.Kernel5Ideal.Gen

/-- The mean of every row's squares and the constant. -/
def MEAN (z : FVec Ideal Cert.Reference5Ideal.S4096x1024 .f32) : FVec Ideal Cert.Reference5Ideal.S4096x1 .f32 :=
  addf (Host.divf (broadcastInDim Cert.Reference5Ideal.S4096x1 ![0] Cert.Reference5Ideal.Gen.bcast_S4096_S4096x1_0 (Host.reduceAdd (mulf z z) (constant Cert.Reference5Ideal.S_ .f32 0x00000000#32) Cert.Reference5Ideal.Gen.reducesTo_S4096x1024_S4096_d1 Cert.Reference5Ideal.Gen.h_S_)) (broadcastInDim Cert.Reference5Ideal.S4096x1 ![] Cert.Reference5Ideal.Gen.bcast_S_S4096x1 (constant Cert.Reference5Ideal.S_ .f32 0x44800000#32))) (broadcastInDim Cert.Reference5Ideal.S4096x1 ![] Cert.Reference5Ideal.Gen.bcast_S_S4096x1 (constant Cert.Reference5Ideal.S_ .f32 0x358637BD#32))

/-- The gradient of the normalised rows. -/
def DXH (d : FVec Ideal Cert.Reference5Ideal.S4096x1024 .f32) (g : FVec Ideal Cert.Reference5Ideal.S1024 .f32) : FVec Ideal Cert.Reference5Ideal.S4096x1024 .f32 :=
  mulf d (broadcastInDim Cert.Reference5Ideal.S4096x1024 ![0, 1] Cert.Reference5Ideal.Gen.bcast_S1x1024_S4096x1024_0_1 (broadcastInDim Cert.Reference5Ideal.S1x1024 ![1] Cert.Reference5Ideal.Gen.bcast_S1024_S1x1024_1 g))

/-- Every row's gradient by the root's factor, for each of the row's two places in its square. -/
def ROOT (d z : FVec Ideal Cert.Reference5Ideal.S4096x1024 .f32) (g : FVec Ideal Cert.Reference5Ideal.S1024 .f32) : FVec Ideal Cert.Reference5Ideal.S4096x1024 .f32 :=
  broadcastInDim Cert.Reference5Ideal.S4096x1024 ![0] Cert.Reference5Ideal.Gen.bcast_S4096_S4096x1024_0 (Host.reduceAdd (Host.divf (mulf (shapeCast _ (Host.reduceAdd (mulf z (DXH d g)) (constant Cert.Reference5Ideal.S_ .f32 0x00000000#32) Cert.Reference5Ideal.Gen.reducesTo_S4096x1024_S4096_d1 Cert.Reference5Ideal.Gen.h_S_) Cert.Reference5Ideal.Gen.shapeCasts_S4096_S4096x1)
    (mulf (broadcastInDim Cert.Reference5Ideal.S4096x1 ![] Cert.Reference5Ideal.Gen.bcast_S_S4096x1 (constant Cert.Reference5Ideal.S_ .f32 0xBF000000#32)) (Host.divf (Host.rsqrt (MEAN z)) (MEAN z)))) (broadcastInDim Cert.Reference5Ideal.S4096x1 ![] Cert.Reference5Ideal.Gen.bcast_S_S4096x1 (constant Cert.Reference5Ideal.S_ .f32 0x44800000#32))) (constant Cert.Reference5Ideal.S_ .f32 0x00000000#32) Cert.Reference5Ideal.Gen.reducesTo_S4096x1_S4096_d1 Cert.Reference5Ideal.Gen.h_S_)

/-- The residual's gradient and that of the norm by the rows. -/
def DX (d z : FVec Ideal Cert.Reference5Ideal.S4096x1024 .f32) (g : FVec Ideal Cert.Reference5Ideal.S1024 .f32) (ct : FVec Ideal Cert.Reference5Ideal.S4096x1024 .f32) : FVec Ideal Cert.Reference5Ideal.S4096x1024 .f32 :=
  addf (addf (addf ct (mulf (DXH d g) (broadcastInDim Cert.Reference5Ideal.S4096x1024 ![0, 1] Cert.Reference5Ideal.Gen.bcast_S4096x1_S4096x1024_0_1 (Host.rsqrt (MEAN z))))) (mulf z (ROOT d z g))) (mulf (ROOT d z g) z)

/-- The gradient of the norm by the gain. -/
def DG (d z : FVec Ideal Cert.Reference5Ideal.S4096x1024 .f32) : FVec Ideal Cert.Reference5Ideal.S1x1024 .f32 :=
  shapeCast _ (Host.reduceAdd (shapeCast _ (Host.reduceAdd (mulf (mulf z (broadcastInDim Cert.Reference5Ideal.S4096x1024 ![0, 1] Cert.Reference5Ideal.Gen.bcast_S4096x1_S4096x1024_0_1 (Host.rsqrt (MEAN z)))) d) (constant Cert.Reference5Ideal.S_ .f32 0x00000000#32) Cert.Reference5Ideal.Gen.reducesTo_S4096x1024_S1024_d0 Cert.Reference5Ideal.Gen.h_S_) Cert.Reference5Ideal.Gen.shapeCasts_S1024_S1x1024) (constant Cert.Reference5Ideal.S_ .f32 0x00000000#32) Cert.Reference5Ideal.Gen.reducesTo_S1x1024_S1024_d0 Cert.Reference5Ideal.Gen.h_S_) Cert.Reference5Ideal.Gen.shapeCasts_S1024_S1x1024

/-- The gradient of the product's left factor. -/
def PROD (u : FVec Ideal Cert.Reference5Ideal.S4096x4096 .f32) (w : FVec Ideal Cert.Reference5Ideal.S1024x4096 .f32) : FVec Ideal Cert.Reference5Ideal.S4096x1024 .f32 :=
  Host.dotGeneral Cert.Reference5Ideal.dot_S4096x4096_S1024x4096_S4096x1024_1_1_0_0_n_n none u w

open Cert.Norm (row root)

theorem DX_apply (d z : FVec Ideal Cert.Reference5Ideal.S4096x1024 .f32) (g : FVec Ideal Cert.Reference5Ideal.S1024 .f32) (ct : FVec Ideal Cert.Reference5Ideal.S4096x1024 .f32)
    (a : Fin 4096) (b : Fin 1024) :
    DX d z g ct (ix2 a b) = ct (ix2 a b) + row (fun k : Fin 1024 => z (ix2 a k)) (fun k => d (ix2 a k) * g (ix1 k)) b := by
  pointwise [DX, ROOT, DXH, MEAN]
  simp only [Finset.univ_unique, Finset.sum_singleton]
  rw [← Cert.Norm.row_eq (fun k : Fin 1024 => z (ix2 a k)) (fun k => d (ix2 a k) * g (ix1 k)) b, ← add_assoc, ← add_assoc]
  rfl

theorem dx_apply (d z : Vec Ideal S1024x1024 .f32) (g : Vec Ideal S1x1024 .f32) (ct : Vec Ideal S1024x1024 .f32) (a : Fin 1024) (b : Fin 1024) :
    k0_pay8 d z g ct (ix2 a b) = ct (ix2 a b) + row (fun k : Fin 1024 => z (ix2 a k)) (fun k => d (ix2 a k) * g (ix2 0 k)) b := by
  pointwise [k0_pay8, k0_pay6, k0_pay5]
  rfl

theorem DG_apply (d z : FVec Ideal Cert.Reference5Ideal.S4096x1024 .f32) (a : Fin 1) (b : Fin 1024) :
    DG d z (ix2 a b) = ∑ t : Fin 4096, z (ix2 t b) * root (fun k : Fin 1024 => z (ix2 t k)) * d (ix2 t b) := by
  pointwise [DG, MEAN]
  simp only [Finset.univ_unique, Finset.sum_singleton]
  rfl

theorem dg_apply (d z : Vec Ideal S1024x1024 .f32) (a : Fin 1) (b : Fin 1024) :
    k0_pay7 d z (ix2 a b) = ∑ t : Fin 1024, d (ix2 t b) * (z (ix2 t b) * root (fun k : Fin 1024 => z (ix2 t k))) := by
  pointwise [k0_pay7, k0_pay6, k0_pay5]
  rfl

theorem dg_step_apply (d : FVec Ideal S1x1024 .f32) (x : Vec Ideal S1x1024 .f32) (a : Fin 1) (b : Fin 1024) :
    k0_pay4 d x (ix2 a b) = x (ix2 a b) + d (ix2 a b) := by
  pointwise [k0_pay4]

theorem prod_apply (u : Vec Ideal S1024x1024 .bf16) (w : Vec Ideal S1x1x1024x1024 .bf16) (a : Fin 1024) (b : Fin 1024) :
    k0_pay2 u w (ix2 a b) = ∑ k : Fin 1024, u (ix2 a k) * w (ix4 0 0 b k) := by
  pointwise [k0_pay2, k0_pay1]

theorem step_apply (u : Vec Ideal S1024x1024 .bf16) (w : Vec Ideal S1x1x1024x1024 .bf16) (x : Vec Ideal S1024x1024 .f32) (a : Fin 1024) (b : Fin 1024) :
    k0_pay3 u w x (ix2 a b) = x (ix2 a b) + ∑ k : Fin 1024, u (ix2 a k) * w (ix4 0 0 b k) := by
  pointwise [k0_pay3, k0_pay1]

theorem PROD_apply (u : FVec Ideal Cert.Reference5Ideal.S4096x4096 .f32) (w : FVec Ideal Cert.Reference5Ideal.S1024x4096 .f32) (a : Fin 4096) (b : Fin 1024) :
    PROD u w (ix2 a b) = ∑ k : Fin 4096, u (ix2 a k) * w (ix2 b k) := by
  pointwise [PROD]

variable (m : (ℓ : Loc nD τ sig) → Buf (Elt Ideal) ℓ)

/-- Where each window's block sits at each grid point. -/
theorem idx : ∀ t : Fin cfg0.N, win0_0.index t = ![t.val / 4, t.val % 4] ∧ win0_1.index t = ![t.val % 4, 0, 0, 0] ∧ win0_2.index t = ![t.val / 4, 0]
    ∧ win0_3.index t = ![0, 0] ∧ win0_4.index t = ![t.val / 4, 0] ∧ win0_5.index t = ![t.val / 4, 0] ∧ win0_6.index t = ![0, 0] :=
  (by decide +kernel : ∀ t : Fin grid0.N, _)

theorem lt_N (t : Fin cfg0.N) : t.val < 16 := lt_of_lt_of_eq t.isLt (show cfg0.N = 16 from N_0)

/-- The token a row of a point's token tile is, and the hidden unit a column of its tile is. -/
def tok (t : Fin cfg0.N) (a : Fin 1024) : Fin 4096 := ⟨t.val / 4 * 1024 + a.val, by have := lt_N t; omega⟩
def unit (t : Fin cfg0.N) (a : Fin 1024) : Fin 4096 := ⟨t.val % 4 * 1024 + a.val, by omega⟩

abbrev U (c : Dev nD) : FVec Ideal Cert.Reference5Ideal.S4096x4096 .f32 := m ((c : Thread nD τ).loc main_arg0)
abbrev W (c : Dev nD) : FVec Ideal Cert.Reference5Ideal.S1024x4096 .f32 := m ((c : Thread nD τ).loc main_arg1)
abbrev X (c : Dev nD) : FVec Ideal Cert.Reference5Ideal.S4096x1024 .f32 := m ((c : Thread nD τ).loc main_arg2)
abbrev G (c : Dev nD) : FVec Ideal Cert.Reference5Ideal.S1024 .f32 := m ((c : Thread nD τ).loc main_arg3)
abbrev C (c : Dev nD) : FVec Ideal Cert.Reference5Ideal.S4096x1024 .f32 := m ((c : Thread nD τ).loc main_arg4)

theorem blk0 (c : Dev nD) (t : Fin cfg0.N) (a b : Fin 1024) : iblk m c 0 t (ix2 a b) = U m c (ix2 (tok t a) (unit t b)) := by
  blk_point [iblk, idx t, tok, unit]

theorem blk1 (c : Dev nD) (t : Fin cfg0.N) (a b : Fin 1024) : iblk m c 1 t (ix4 0 0 a b) = W m c (ix2 a (unit t b)) := by
  blk_point [iblk, idx t, unit]

theorem blk2 (c : Dev nD) (t : Fin cfg0.N) (a b : Fin 1024) : iblk m c 2 t (ix2 a b) = X m c (ix2 (tok t a) b) := by
  blk_point [iblk, idx t, tok]

theorem blk3 (c : Dev nD) (t : Fin cfg0.N) (b : Fin 1024) : iblk m c 3 t (ix2 0 b) = G m c (ix1 b) := by
  blk_point [iblk, idx t]

theorem blk4 (c : Dev nD) (t : Fin cfg0.N) (a b : Fin 1024) : iblk m c 4 t (ix2 a b) = C m c (ix2 (tok t a) b) := by
  blk_point [iblk, idx t, tok]

theorem at5 (Y : FVec Ideal S4096x1024 .f32) (t : Fin cfg0.N) (a b : Fin 1024) : Y (((cfg0.win 5).blk t).view.emb (ix2 a b)) = Y (ix2 (tok t a) b) := by
  blk_point [idx t, tok]

theorem at6 (Y : FVec Ideal S1x1024 .f32) (t : Fin cfg0.N) (a : Fin 1) (b : Fin 1024) : Y (((cfg0.win 6).blk t).view.emb (ix2 a b)) = Y (ix2 a b) := by
  blk_point [idx t]

/-! What a point leaves: the product summed up so far, the rows' gradient, the gain's gradient. -/

abbrev acc (c : Dev nD) (n : ℕ) (h : n < cfg0.N) : Vec Ideal S1024x1024 .f32 := (outsAt0 m c n h).2.2
abbrev gain (c : Dev nD) (n : ℕ) (h : n < cfg0.N) : Vec Ideal S1x1024 .f32 := (outsAt0 m c n h).2.1

theorem acc_start (c : Dev nD) (t : Fin cfg0.N) (h : t.val % 4 = 0) : acc m c t.val t.isLt = k0_pay2 (iblk m c 0 t) (iblk m c 1 t) := by
  funext y
  unfold acc
  rw [outsAt0_A m c t h (by omega) (by omega)]
  frame_out

theorem acc_step (c : Dev nD) (t : Fin cfg0.N) (h : ¬t.val % 4 = 0) :
    acc m c t.val t.isLt = k0_pay3 (iblk m c 0 t) (iblk m c 1 t) (acc m c (t.val - 1) (Nat.lt_of_le_of_lt (Nat.sub_le _ _) t.isLt)) := by
  funext y
  unfold acc
  by_cases h3 : t.val % 4 = 3
  · by_cases h4 : t.val < 4
    · rw [outsAt0_C m c t h (by omega) h3 h4 (by omega)]
      frame_out
      rw [read_unread_whole]
    · rw [outsAt0_D m c t h (by omega) h3 h4 (by omega)]
      frame_out
      rw [read_unread_whole]
  · rw [outsAt0_B m c t h (by omega) h3]
    frame_out
    rw [read_unread_whole]

theorem dx_last (c : Dev nD) (t : Fin cfg0.N) (h : t.val % 4 = 3) :
    (outsAt0 m c t.val t.isLt).1 = k0_pay8 (acc m c t.val t.isLt) (iblk m c 2 t) (iblk m c 3 t) (iblk m c 4 t) := by
  rw [acc_step m c t (by omega)]
  funext y
  by_cases h4 : t.val < 4
  · rw [outsAt0_C m c t (by omega) (by omega) h h4 (by omega)]
    frame_out
    rw [read_unread_whole]
  · rw [outsAt0_D m c t (by omega) (by omega) h h4 (by omega)]
    frame_out
    rw [read_unread_whole]

theorem gain_first (c : Dev nD) (t : Fin cfg0.N) (h : t.val = 3) :
    gain m c t.val t.isLt = k0_pay7 (acc m c t.val t.isLt) (iblk m c 2 t) := by
  rw [acc_step m c t (by omega)]
  funext y
  unfold gain
  rw [outsAt0_C m c t (by omega) (by omega) (by omega) (by omega) (by omega)]
  frame_out
  rw [read_unread_whole]

theorem gain_keep (c : Dev nD) (t : Fin cfg0.N) (h : ¬t.val % 4 = 3) :
    gain m c t.val t.isLt = gain m c (t.val - 1) (Nat.lt_of_le_of_lt (Nat.sub_le _ _) t.isLt) := by
  unfold gain
  by_cases h0 : t.val % 4 = 0
  · rw [outsAt0_A m c t h0 (by omega) h]
    rfl
  · rw [outsAt0_B m c t h0 (by omega) h]
    rfl

theorem gain_step (c : Dev nD) (t : Fin cfg0.N) (h : t.val % 4 = 3) (h4 : 4 ≤ t.val) :
    gain m c t.val t.isLt = k0_pay4 (k0_pay7 (acc m c t.val t.isLt) (iblk m c 2 t)) (gain m c (t.val - 1) (Nat.lt_of_le_of_lt (Nat.sub_le _ _) t.isLt)) := by
  rw [acc_step m c t (by omega)]
  funext y
  unfold gain
  rw [outsAt0_D m c t (by omega) (by omega) h (by omega) h4]
  frame_out
  rw [read_unread_whole]

/-! The product. -/

/-- A hidden unit's part of the product. -/
def part (c : Dev nD) (a : Fin 4096) (b : Fin 1024) (k : Fin 4096) : EReal := U m c (ix2 a k) * W m c (ix2 b k)

theorem part_eq (c : Dev nD) (t : Fin cfg0.N) (a b : Fin 1024) :
    ∑ k : Fin 1024, (show Vec Ideal S1024x1024 .bf16 from iblk m c 0 t) (ix2 a k) * (show Vec Ideal S1x1x1024x1024 .bf16 from iblk m c 1 t) (ix4 0 0 b k) = ∑ k : Fin 1024, part m c (tok t a) b (unit t k) := by
  simp only [blk0, blk1]
  rfl

/-- A token tile's point that takes the `i`-th tile of hidden units. -/
def col (t : Fin cfg0.N) (i : ℕ) (h : i < 4) : Fin cfg0.N := ⟨4 * (t.val / 4) + i, by have := lt_N t; have e : cfg0.N = 16 := N_0; omega⟩

theorem tok_col (t : Fin cfg0.N) (i : ℕ) (h : i < 4) (a : Fin 1024) : tok (col t i h) a = tok t a := Fin.ext (by simp only [tok, col]; omega)

theorem unit_col (t : Fin cfg0.N) (i : ℕ) (h : i < 4) (k : Fin 1024) : unit (col t i h) k = ⟨i * 1024 + k.val, by omega⟩ :=
  Fin.ext (by simp only [unit, col]; omega)

theorem acc_sum (c : Dev nD) (t : Fin cfg0.N) (a b : Fin 1024) (i : ℕ) (h : i < 4) :
    acc m c (col t i h).val (col t i h).isLt (ix2 a b) = ∑ s : Fin (i + 1), ∑ k : Fin 1024, part m c (tok t a) b ⟨s.val * 1024 + k.val, by omega⟩ := by
  induction i with
  | zero =>
    rw [acc_start m c _ (by simp only [col]; omega), prod_apply, part_eq, Fin.sum_univ_one]
    simp only [tok_col, unit_col]
    rfl
  | succ i ih =>
    rw [acc_step m c _ (by simp only [col]; omega), step_apply, part_eq, Fin.sum_univ_castSucc (n := i + 1)]
    simp only [tok_col, unit_col]
    rw [show acc m c ((col t (i + 1) h).val - 1) _ = acc m c (col t i (by omega)).val (col t i (by omega)).isLt from rfl, ih (by omega)]
    rfl

theorem acc_eq (c : Dev nD) (t : Fin cfg0.N) (h : t.val % 4 = 3) (a b : Fin 1024) :
    acc m c t.val t.isLt (ix2 a b) = PROD (U m c) (W m c) (ix2 (tok t a) b) := by
  have e : col t 3 (by omega) = t := Fin.ext (by simp only [col]; omega)
  have s := acc_sum m c t a b 3 (by omega)
  rw [e] at s
  rw [s, PROD_apply]
  exact Fin.sum_mul_add_congr fun s k h => rfl

theorem dx_eq (c : Dev nD) (t : Fin cfg0.N) (h : t.val % 4 = 3) (a b : Fin 1024) :
    (outsAt0 m c t.val t.isLt).1 (ix2 a b) = DX (PROD (U m c) (W m c)) (X m c) (G m c) (C m c) (ix2 (tok t a) b) := by
  rw [dx_last m c t h, dx_apply, DX_apply]
  simp only [acc_eq m c t h, blk2, blk3, blk4]

/-! The gain's gradient. -/

/-- A token's part of the gain's gradient. -/
def term (c : Dev nD) (b : Fin 1024) (t : Fin 4096) : EReal :=
  X m c (ix2 t b) * root (fun k : Fin 1024 => X m c (ix2 t k)) * PROD (U m c) (W m c) (ix2 t b)

theorem term_eq (c : Dev nD) (t : Fin cfg0.N) (h : t.val % 4 = 3) (a : Fin 1) (b : Fin 1024) :
    k0_pay7 (acc m c t.val t.isLt) (iblk m c 2 t) (ix2 a b) = ∑ k : Fin 1024, term m c b (tok t k) := by
  rw [dg_apply]
  simp only [acc_eq m c t h, blk2]
  exact Finset.sum_congr rfl fun k _ => mul_comm _ _

/-- The last point of the `i`-th token tile. -/
def last (i : ℕ) (h : i < 4) : Fin cfg0.N := ⟨4 * i + 3, by have e : cfg0.N = 16 := N_0; omega⟩

theorem tok_last (i : ℕ) (h : i < 4) (k : Fin 1024) : tok (last i h) k = ⟨i * 1024 + k.val, by omega⟩ :=
  Fin.ext (by simp only [tok, last]; omega)

theorem gain_prev (c : Dev nD) (i : ℕ) (h : i + 1 < 4) :
    gain m c ((last (i + 1) h).val - 1) (Nat.lt_of_le_of_lt (Nat.sub_le _ _) (last (i + 1) h).isLt) = gain m c (last i (by omega)).val (last i (by omega)).isLt := by
  have e : cfg0.N = 16 := N_0
  have k2 := gain_keep m c ⟨4 * i + 6, by omega⟩ (by dsimp only; omega)
  have k1 := gain_keep m c ⟨4 * i + 5, by omega⟩ (by dsimp only; omega)
  have k0 := gain_keep m c ⟨4 * i + 4, by omega⟩ (by dsimp only; omega)
  exact k2.trans (k1.trans k0)

theorem gain_sum (c : Dev nD) (a : Fin 1) (b : Fin 1024) (i : ℕ) (h : i < 4) :
    gain m c (last i h).val (last i h).isLt (ix2 a b) = ∑ s : Fin (i + 1), ∑ k : Fin 1024, term m c b ⟨s.val * 1024 + k.val, by omega⟩ := by
  induction i with
  | zero =>
    rw [gain_first m c _ rfl, term_eq m c _ rfl, Fin.sum_univ_one]
    simp only [tok_last]
    rfl
  | succ i ih =>
    rw [gain_step m c _ (by simp only [last]; omega) (by simp only [last]; omega), dg_step_apply, term_eq m c _ (by simp only [last]; omega), gain_prev, ih (by omega),
      Fin.sum_univ_castSucc (n := i + 1)]
    simp only [tok_last]
    rfl

theorem gain_eq (c : Dev nD) (a : Fin 1) (b : Fin 1024) (t : Fin cfg0.N) (h : t.val = 15) :
    gain m c t.val t.isLt (ix2 a b) = DG (PROD (U m c) (W m c)) (X m c) (ix2 a b) := by
  have e : last 3 (by omega) = t := Fin.ext h.symm
  have s := gain_sum m c a b 3 (by omega)
  rw [e] at s
  rw [s, DG_apply]
  exact Fin.sum_mul_add_congr fun s k h => rfl

/-! The arrays at the end. -/

theorem final5 (c : Dev nD) : (dats m 0 c).arrAt 5 (cfgs 0).N = DX (PROD (U m c) (W m c)) (X m c) (G m c) (C m c) := by
  refine (dats m 0 c).arrAt_eq_of_covers 5 _ (by decide +kernel) fun t hf y => ?_
  blk_simp
  rw [after0_5]
  idx_vars y
  exact (dx_eq m c t ((by decide +kernel : ∀ t : Fin grid0.N, win0_5.flush t = true → t.val % 4 = 3) t hf) _ _).trans (at5 _ t _ _).symm

theorem final6 (c : Dev nD) : (dats m 0 c).arrAt 6 (cfgs 0).N = DG (PROD (U m c) (W m c)) (X m c) := by
  refine (dats m 0 c).arrAt_eq_of_covers 6 _ (by decide +kernel) fun t hf y => ?_
  blk_simp
  rw [after0_6]
  idx_vars y
  exact (gain_eq m c _ _ t ((by decide +kernel : ∀ t : Fin grid0.N, win0_6.flush t = true → t.val = 15) t hf)).trans (at6 _ t _ _).symm

/-- The kernel's and the reference's gradients are one. -/
theorem algebraic : Cert.algebraic_Kernel5Ideal_Reference5Ideal := by
  pair_intro
  · run_from Cert.Kernel5Ideal.Gen.run_main m g
  · run_from Cert.Reference5Ideal.Value.run m' g'
    · rw [final5]
      obtain ⟨h0, h1, h2, h3, h4⟩ := hagree c
      unfold Cert.Reference5Ideal.Value.res_main_v38
      simp only [h0, h1, h2, h3, h4]
      unfold DX ROOT DXH MEAN PROD
      with_reducible rfl
    · rw [final6]
      unfold DG MEAN PROD
      with_reducible rfl

end Cert.Kernel5Ideal.Up

end
-- ==== Proof.Mlp.Fwd.lean ====
/- The MLP's forward pass: what the arrays hold at the end is the reference's. -/
module

public import proofs.«01_k».proof.Proof.Mlp.FwdLaunch
public import proofs.«01_k».proof.Proof.Mlp.NormGrad
public import proofs.«01_k».proof.Defs
public import proofs.«01_k».proof.Proof.Gen.Reference6Ideal.Run
public import Idealize.ShloMosaic.Lib.Pipeline.ValueKit
public import Idealize.ShloMosaic.Lib.Claim

@[expose] public section

set_option maxRecDepth 16384

noncomputable section

namespace Cert.Kernel6Ideal.Fwd

open Idealize.ShloMosaic Idealize.ShloMosaic.TcCoe Idealize.SL.Sem
open Idealize.ShloMosaic.Pipeline (Dat)
open Cert.Kernel6Ideal Cert.Kernel6Ideal.Gen

/-- The norm of every row, by a gain. -/
def NORM (x : FVec Ideal Cert.Reference6Ideal.S4096x1024 .f32) (g : FVec Ideal Cert.Reference6Ideal.S1024 .f32) : FVec Ideal Cert.Reference6Ideal.S4096x1024 .f32 :=
  mulf (mulf x (broadcastInDim Cert.Reference6Ideal.S4096x1024 ![0, 1] Cert.Reference6Ideal.Gen.bcast_S4096x1_S4096x1024_0_1 (Host.rsqrt (addf (Host.divf (broadcastInDim Cert.Reference6Ideal.S4096x1 ![0] Cert.Reference6Ideal.Gen.bcast_S4096_S4096x1_0 (Host.reduceAdd (mulf x x) (constant Cert.Reference6Ideal.S_ .f32 0x00000000#32) Cert.Reference6Ideal.Gen.reducesTo_S4096x1024_S4096_d1 Cert.Reference6Ideal.Gen.h_S_)) (broadcastInDim Cert.Reference6Ideal.S4096x1 ![] Cert.Reference6Ideal.Gen.bcast_S_S4096x1 (constant Cert.Reference6Ideal.S_ .f32 0x44800000#32))) (broadcastInDim Cert.Reference6Ideal.S4096x1 ![] Cert.Reference6Ideal.Gen.bcast_S_S4096x1 (constant Cert.Reference6Ideal.S_ .f32 0x358637BD#32)))))) (broadcastInDim Cert.Reference6Ideal.S4096x1024 ![0, 1] Cert.Reference6Ideal.Gen.bcast_S1x1024_S4096x1024_0_1 (broadcastInDim Cert.Reference6Ideal.S1x1024 ![1] Cert.Reference6Ideal.Gen.bcast_S1024_S1x1024_1 g))

/-- The relu of the product by the first weight. -/
def RELU (x : FVec Ideal Cert.Reference6Ideal.S4096x1024 .f32) (g : FVec Ideal Cert.Reference6Ideal.S1024 .f32) (u : FVec Ideal Cert.Reference6Ideal.S1024x4096 .f32) : FVec Ideal Cert.Reference6Ideal.S4096x4096 .f32 :=
  maximumf (Host.dotGeneral Cert.Reference6Ideal.dot_S4096x1024_S1024x4096_S4096x4096_1_0_0_1_n_n none (NORM x g) u) (broadcastInDim Cert.Reference6Ideal.S4096x4096 ![] Cert.Reference6Ideal.Gen.bcast_S_S4096x4096 (constant Cert.Reference6Ideal.S_ .f32 0x00000000#32))

/-- The product of the relu's square by the second weight. -/
def PROD (x : FVec Ideal Cert.Reference6Ideal.S4096x1024 .f32) (g : FVec Ideal Cert.Reference6Ideal.S1024 .f32) (u : FVec Ideal Cert.Reference6Ideal.S1024x4096 .f32) (w : FVec Ideal Cert.Reference6Ideal.S4096x1024 .f32) : FVec Ideal Cert.Reference6Ideal.S4096x1024 .f32 :=
  Host.dotGeneral Cert.Reference6Ideal.dot_S4096x4096_S4096x1024_S4096x1024_1_0_0_1_n_n none (mulf (RELU x g u) (RELU x g u)) w

/-- The sum of the input and the product's norm. -/
def SUM (x : FVec Ideal Cert.Reference6Ideal.S4096x1024 .f32) (g : FVec Ideal Cert.Reference6Ideal.S1024 .f32) (u : FVec Ideal Cert.Reference6Ideal.S1024x4096 .f32) (w : FVec Ideal Cert.Reference6Ideal.S4096x1024 .f32) (p : FVec Ideal Cert.Reference6Ideal.S1024 .f32) : FVec Ideal Cert.Reference6Ideal.S4096x1024 .f32 :=
  addf x (NORM (PROD x g u w) p)

open Cert.Norm (root)

theorem NORM_apply (x : FVec Ideal Cert.Reference6Ideal.S4096x1024 .f32) (g : FVec Ideal Cert.Reference6Ideal.S1024 .f32) (a : Fin 4096) (b : Fin 1024) :
    NORM x g (ix2 a b) = x (ix2 a b) * root (fun k : Fin 1024 => x (ix2 a k)) * g (ix1 b) := by
  pointwise [NORM]
  rfl

theorem norm_apply (x : Vec Ideal S1024x1024 .f32) (g : Vec Ideal S1x1024 .f32) (a : Fin 1024) (b : Fin 1024) :
    k0_pay1 x g (ix2 a b) = x (ix2 a b) * root (fun k : Fin 1024 => x (ix2 a k)) * g (ix2 0 b) := by
  pointwise [k0_pay1]
  rfl

theorem RELU_apply (x : FVec Ideal Cert.Reference6Ideal.S4096x1024 .f32) (g : FVec Ideal Cert.Reference6Ideal.S1024 .f32) (u : FVec Ideal Cert.Reference6Ideal.S1024x4096 .f32)
    (a : Fin 4096) (b : Fin 4096) :
    RELU x g u (ix2 a b) = max (∑ k : Fin 1024, NORM x g (ix2 a k) * u (ix2 k b)) (Ideal.ofBits .f32 0x00000000#32) := by
  pointwise [RELU]

theorem relu_apply (h : Vec Ideal S1024x1024 .bf16) (u : Vec Ideal S1x1x1024x1024 .bf16) (a : Fin 1024) (b : Fin 1024) :
    k0_pay2 h u (ix2 a b) = max (∑ k : Fin 1024, h (ix2 a k) * u (ix4 0 0 k b)) (Ideal.ofBits .f32 0x00000000#32) := by
  pointwise [k0_pay2]

theorem PROD_apply (x : FVec Ideal Cert.Reference6Ideal.S4096x1024 .f32) (g : FVec Ideal Cert.Reference6Ideal.S1024 .f32) (u : FVec Ideal Cert.Reference6Ideal.S1024x4096 .f32)
    (w : FVec Ideal Cert.Reference6Ideal.S4096x1024 .f32) (a : Fin 4096) (b : Fin 1024) :
    PROD x g u w (ix2 a b) = ∑ k : Fin 4096, RELU x g u (ix2 a k) * RELU x g u (ix2 a k) * w (ix2 k b) := by
  pointwise [PROD]

theorem prod_apply (h : Vec Ideal S1024x1024 .bf16) (u : Vec Ideal S1x1x1024x1024 .bf16) (w : Vec Ideal S1x1x1024x1024 .bf16) (a : Fin 1024) (b : Fin 1024) :
    k0_pay3 h u w (ix2 a b) = ∑ k : Fin 1024, k0_pay2 h u (ix2 a k) * k0_pay2 h u (ix2 a k) * w (ix4 0 0 k b) := by
  pointwise [k0_pay3]

theorem step_apply (h : Vec Ideal S1024x1024 .bf16) (u : Vec Ideal S1x1x1024x1024 .bf16) (w : Vec Ideal S1x1x1024x1024 .bf16) (x : Vec Ideal S1024x1024 .f32) (a : Fin 1024) (b : Fin 1024) :
    k0_pay4 h u w x (ix2 a b) = x (ix2 a b) + k0_pay3 h u w (ix2 a b) := by
  pointwise [k0_pay4]

theorem SUM_apply (x : FVec Ideal Cert.Reference6Ideal.S4096x1024 .f32) (g : FVec Ideal Cert.Reference6Ideal.S1024 .f32) (u : FVec Ideal Cert.Reference6Ideal.S1024x4096 .f32)
    (w : FVec Ideal Cert.Reference6Ideal.S4096x1024 .f32) (p : FVec Ideal Cert.Reference6Ideal.S1024 .f32) (a : Fin 4096) (b : Fin 1024) :
    SUM x g u w p (ix2 a b) = x (ix2 a b) + NORM (PROD x g u w) p (ix2 a b) := by
  pointwise [SUM]

theorem sum_apply (z x : Vec Ideal S1024x1024 .f32) (p : Vec Ideal S1x1024 .f32) (a : Fin 1024) (b : Fin 1024) :
    k0_pay5 z x p (ix2 a b) = x (ix2 a b) + z (ix2 a b) * root (fun k : Fin 1024 => z (ix2 a k)) * p (ix2 0 b) := by
  pointwise [k0_pay5]
  rfl

variable (m : (ℓ : Loc nD τ sig) → Buf (Elt Ideal) ℓ)

/-- Where each window's block sits at each grid point. -/
theorem idx : ∀ t : Fin cfg0.N, win0_0.index t = ![t.val / 4, 0] ∧ win0_1.index t = ![0, 0] ∧ win0_2.index t = ![t.val % 4, 0, 0, 0]
    ∧ win0_3.index t = ![t.val % 4, 0, 0, 0] ∧ win0_4.index t = ![0, 0] ∧ win0_5.index t = ![t.val / 4, 0]
    ∧ win0_6.index t = ![t.val / 4, t.val % 4] ∧ win0_7.index t = ![t.val / 4, 0] ∧ win0_8.index t = ![t.val / 4, 0] :=
  (by decide +kernel : ∀ t : Fin grid0.N, _)

theorem lt_N (t : Fin cfg0.N) : t.val < 16 := lt_of_lt_of_eq t.isLt (show cfg0.N = 16 from N_0)

/-- The token a row of a point's token tile is, and the hidden unit a column of its tile is. -/
def tok (t : Fin cfg0.N) (a : Fin 1024) : Fin 4096 := ⟨t.val / 4 * 1024 + a.val, by have := lt_N t; omega⟩
def unit (t : Fin cfg0.N) (a : Fin 1024) : Fin 4096 := ⟨t.val % 4 * 1024 + a.val, by omega⟩

theorem tok_start (t : Fin cfg0.N) (a : Fin 1024) : tok (start t) a = tok t a := Fin.ext (by simp only [tok, start]; omega)

abbrev X (c : Dev nD) : FVec Ideal Cert.Reference6Ideal.S4096x1024 .f32 := m ((c : Thread nD τ).loc main_arg0)
abbrev G (c : Dev nD) : FVec Ideal Cert.Reference6Ideal.S1024 .f32 := m ((c : Thread nD τ).loc main_arg1)
abbrev U (c : Dev nD) : FVec Ideal Cert.Reference6Ideal.S1024x4096 .f32 := m ((c : Thread nD τ).loc main_arg2)
abbrev W (c : Dev nD) : FVec Ideal Cert.Reference6Ideal.S4096x1024 .f32 := m ((c : Thread nD τ).loc main_arg3)
abbrev P (c : Dev nD) : FVec Ideal Cert.Reference6Ideal.S1024 .f32 := m ((c : Thread nD τ).loc main_arg4)

theorem blk0 (c : Dev nD) (t : Fin cfg0.N) (a b : Fin 1024) : iblk m c 0 t (ix2 a b) = X m c (ix2 (tok t a) b) := by
  blk_point [iblk, idx t, tok]

theorem blk1 (c : Dev nD) (t : Fin cfg0.N) (b : Fin 1024) : iblk m c 1 t (ix2 0 b) = G m c (ix1 b) := by
  blk_point [iblk, idx t]

theorem blk2 (c : Dev nD) (t : Fin cfg0.N) (a b : Fin 1024) : iblk m c 2 t (ix4 0 0 a b) = U m c (ix2 a (unit t b)) := by
  blk_point [iblk, idx t, unit]

theorem blk3 (c : Dev nD) (t : Fin cfg0.N) (a b : Fin 1024) : iblk m c 3 t (ix4 0 0 a b) = W m c (ix2 (unit t a) b) := by
  blk_point [iblk, idx t, unit]

theorem blk4 (c : Dev nD) (t : Fin cfg0.N) (b : Fin 1024) : iblk m c 4 t (ix2 0 b) = P m c (ix1 b) := by
  blk_point [iblk, idx t]

theorem at5 (Y : FVec Ideal S4096x1024 .bf16) (t : Fin cfg0.N) (a b : Fin 1024) : Y (((cfg0.win 5).blk t).view.emb (ix2 a b)) = Y (ix2 (tok t a) b) := by
  blk_point [idx t, tok]

theorem at6 (Y : FVec Ideal S4096x4096 .bf16) (t : Fin cfg0.N) (a b : Fin 1024) : Y (((cfg0.win 6).blk t).view.emb (ix2 a b)) = Y (ix2 (tok t a) (unit t b)) := by
  blk_point [idx t, tok, unit]

theorem at7 (Y : FVec Ideal S4096x1024 .f32) (t : Fin cfg0.N) (a b : Fin 1024) : Y (((cfg0.win 7).blk t).view.emb (ix2 a b)) = Y (ix2 (tok t a) b) := by
  blk_point [idx t, tok]

theorem at8 (Y : FVec Ideal S4096x1024 .f32) (t : Fin cfg0.N) (a b : Fin 1024) : Y (((cfg0.win 8).blk t).view.emb (ix2 a b)) = Y (ix2 (tok t a) b) := by
  blk_point [idx t, tok]

theorem hid_eq (c : Dev nD) (t : Fin cfg0.N) (a b : Fin 1024) : hid m c t (ix2 a b) = NORM (X m c) (G m c) (ix2 (tok t a) b) := by
  unfold hid
  rw [norm_apply, NORM_apply]
  simp only [blk0, blk1, tok_start]

theorem relu_eq (c : Dev nD) (t : Fin cfg0.N) (a b : Fin 1024) :
    k0_pay2 (hid m c t) (iblk m c 2 t) (ix2 a b) = RELU (X m c) (G m c) (U m c) (ix2 (tok t a) (unit t b)) := by
  rw [relu_apply, RELU_apply]
  simp only [blk2, hid_eq]

/-- A hidden unit's part of the second product. -/
def part (c : Dev nD) (a : Fin 4096) (b : Fin 1024) (k : Fin 4096) : EReal :=
  RELU (X m c) (G m c) (U m c) (ix2 a k) * RELU (X m c) (G m c) (U m c) (ix2 a k) * W m c (ix2 k b)

theorem prod_eq (c : Dev nD) (t : Fin cfg0.N) (a b : Fin 1024) :
    k0_pay3 (hid m c t) (iblk m c 2 t) (iblk m c 3 t) (ix2 a b) = ∑ k : Fin 1024, part m c (tok t a) b (unit t k) := by
  rw [prod_apply]
  simp only [relu_eq, blk3]
  rfl

/-- A token tile's point that takes the `i`-th tile of hidden units. -/
def col (t : Fin cfg0.N) (i : ℕ) (h : i < 4) : Fin cfg0.N := ⟨4 * (t.val / 4) + i, by have := lt_N t; have e : cfg0.N = 16 := N_0; omega⟩

theorem tok_col (t : Fin cfg0.N) (i : ℕ) (h : i < 4) (a : Fin 1024) : tok (col t i h) a = tok t a := Fin.ext (by simp only [tok, col]; omega)

theorem unit_col (t : Fin cfg0.N) (i : ℕ) (h : i < 4) (k : Fin 1024) : unit (col t i h) k = ⟨i * 1024 + k.val, by omega⟩ :=
  Fin.ext (by simp only [unit, col]; omega)

theorem acc_sum (c : Dev nD) (t : Fin cfg0.N) (a b : Fin 1024) (i : ℕ) (h : i < 4) :
    acc m c (col t i h).val (col t i h).isLt (ix2 a b) = ∑ s : Fin (i + 1), ∑ k : Fin 1024, part m c (tok t a) b ⟨s.val * 1024 + k.val, by omega⟩ := by
  induction i with
  | zero =>
    rw [acc_start m c _ (by simp only [col]; omega), prod_eq, Fin.sum_univ_one]
    simp only [tok_col, unit_col]
    rfl
  | succ i ih =>
    rw [acc_step m c _ (by simp only [col]; omega), step_apply, prod_eq, Fin.sum_univ_castSucc (n := i + 1)]
    simp only [tok_col, unit_col]
    rw [show acc m c ((col t (i + 1) h).val - 1) _ = acc m c (col t i (by omega)).val (col t i (by omega)).isLt from rfl, ih (by omega)]
    rfl

theorem acc_eq (c : Dev nD) (t : Fin cfg0.N) (h : t.val % 4 = 3) (a b : Fin 1024) :
    acc m c t.val t.isLt (ix2 a b) = PROD (X m c) (G m c) (U m c) (W m c) (ix2 (tok t a) b) := by
  have e : col t 3 (by omega) = t := Fin.ext (by simp only [col]; omega)
  have s := acc_sum m c t a b 3 (by omega)
  rw [e] at s
  rw [s, PROD_apply]
  exact Fin.sum_mul_add_congr fun s k h => rfl

theorem out_eq (c : Dev nD) (t : Fin cfg0.N) (h : t.val % 4 = 3) (a b : Fin 1024) :
    k0_pay5 (acc m c t.val t.isLt) (iblk m c 0 t) (iblk m c 4 t) (ix2 a b) = SUM (X m c) (G m c) (U m c) (W m c) (P m c) (ix2 (tok t a) b) := by
  rw [sum_apply, SUM_apply, NORM_apply]
  simp only [acc_eq m c t h, blk0, blk4]

/-! The arrays at the end. -/

theorem final5 (c : Dev nD) : (dats m 0 c).arrAt 5 (cfgs 0).N
    = truncf .bf16 (NORM (X m c) (G m c)) Cert.Reference6Ideal.Gen.bitsLt_bf16_f32 := by
  refine (dats m 0 c).arrAt_eq_of_covers 5 _ (by decide +kernel) fun t hf y => ?_
  blk_simp
  rw [after5]
  idx_vars y
  exact (hid_eq m c t _ _).trans (at5 _ t _ _).symm

theorem final6 (c : Dev nD) : (dats m 0 c).arrAt 6 (cfgs 0).N = truncf .bf16 (RELU (X m c) (G m c) (U m c)) Cert.Reference6Ideal.Gen.bitsLt_bf16_f32 := by
  refine (dats m 0 c).arrAt_eq_of_covers 6 _ (by decide +kernel) fun t hf y => ?_
  blk_simp
  rw [after6]
  idx_vars y
  exact (relu_eq m c t _ _).trans (at6 _ t _ _).symm

theorem final7 (c : Dev nD) : (dats m 0 c).arrAt 7 (cfgs 0).N = PROD (X m c) (G m c) (U m c) (W m c) := by
  refine (dats m 0 c).arrAt_eq_of_covers 7 _ (by decide +kernel) fun t hf y => ?_
  blk_simp
  rw [after7]
  idx_vars y
  exact (acc_eq m c t ((by decide +kernel : ∀ t : Fin grid0.N, win0_7.flush t = true → t.val % 4 = 3) t hf) _ _).trans (at7 _ t _ _).symm

theorem final8 (c : Dev nD) : (dats m 0 c).arrAt 8 (cfgs 0).N = SUM (X m c) (G m c) (U m c) (W m c) (P m c) := by
  refine (dats m 0 c).arrAt_eq_of_covers 8 _ (by decide +kernel) fun t hf y => ?_
  blk_simp
  rw [after8]
  idx_vars y
  exact (out_eq m c t ((by decide +kernel : ∀ t : Fin grid0.N, win0_8.flush t = true → t.val % 4 = 3) t hf) _ _).trans (at8 _ t _ _).symm

/-- The kernel's and the reference's results are one. -/
theorem algebraic : Cert.algebraic_Kernel6Ideal_Reference6Ideal := by
  pair_intro
  · run_from ((θ_run defs _ _).mono (fun _ h => h.1) (run_main (F := Ideal) m g))
  · run_from Cert.Reference6Ideal.Value.run m' g'
    · exact (final5 m c).symm
    · exact (final6 m c).symm
    · exact (final7 m c).symm
    · rw [final8]
      obtain ⟨h0, h1, h2, h3, h4⟩ := hagree c
      unfold Cert.Reference6Ideal.Value.res_main_v32
      simp only [h0, h1, h2, h3, h4]
      unfold SUM PROD RELU NORM
      with_reducible rfl

end Cert.Kernel6Ideal.Fwd

end
-- ==== Proof.Proj.QueryBack.lean ====
/- The backward pass of the query projection and of the norm before it: what the arrays hold at the end is the reference's. -/
module

public import proofs.«01_k».proof.Proof.Mlp.Up
public import proofs.«01_k».proof.Defs
public import proofs.«01_k».proof.Proof.Gen.Kernel7Ideal.Frame
public import proofs.«01_k».proof.Proof.Gen.Reference7Ideal.Run
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel7Ideal.Up

open Idealize.ShloMosaic Idealize.ShloMosaic.TcCoe Idealize.SL.Sem
open Idealize.ShloMosaic.Pipeline (Dat)
open Cert.Kernel7Ideal Cert.Kernel7Ideal.Gen

open Cert.Norm (row root)
open Cert.Kernel5Ideal.Up (DX DG DXH ROOT MEAN)

/-- The gradient of the product's left factor. -/
def PROD (u : FVec Ideal Cert.Reference7Ideal.S4096x1024 .f32) (w : FVec Ideal Cert.Reference7Ideal.S1024x1024 .f32) : FVec Ideal Cert.Reference7Ideal.S4096x1024 .f32 :=
  Host.dotGeneral Cert.Reference7Ideal.dot_S4096x1024_S1024x1024_S4096x1024_1_1_0_0_n_n none u w

theorem dx_apply (d z : Vec Ideal S1024x1024 .f32) (g : Vec Ideal S1x1024 .f32) (ct : Vec Ideal S1024x1024 .f32) (a : Fin 1024) (b : Fin 1024) :
    k0_pay8 d z g ct (ix2 a b) = ct (ix2 a b) + row (fun k : Fin 1024 => z (ix2 a k)) (fun k => d (ix2 a k) * g (ix2 0 k)) b :=
  Cert.Kernel5Ideal.Up.dx_apply d z g ct a b

theorem dg_apply (d z : Vec Ideal S1024x1024 .f32) (a : Fin 1) (b : Fin 1024) :
    k0_pay7 d z (ix2 a b) = ∑ t : Fin 1024, d (ix2 t b) * (z (ix2 t b) * root (fun k : Fin 1024 => z (ix2 t k))) :=
  Cert.Kernel5Ideal.Up.dg_apply d z a b

theorem dg_step_apply (d : FVec Ideal S1x1024 .f32) (x : Vec Ideal S1x1024 .f32) (a : Fin 1) (b : Fin 1024) :
    k0_pay4 d x (ix2 a b) = x (ix2 a b) + d (ix2 a b) :=
  Cert.Kernel5Ideal.Up.dg_step_apply d x a b

variable (m : (ℓ : Loc nD τ sig) → Buf (Elt Ideal) ℓ)

/-- Where each window's block sits at each grid point. -/
theorem idx : ∀ t : Fin cfg0.N, win0_0.index t = ![t.val, 0] ∧ win0_1.index t = ![0, 0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem lt_N (t : Fin cfg0.N) : t.val < 4 := lt_of_lt_of_eq t.isLt (show cfg0.N = 4 from N_0)

/-- The token a row of a point's token tile is. -/
def tok (t : Fin cfg0.N) (a : Fin 1024) : Fin 4096 := ⟨t.val * 1024 + a.val, by have := lt_N t; omega⟩

abbrev U (c : Dev nD) : FVec Ideal Cert.Reference7Ideal.S4096x1024 .f32 := m ((c : Thread nD τ).loc main_arg0)
abbrev W (c : Dev nD) : FVec Ideal Cert.Reference7Ideal.S1024x1024 .f32 := m ((c : Thread nD τ).loc main_arg1)
abbrev X (c : Dev nD) : FVec Ideal Cert.Reference7Ideal.S4096x1024 .f32 := m ((c : Thread nD τ).loc main_arg2)
abbrev G (c : Dev nD) : FVec Ideal Cert.Reference7Ideal.S1024 .f32 := m ((c : Thread nD τ).loc main_arg3)
abbrev C (c : Dev nD) : FVec Ideal Cert.Reference7Ideal.S4096x1024 .f32 := m ((c : Thread nD τ).loc main_arg4)

/-- The product a point forms. -/
theorem prod_eq (c : Dev nD) (t : Fin cfg0.N) (a b : Fin 1024) :
    k0_pay2 (F := Ideal) (iblk m c 0 t) (iblk m c 1 t) (ix2 a b) = PROD (U m c) (W m c) (ix2 (tok t a) b) := by
  pointwise [k0_pay2, k0_pay1, PROD]
  blk_point [iblk, idx t, tok]

theorem blk2 (c : Dev nD) (t : Fin cfg0.N) (a b : Fin 1024) : iblk m c 2 t (ix2 a b) = X m c (ix2 (tok t a) b) := by
  blk_point [iblk, idx t, tok]

theorem blk3 (c : Dev nD) (t : Fin cfg0.N) (b : Fin 1024) : iblk m c 3 t (ix2 0 b) = G m c (ix1 b) := by
  blk_point [iblk, idx t]

theorem blk4 (c : Dev nD) (t : Fin cfg0.N) (a b : Fin 1024) : iblk m c 4 t (ix2 a b) = C m c (ix2 (tok t a) b) := by
  blk_point [iblk, idx t, tok]

theorem at5 (Y : FVec Ideal S4096x1024 .f32) (t : Fin cfg0.N) (a b : Fin 1024) : Y (((cfg0.win 5).blk t).view.emb (ix2 a b)) = Y (ix2 (tok t a) b) := by
  blk_point [idx t, tok]

theorem at6 (Y : FVec Ideal S1x1024 .f32) (t : Fin cfg0.N) (a : Fin 1) (b : Fin 1024) : Y (((cfg0.win 6).blk t).view.emb (ix2 a b)) = Y (ix2 a b) := by
  blk_point [idx t]

/-! What a point leaves: the rows' gradient, the gain's gradient summed up so far. -/

theorem dx_point (c : Dev nD) (t : Fin cfg0.N) :
    (outsAt0 m c t.val t.isLt).1 = k0_pay8 (k0_pay2 (F := Ideal) (iblk m c 0 t) (iblk m c 1 t)) (iblk m c 2 t) (iblk m c 3 t) (iblk m c 4 t) := by
  have := lt_N t
  funext y
  by_cases h : t.val = 0
  · rw [outsAt0_A m c t (by omega) (by omega)]
    frame_out
  · rw [outsAt0_B m c t (by omega) (by omega)]
    frame_out

abbrev gain (c : Dev nD) (n : ℕ) (h : n < cfg0.N) : Vec Ideal S1x1024 .f32 := (outsAt0 m c n h).2

theorem gain_first (c : Dev nD) (t : Fin cfg0.N) (h : t.val = 0) :
    gain m c t.val t.isLt = k0_pay7 (k0_pay2 (F := Ideal) (iblk m c 0 t) (iblk m c 1 t)) (iblk m c 2 t) := by
  funext y
  unfold gain
  rw [outsAt0_A m c t (by omega) (by omega)]
  frame_out

theorem gain_step (c : Dev nD) (t : Fin cfg0.N) (h : 1 ≤ t.val) :
    gain m c t.val t.isLt = k0_pay4 (k0_pay7 (k0_pay2 (F := Ideal) (iblk m c 0 t) (iblk m c 1 t)) (iblk m c 2 t)) (gain m c (t.val - 1) (Nat.lt_of_le_of_lt (Nat.sub_le _ _) t.isLt)) := by
  have := lt_N t
  funext y
  unfold gain
  rw [outsAt0_B m c t (by omega) h]
  frame_out

theorem dx_eq (c : Dev nD) (t : Fin cfg0.N) (a b : Fin 1024) :
    (outsAt0 m c t.val t.isLt).1 (ix2 a b) = DX (PROD (U m c) (W m c)) (X m c) (G m c) (C m c) (ix2 (tok t a) b) := by
  rw [dx_point, dx_apply, Cert.Kernel5Ideal.Up.DX_apply]
  simp only [prod_eq, blk2, blk3, blk4]

/-- A token's part of the gain's gradient. -/
def term (c : Dev nD) (b : Fin 1024) (t : Fin 4096) : EReal :=
  X m c (ix2 t b) * root (fun k : Fin 1024 => X m c (ix2 t k)) * PROD (U m c) (W m c) (ix2 t b)

theorem term_eq (c : Dev nD) (t : Fin cfg0.N) (a : Fin 1) (b : Fin 1024) :
    k0_pay7 (k0_pay2 (F := Ideal) (iblk m c 0 t) (iblk m c 1 t)) (iblk m c 2 t) (ix2 a b) = ∑ k : Fin 1024, term m c b (tok t k) := by
  rw [dg_apply]
  simp only [prod_eq, blk2]
  exact Finset.sum_congr rfl fun k _ => mul_comm _ _

theorem gain_sum (c : Dev nD) (a : Fin 1) (b : Fin 1024) (i : ℕ) (h : i < cfg0.N) :
    gain m c i h (ix2 a b) = ∑ s : Fin (i + 1), ∑ k : Fin 1024, term m c b ⟨s.val * 1024 + k.val, by have := lt_N ⟨i, h⟩; dsimp only at this; omega⟩ := by
  induction i with
  | zero =>
    rw [gain_first m c ⟨0, h⟩ rfl, term_eq, Fin.sum_univ_one]
    rfl
  | succ i ih =>
    rw [gain_step m c ⟨i + 1, h⟩ (by dsimp only; omega), dg_step_apply, term_eq, Fin.sum_univ_castSucc (n := i + 1)]
    rw [show gain m c ((⟨i + 1, h⟩ : Fin cfg0.N).val - 1) _ = gain m c i (Nat.lt_of_succ_lt h) from rfl, ih (Nat.lt_of_succ_lt h)]
    rfl

theorem gain_eq (c : Dev nD) (a : Fin 1) (b : Fin 1024) (t : Fin cfg0.N) (h : t.val = 3) :
    gain m c t.val t.isLt (ix2 a b) = DG (PROD (U m c) (W m c)) (X m c) (ix2 a b) := by
  have e : (⟨3, by have := lt_N t; exact h ▸ t.isLt⟩ : Fin cfg0.N) = t := Fin.ext h.symm
  have s := gain_sum m c a b 3 (h ▸ t.isLt)
  rw [← e, s, Cert.Kernel5Ideal.Up.DG_apply]
  exact Fin.sum_mul_add_congr fun s k h => rfl

/-! The arrays at the end. -/

theorem final5 (c : Dev nD) : (dats m 0 c).arrAt 5 (cfgs 0).N = DX (PROD (U m c) (W m c)) (X m c) (G m c) (C m c) := by
  refine (dats m 0 c).arrAt_eq_of_covers 5 _ (by decide +kernel) fun t hf y => ?_
  blk_simp
  rw [after0_5]
  idx_vars y
  exact (dx_eq m c t _ _).trans (at5 _ t _ _).symm

theorem final6 (c : Dev nD) : (dats m 0 c).arrAt 6 (cfgs 0).N = DG (PROD (U m c) (W m c)) (X m c) := by
  refine (dats m 0 c).arrAt_eq_of_covers 6 _ (by decide +kernel) fun t hf y => ?_
  blk_simp
  rw [after0_6]
  idx_vars y
  exact (gain_eq m c _ _ t ((by decide +kernel : ∀ t : Fin grid0.N, win0_6.flush t = true → t.val = 3) t hf)).trans (at6 _ t _ _).symm

/-- The kernel's and the reference's gradients are one. -/
theorem algebraic : Cert.algebraic_Kernel7Ideal_Reference7Ideal := by
  pair_intro
  · run_from Cert.Kernel7Ideal.Gen.run_main m g
  · run_from Cert.Reference7Ideal.Value.run m' g'
    · rw [final5]
      obtain ⟨h0, h1, h2, h3, h4⟩ := hagree c
      unfold Cert.Reference7Ideal.Value.res_main_v38
      simp only [h0, h1, h2, h3, h4]
      unfold DX ROOT DXH MEAN PROD
      with_reducible rfl
    · rw [final6]
      unfold DG MEAN PROD
      with_reducible rfl

end Cert.Kernel7Ideal.Up

end
-- ==== Proof.Proj.KeyValueBack.lean ====
/- The backward pass of the key and value projection and of the norm before it: what the arrays hold at the end is the reference's. -/
module

public import proofs.«01_k».proof.Proof.Mlp.Up
public import proofs.«01_k».proof.Defs
public import proofs.«01_k».proof.Proof.Gen.Kernel8Ideal.Frame
public import proofs.«01_k».proof.Proof.Gen.Reference8Ideal.Run
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel8Ideal.Up

open Idealize.ShloMosaic Idealize.ShloMosaic.TcCoe Idealize.SL.Sem
open Idealize.ShloMosaic.Pipeline (Dat)
open Cert.Kernel8Ideal Cert.Kernel8Ideal.Gen

open Cert.Norm (row root)
open Cert.Kernel5Ideal.Up (DX DG DXH ROOT MEAN)

/-- The gradient of the product's left factor. -/
def PROD (u : FVec Ideal Cert.Reference8Ideal.S4096x2048 .f32) (w : FVec Ideal Cert.Reference8Ideal.S1024x2048 .f32) : FVec Ideal Cert.Reference8Ideal.S4096x1024 .f32 :=
  Host.dotGeneral Cert.Reference8Ideal.dot_S4096x2048_S1024x2048_S4096x1024_1_1_0_0_n_n none u w

theorem dx_apply (d z : Vec Ideal S1024x1024 .f32) (g : Vec Ideal S1x1024 .f32) (ct : Vec Ideal S1024x1024 .f32) (a : Fin 1024) (b : Fin 1024) :
    k0_pay8 d z g ct (ix2 a b) = ct (ix2 a b) + row (fun k : Fin 1024 => z (ix2 a k)) (fun k => d (ix2 a k) * g (ix2 0 k)) b :=
  Cert.Kernel5Ideal.Up.dx_apply d z g ct a b

theorem dg_apply (d z : Vec Ideal S1024x1024 .f32) (a : Fin 1) (b : Fin 1024) :
    k0_pay7 d z (ix2 a b) = ∑ t : Fin 1024, d (ix2 t b) * (z (ix2 t b) * root (fun k : Fin 1024 => z (ix2 t k))) :=
  Cert.Kernel5Ideal.Up.dg_apply d z a b

theorem dg_step_apply (d : FVec Ideal S1x1024 .f32) (x : Vec Ideal S1x1024 .f32) (a : Fin 1) (b : Fin 1024) :
    k0_pay4 d x (ix2 a b) = x (ix2 a b) + d (ix2 a b) :=
  Cert.Kernel5Ideal.Up.dg_step_apply d x a b

theorem prod_apply (u : Vec Ideal S1024x512 .bf16) (w : Vec Ideal S1x1x1024x512 .bf16) (a : Fin 1024) (b : Fin 1024) :
    k0_pay2 u w (ix2 a b) = ∑ k : Fin 512, u (ix2 a k) * w (ix4 0 0 b k) := by
  pointwise [k0_pay2, k0_pay1]

theorem step_apply (u : Vec Ideal S1024x512 .bf16) (w : Vec Ideal S1x1x1024x512 .bf16) (x : Vec Ideal S1024x1024 .f32) (a : Fin 1024) (b : Fin 1024) :
    k0_pay3 u w x (ix2 a b) = x (ix2 a b) + ∑ k : Fin 512, u (ix2 a k) * w (ix4 0 0 b k) := by
  pointwise [k0_pay3, k0_pay1]

theorem PROD_apply (u : FVec Ideal Cert.Reference8Ideal.S4096x2048 .f32) (w : FVec Ideal Cert.Reference8Ideal.S1024x2048 .f32) (a : Fin 4096) (b : Fin 1024) :
    PROD u w (ix2 a b) = ∑ k : Fin 2048, u (ix2 a k) * w (ix2 b k) := by
  pointwise [PROD]

variable (m : (ℓ : Loc nD τ sig) → Buf (Elt Ideal) ℓ)

/-- Where each window's block sits at each grid point. -/
theorem idx : ∀ t : Fin cfg0.N, win0_0.index t = ![t.val / 4, t.val % 4] ∧ win0_1.index t = ![t.val % 4, 0, 0, 0] ∧ win0_2.index t = ![t.val / 4, 0]
    ∧ win0_3.index t = ![0, 0] ∧ win0_4.index t = ![t.val / 4, 0] ∧ win0_5.index t = ![t.val / 4, 0] ∧ win0_6.index t = ![0, 0] :=
  (by decide +kernel : ∀ t : Fin grid0.N, _)

theorem lt_N (t : Fin cfg0.N) : t.val < 16 := lt_of_lt_of_eq t.isLt (show cfg0.N = 16 from N_0)

/-- The token a row of a point's token tile is, and the key's or value's channel a column of its tile is. -/
def tok (t : Fin cfg0.N) (a : Fin 1024) : Fin 4096 := ⟨t.val / 4 * 1024 + a.val, by have := lt_N t; omega⟩
def unit (t : Fin cfg0.N) (a : Fin 512) : Fin 2048 := ⟨t.val % 4 * 512 + a.val, by omega⟩

abbrev U (c : Dev nD) : FVec Ideal Cert.Reference8Ideal.S4096x2048 .f32 := m ((c : Thread nD τ).loc main_arg0)
abbrev W (c : Dev nD) : FVec Ideal Cert.Reference8Ideal.S1024x2048 .f32 := m ((c : Thread nD τ).loc main_arg1)
abbrev X (c : Dev nD) : FVec Ideal Cert.Reference8Ideal.S4096x1024 .f32 := m ((c : Thread nD τ).loc main_arg2)
abbrev G (c : Dev nD) : FVec Ideal Cert.Reference8Ideal.S1024 .f32 := m ((c : Thread nD τ).loc main_arg3)
abbrev C (c : Dev nD) : FVec Ideal Cert.Reference8Ideal.S4096x1024 .f32 := m ((c : Thread nD τ).loc main_arg4)

theorem blk0 (c : Dev nD) (t : Fin cfg0.N) (a : Fin 1024) (b : Fin 512) : iblk m c 0 t (ix2 a b) = U m c (ix2 (tok t a) (unit t b)) := by
  blk_point [iblk, idx t, tok, unit]

theorem blk1 (c : Dev nD) (t : Fin cfg0.N) (a : Fin 1024) (b : Fin 512) : iblk m c 1 t (ix4 0 0 a b) = W m c (ix2 a (unit t b)) := by
  blk_point [iblk, idx t, unit]

theorem blk2 (c : Dev nD) (t : Fin cfg0.N) (a b : Fin 1024) : iblk m c 2 t (ix2 a b) = X m c (ix2 (tok t a) b) := by
  blk_point [iblk, idx t, tok]

theorem blk3 (c : Dev nD) (t : Fin cfg0.N) (b : Fin 1024) : iblk m c 3 t (ix2 0 b) = G m c (ix1 b) := by
  blk_point [iblk, idx t]

theorem blk4 (c : Dev nD) (t : Fin cfg0.N) (a b : Fin 1024) : iblk m c 4 t (ix2 a b) = C m c (ix2 (tok t a) b) := by
  blk_point [iblk, idx t, tok]

theorem at5 (Y : FVec Ideal S4096x1024 .f32) (t : Fin cfg0.N) (a b : Fin 1024) : Y (((cfg0.win 5).blk t).view.emb (ix2 a b)) = Y (ix2 (tok t a) b) := by
  blk_point [idx t, tok]

theorem at6 (Y : FVec Ideal S1x1024 .f32) (t : Fin cfg0.N) (a : Fin 1) (b : Fin 1024) : Y (((cfg0.win 6).blk t).view.emb (ix2 a b)) = Y (ix2 a b) := by
  blk_point [idx t]

/-! What a point leaves: the product summed up so far, the rows' gradient, the gain's gradient. -/

abbrev acc (c : Dev nD) (n : ℕ) (h : n < cfg0.N) : Vec Ideal S1024x1024 .f32 := (outsAt0 m c n h).2.2
abbrev gain (c : Dev nD) (n : ℕ) (h : n < cfg0.N) : Vec Ideal S1x1024 .f32 := (outsAt0 m c n h).2.1

theorem acc_start (c : Dev nD) (t : Fin cfg0.N) (h : t.val % 4 = 0) : acc m c t.val t.isLt = k0_pay2 (iblk m c 0 t) (iblk m c 1 t) := by
  funext y
  unfold acc
  rw [outsAt0_A m c t h (by omega) (by omega)]
  frame_out

theorem acc_step (c : Dev nD) (t : Fin cfg0.N) (h : ¬t.val % 4 = 0) :
    acc m c t.val t.isLt = k0_pay3 (iblk m c 0 t) (iblk m c 1 t) (acc m c (t.val - 1) (Nat.lt_of_le_of_lt (Nat.sub_le _ _) t.isLt)) := by
  funext y
  unfold acc
  by_cases h3 : t.val % 4 = 3
  · by_cases h4 : t.val < 4
    · rw [outsAt0_C m c t h (by omega) h3 h4 (by omega)]
      frame_out
      rw [read_unread_whole]
    · rw [outsAt0_D m c t h (by omega) h3 h4 (by omega)]
      frame_out
      rw [read_unread_whole]
  · rw [outsAt0_B m c t h (by omega) h3]
    frame_out
    rw [read_unread_whole]

theorem dx_last (c : Dev nD) (t : Fin cfg0.N) (h : t.val % 4 = 3) :
    (outsAt0 m c t.val t.isLt).1 = k0_pay8 (acc m c t.val t.isLt) (iblk m c 2 t) (iblk m c 3 t) (iblk m c 4 t) := by
  rw [acc_step m c t (by omega)]
  funext y
  by_cases h4 : t.val < 4
  · rw [outsAt0_C m c t (by omega) (by omega) h h4 (by omega)]
    frame_out
    rw [read_unread_whole]
  · rw [outsAt0_D m c t (by omega) (by omega) h h4 (by omega)]
    frame_out
    rw [read_unread_whole]

theorem gain_first (c : Dev nD) (t : Fin cfg0.N) (h : t.val = 3) :
    gain m c t.val t.isLt = k0_pay7 (acc m c t.val t.isLt) (iblk m c 2 t) := by
  rw [acc_step m c t (by omega)]
  funext y
  unfold gain
  rw [outsAt0_C m c t (by omega) (by omega) (by omega) (by omega) (by omega)]
  frame_out
  rw [read_unread_whole]

theorem gain_keep (c : Dev nD) (t : Fin cfg0.N) (h : ¬t.val % 4 = 3) :
    gain m c t.val t.isLt = gain m c (t.val - 1) (Nat.lt_of_le_of_lt (Nat.sub_le _ _) t.isLt) := by
  unfold gain
  by_cases h0 : t.val % 4 = 0
  · rw [outsAt0_A m c t h0 (by omega) h]
    rfl
  · rw [outsAt0_B m c t h0 (by omega) h]
    rfl

theorem gain_step (c : Dev nD) (t : Fin cfg0.N) (h : t.val % 4 = 3) (h4 : 4 ≤ t.val) :
    gain m c t.val t.isLt = k0_pay4 (k0_pay7 (acc m c t.val t.isLt) (iblk m c 2 t)) (gain m c (t.val - 1) (Nat.lt_of_le_of_lt (Nat.sub_le _ _) t.isLt)) := by
  rw [acc_step m c t (by omega)]
  funext y
  unfold gain
  rw [outsAt0_D m c t (by omega) (by omega) h (by omega) h4]
  frame_out
  rw [read_unread_whole]

/-! The product. -/

/-- A channel's part of the product. -/
def part (c : Dev nD) (a : Fin 4096) (b : Fin 1024) (k : Fin 2048) : EReal := U m c (ix2 a k) * W m c (ix2 b k)

theorem part_eq (c : Dev nD) (t : Fin cfg0.N) (a b : Fin 1024) :
    ∑ k : Fin 512, (show Vec Ideal S1024x512 .bf16 from iblk m c 0 t) (ix2 a k) * (show Vec Ideal S1x1x1024x512 .bf16 from iblk m c 1 t) (ix4 0 0 b k) = ∑ k : Fin 512, part m c (tok t a) b (unit t k) := by
  simp only [blk0, blk1]
  rfl

/-- A token tile's point that takes the `i`-th tile of channels. -/
def col (t : Fin cfg0.N) (i : ℕ) (h : i < 4) : Fin cfg0.N := ⟨4 * (t.val / 4) + i, by have := lt_N t; have e : cfg0.N = 16 := N_0; omega⟩

theorem tok_col (t : Fin cfg0.N) (i : ℕ) (h : i < 4) (a : Fin 1024) : tok (col t i h) a = tok t a := Fin.ext (by simp only [tok, col]; omega)

theorem unit_col (t : Fin cfg0.N) (i : ℕ) (h : i < 4) (k : Fin 512) : unit (col t i h) k = ⟨i * 512 + k.val, by omega⟩ :=
  Fin.ext (by simp only [unit, col]; omega)

theorem acc_sum (c : Dev nD) (t : Fin cfg0.N) (a b : Fin 1024) (i : ℕ) (h : i < 4) :
    acc m c (col t i h).val (col t i h).isLt (ix2 a b) = ∑ s : Fin (i + 1), ∑ k : Fin 512, part m c (tok t a) b ⟨s.val * 512 + k.val, by omega⟩ := by
  induction i with
  | zero =>
    rw [acc_start m c _ (by simp only [col]; omega), prod_apply, part_eq, Fin.sum_univ_one]
    simp only [tok_col, unit_col]
    rfl
  | succ i ih =>
    rw [acc_step m c _ (by simp only [col]; omega), step_apply, part_eq, Fin.sum_univ_castSucc (n := i + 1)]
    simp only [tok_col, unit_col]
    rw [show acc m c ((col t (i + 1) h).val - 1) _ = acc m c (col t i (by omega)).val (col t i (by omega)).isLt from rfl, ih (by omega)]
    rfl

theorem acc_eq (c : Dev nD) (t : Fin cfg0.N) (h : t.val % 4 = 3) (a b : Fin 1024) :
    acc m c t.val t.isLt (ix2 a b) = PROD (U m c) (W m c) (ix2 (tok t a) b) := by
  have e : col t 3 (by omega) = t := Fin.ext (by simp only [col]; omega)
  have s := acc_sum m c t a b 3 (by omega)
  rw [e] at s
  rw [s, PROD_apply]
  exact Fin.sum_mul_add_congr fun s k h => rfl

theorem dx_eq (c : Dev nD) (t : Fin cfg0.N) (h : t.val % 4 = 3) (a b : Fin 1024) :
    (outsAt0 m c t.val t.isLt).1 (ix2 a b) = DX (PROD (U m c) (W m c)) (X m c) (G m c) (C m c) (ix2 (tok t a) b) := by
  rw [dx_last m c t h, dx_apply, Cert.Kernel5Ideal.Up.DX_apply]
  simp only [acc_eq m c t h, blk2, blk3, blk4]

/-! The gain's gradient. -/

/-- A token's part of the gain's gradient. -/
def term (c : Dev nD) (b : Fin 1024) (t : Fin 4096) : EReal :=
  X m c (ix2 t b) * root (fun k : Fin 1024 => X m c (ix2 t k)) * PROD (U m c) (W m c) (ix2 t b)

theorem term_eq (c : Dev nD) (t : Fin cfg0.N) (h : t.val % 4 = 3) (a : Fin 1) (b : Fin 1024) :
    k0_pay7 (acc m c t.val t.isLt) (iblk m c 2 t) (ix2 a b) = ∑ k : Fin 1024, term m c b (tok t k) := by
  rw [dg_apply]
  simp only [acc_eq m c t h, blk2]
  exact Finset.sum_congr rfl fun k _ => mul_comm _ _

/-- The last point of the `i`-th token tile. -/
def last (i : ℕ) (h : i < 4) : Fin cfg0.N := ⟨4 * i + 3, by have e : cfg0.N = 16 := N_0; omega⟩

theorem tok_last (i : ℕ) (h : i < 4) (k : Fin 1024) : tok (last i h) k = ⟨i * 1024 + k.val, by omega⟩ :=
  Fin.ext (by simp only [tok, last]; omega)

theorem gain_prev (c : Dev nD) (i : ℕ) (h : i + 1 < 4) :
    gain m c ((last (i + 1) h).val - 1) (Nat.lt_of_le_of_lt (Nat.sub_le _ _) (last (i + 1) h).isLt) = gain m c (last i (by omega)).val (last i (by omega)).isLt := by
  have e : cfg0.N = 16 := N_0
  have k2 := gain_keep m c ⟨4 * i + 6, by omega⟩ (by dsimp only; omega)
  have k1 := gain_keep m c ⟨4 * i + 5, by omega⟩ (by dsimp only; omega)
  have k0 := gain_keep m c ⟨4 * i + 4, by omega⟩ (by dsimp only; omega)
  exact k2.trans (k1.trans k0)

theorem gain_sum (c : Dev nD) (a : Fin 1) (b : Fin 1024) (i : ℕ) (h : i < 4) :
    gain m c (last i h).val (last i h).isLt (ix2 a b) = ∑ s : Fin (i + 1), ∑ k : Fin 1024, term m c b ⟨s.val * 1024 + k.val, by omega⟩ := by
  induction i with
  | zero =>
    rw [gain_first m c _ rfl, term_eq m c _ rfl, Fin.sum_univ_one]
    simp only [tok_last]
    rfl
  | succ i ih =>
    rw [gain_step m c _ (by simp only [last]; omega) (by simp only [last]; omega), dg_step_apply, term_eq m c _ (by simp only [last]; omega), gain_prev, ih (by omega),
      Fin.sum_univ_castSucc (n := i + 1)]
    simp only [tok_last]
    rfl

theorem gain_eq (c : Dev nD) (a : Fin 1) (b : Fin 1024) (t : Fin cfg0.N) (h : t.val = 15) :
    gain m c t.val t.isLt (ix2 a b) = DG (PROD (U m c) (W m c)) (X m c) (ix2 a b) := by
  have e : last 3 (by omega) = t := Fin.ext h.symm
  have s := gain_sum m c a b 3 (by omega)
  rw [e] at s
  rw [s, Cert.Kernel5Ideal.Up.DG_apply]
  exact Fin.sum_mul_add_congr fun s k h => rfl

/-! The arrays at the end. -/

theorem final5 (c : Dev nD) : (dats m 0 c).arrAt 5 (cfgs 0).N = DX (PROD (U m c) (W m c)) (X m c) (G m c) (C m c) := by
  refine (dats m 0 c).arrAt_eq_of_covers 5 _ (by decide +kernel) fun t hf y => ?_
  blk_simp
  rw [after0_5]
  idx_vars y
  exact (dx_eq m c t ((by decide +kernel : ∀ t : Fin grid0.N, win0_5.flush t = true → t.val % 4 = 3) t hf) _ _).trans (at5 _ t _ _).symm

theorem final6 (c : Dev nD) : (dats m 0 c).arrAt 6 (cfgs 0).N = DG (PROD (U m c) (W m c)) (X m c) := by
  refine (dats m 0 c).arrAt_eq_of_covers 6 _ (by decide +kernel) fun t hf y => ?_
  blk_simp
  rw [after0_6]
  idx_vars y
  exact (gain_eq m c _ _ t ((by decide +kernel : ∀ t : Fin grid0.N, win0_6.flush t = true → t.val = 15) t hf)).trans (at6 _ t _ _).symm

/-- The kernel's and the reference's gradients are one. -/
theorem algebraic : Cert.algebraic_Kernel8Ideal_Reference8Ideal := by
  pair_intro
  · run_from Cert.Kernel8Ideal.Gen.run_main m g
  · run_from Cert.Reference8Ideal.Value.run m' g'
    · rw [final5]
      obtain ⟨h0, h1, h2, h3, h4⟩ := hagree c
      unfold Cert.Reference8Ideal.Value.res_main_v38
      simp only [h0, h1, h2, h3, h4]
      unfold DX ROOT DXH MEAN PROD
      with_reducible rfl
    · rw [final6]
      unfold DG MEAN PROD
      with_reducible rfl

end Cert.Kernel8Ideal.Up

end
-- ==== Proof.Proj.SquareWeight.lean ====
/- The gradient of a query or output projection's weight, every product summed over the tokens. -/
module

public import proofs.«01_k».proof.Proof.Gen.Kernel9Ideal.Value
public import proofs.«01_k».proof.Defs
public import proofs.«01_k».proof.Proof.Gen.Reference9Ideal.Run
public import Idealize.ShloMosaic.Lib.Pipeline.ValueKit
public import Idealize.ShloMosaic.Lib.Claim

@[expose] public section

set_option maxRecDepth 16384

noncomputable section

namespace Cert.Kernel9Ideal.Grad

open Idealize.ShloMosaic Idealize.ShloMosaic.TcCoe Idealize.SL.Sem
open Idealize.ShloMosaic.Pipeline (Dat)
open Cert.Kernel9Ideal Cert.Kernel9Ideal.Gen

/-- The reference's result over its arguments. -/
abbrev REF (X : FVec Ideal S4096x1024 .f32) (D : FVec Ideal S4096x1024 .f32) : FVec Ideal S4x256x1024 .bf16 :=
  truncf .bf16 (shapeCast _ (transpose Cert.Reference9Ideal.S1024x1024 [1, 0] (Host.dotGeneral Cert.Reference9Ideal.dot_S4096x1024_S4096x1024_S1024x1024_0_0_1_1_n_n none D X) Cert.Reference9Ideal.Gen.transposes_S1024x1024_S1024x1024_1_0) Cert.Reference9Ideal.Gen.shapeCasts_S1024x1024_S4x256x1024) Cert.Reference9Ideal.Gen.bitsLt_bf16_f32

variable (m : (ℓ : Loc nD τ sig) → Buf (Elt Ideal) ℓ)

/-- Where each window's block sits at each grid point. -/
theorem idx : ∀ t : Fin cfg0.N, win0_0.index t = ![0, t.val] ∧ win0_1.index t = ![0, 0] ∧ win0_2.index t = ![t.val, 0, 0] :=
  (by decide +kernel : ∀ t : Fin grid0.N, _)

/-- What one grid point stores is the reference's gradient where its block sits. -/
theorem point (c : Dev nD) (t : Fin cfg0.N) (y) : k0_pay4 (k0_pay2 (F := Ideal) (iblk m c 0 t) (iblk m c 1 t)) y
    = REF (m ((c : Thread nD τ).loc main_arg0)) (m ((c : Thread nD τ).loc main_arg1)) (((cfg0.win 2).blk t).view.emb y) := by
  pointwise [k0_pay4, k0_pay2, k0_pay1, REF]
  refine Eq.trans ?_ (Fin.sum_fin_congr fun x => mul_comm _ _)
  blk_point [iblk, idx t]

/-- The gradient after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The kernel's and the reference's gradients of the weight are one. -/
theorem algebraic : Cert.algebraic_Kernel9Ideal_Reference9Ideal := by
  pair_intro
  · run_from Cert.Kernel9Ideal.Gen.run_main m g
  · run_from Cert.Reference9Ideal.Value.run m' g'
    exact (final m c).symm

end Cert.Kernel9Ideal.Grad

end
-- ==== Proof.Proj.KeyValueWeight.lean ====
/- The gradient of the key and value projection's weight, every product summed over the tokens. -/
module

public import proofs.«01_k».proof.Proof.Gen.Kernel10Ideal.Value
public import proofs.«01_k».proof.Defs
public import proofs.«01_k».proof.Proof.Gen.Reference10Ideal.Run
public import Idealize.ShloMosaic.Lib.Pipeline.ValueKit
public import Idealize.ShloMosaic.Lib.Claim

@[expose] public section

set_option maxRecDepth 16384

noncomputable section

namespace Cert.Kernel10Ideal.Grad

open Idealize.ShloMosaic Idealize.ShloMosaic.TcCoe Idealize.SL.Sem
open Idealize.ShloMosaic.Pipeline (Dat)
open Cert.Kernel10Ideal Cert.Kernel10Ideal.Gen

/-- The reference's result over its arguments. -/
abbrev REF (X : FVec Ideal S4096x1024 .f32) (D : FVec Ideal S4096x2048 .f32) : FVec Ideal S4x1024x512 .bf16 :=
  truncf .bf16 (transpose Cert.Reference10Ideal.S4x1024x512 [1, 0, 2] (shapeCast _ (transpose Cert.Reference10Ideal.S1024x2048 [1, 0] (Host.dotGeneral Cert.Reference10Ideal.dot_S4096x2048_S4096x1024_S2048x1024_0_0_1_1_n_n none D X) Cert.Reference10Ideal.Gen.transposes_S2048x1024_S1024x2048_1_0) Cert.Reference10Ideal.Gen.shapeCasts_S1024x2048_S1024x4x512) Cert.Reference10Ideal.Gen.transposes_S1024x4x512_S4x1024x512_1_0_2) Cert.Reference10Ideal.Gen.bitsLt_bf16_f32

variable (m : (ℓ : Loc nD τ sig) → Buf (Elt Ideal) ℓ)

/-- Where each window's block sits at each grid point. -/
theorem idx : ∀ t : Fin cfg0.N, win0_0.index t = ![0, 0] ∧ win0_1.index t = ![0, t.val] ∧ win0_2.index t = ![t.val, 0, 0] :=
  (by decide +kernel : ∀ t : Fin grid0.N, _)

/-- What one grid point stores is the reference's gradient where its block sits. -/
theorem point (c : Dev nD) (t : Fin cfg0.N) (y) : k0_pay4 (k0_pay2 (F := Ideal) (iblk m c 0 t) (iblk m c 1 t)) y
    = REF (m ((c : Thread nD τ).loc main_arg0)) (m ((c : Thread nD τ).loc main_arg1)) (((cfg0.win 2).blk t).view.emb y) := by
  pointwise [k0_pay4, k0_pay2, k0_pay1, REF]
  refine Eq.trans ?_ (Fin.sum_fin_congr fun x => mul_comm _ _)
  blk_point [iblk, idx t]

/-- The gradient after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The kernel's and the reference's gradients of the weight are one. -/
theorem algebraic : Cert.algebraic_Kernel10Ideal_Reference10Ideal := by
  pair_intro
  · run_from Cert.Kernel10Ideal.Gen.run_main m g
  · run_from Cert.Reference10Ideal.Value.run m' g'
    exact (final m c).symm

end Cert.Kernel10Ideal.Grad

end
-- ==== Proof.Proj.Query.lean ====
/- The query projection and the norm before it: what the arrays hold at the end is the reference's. -/
module

public import proofs.«01_k».proof.Proof.Mlp.Fwd
public import proofs.«01_k».proof.Defs
public import proofs.«01_k».proof.Proof.Gen.Kernel11Ideal.Frame
public import proofs.«01_k».proof.Proof.Gen.Reference11Ideal.Run
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel11Ideal.Query

open Idealize.ShloMosaic Idealize.ShloMosaic.TcCoe Idealize.SL.Sem
open Idealize.ShloMosaic.Pipeline (Dat)
open Cert.Kernel11Ideal Cert.Kernel11Ideal.Gen

open Cert.Norm (root)
open Cert.Kernel6Ideal.Fwd (NORM)

/-- The product by the weight, scaled by the root of a head's width. -/
def QUERY (x : FVec Ideal Cert.Reference11Ideal.S4096x1024 .f32) (w : FVec Ideal Cert.Reference11Ideal.S1024x1024 .f32) : FVec Ideal Cert.Reference11Ideal.S4096x1024 .f32 :=
  mulf (Host.dotGeneral Cert.Reference11Ideal.dot_S4096x1024_S1024x1024_S4096x1024_1_0_0_1_n_n none x w) (broadcastInDim Cert.Reference11Ideal.S4096x1024 ![] Cert.Reference11Ideal.Gen.bcast_S_S4096x1024 (constant Cert.Reference11Ideal.S_ .f32 0x3E000000#32))

theorem norm_apply (x : Vec Ideal S2048x1024 .f32) (g : Vec Ideal S1x1024 .f32) (a : Fin 2048) (b : Fin 1024) :
    k0_pay1 x g (ix2 a b) = x (ix2 a b) * root (fun k : Fin 1024 => x (ix2 a k)) * g (ix2 0 b) := by
  pointwise [k0_pay1]
  rfl

variable (m : (ℓ : Loc nD τ sig) → Buf (Elt Ideal) ℓ)

/-- Where each window's block sits at each grid point. -/
theorem idx : ∀ t : Fin cfg0.N, win0_0.index t = ![t.val, 0] ∧ win0_1.index t = ![0, 0] ∧ win0_2.index t = ![0, 0, 0, 0]
    ∧ win0_3.index t = ![t.val, 0] ∧ win0_4.index t = ![t.val, 0] :=
  (by decide +kernel : ∀ t : Fin grid0.N, _)

theorem lt_N (t : Fin cfg0.N) : t.val < 2 := lt_of_lt_of_eq t.isLt (show cfg0.N = 2 from N_0)

/-- The token a row of a point's token tile is. -/
def tok (t : Fin cfg0.N) (a : Fin 2048) : Fin 4096 := ⟨t.val * 2048 + a.val, by have := lt_N t; omega⟩

abbrev X (c : Dev nD) : FVec Ideal Cert.Reference11Ideal.S4096x1024 .f32 := m ((c : Thread nD τ).loc main_arg0)
abbrev G (c : Dev nD) : FVec Ideal Cert.Reference11Ideal.S1024 .f32 := m ((c : Thread nD τ).loc main_arg1)
abbrev W (c : Dev nD) : FVec Ideal Cert.Reference11Ideal.S1024x1024 .f32 := m ((c : Thread nD τ).loc main_arg2)

theorem blk0 (c : Dev nD) (t : Fin cfg0.N) (a : Fin 2048) (b : Fin 1024) : iblk m c 0 t (ix2 a b) = X m c (ix2 (tok t a) b) := by
  blk_point [iblk, idx t, tok]

theorem blk1 (c : Dev nD) (t : Fin cfg0.N) (b : Fin 1024) : iblk m c 1 t (ix2 0 b) = G m c (ix1 b) := by
  blk_point [iblk, idx t]

theorem at3 (Y : FVec Ideal S4096x1024 .bf16) (t : Fin cfg0.N) (a : Fin 2048) (b : Fin 1024) : Y (((cfg0.win 3).blk t).view.emb (ix2 a b)) = Y (ix2 (tok t a) b) := by
  blk_point [idx t, tok]

theorem at4 (Y : FVec Ideal S4096x1024 .bf16) (t : Fin cfg0.N) (a : Fin 2048) (b : Fin 1024) : Y (((cfg0.win 4).blk t).view.emb (ix2 a b)) = Y (ix2 (tok t a) b) := by
  blk_point [idx t, tok]

theorem norm_eq (c : Dev nD) (t : Fin cfg0.N) (a : Fin 2048) (b : Fin 1024) :
    k0_pay1 (F := Ideal) (iblk m c 0 t) (iblk m c 1 t) (ix2 a b) = NORM (X m c) (G m c) (ix2 (tok t a) b) := by
  rw [norm_apply, Cert.Kernel6Ideal.Fwd.NORM_apply]
  simp only [blk0, blk1]

/-- The product a point forms of rows that are the rows of an array. -/
theorem query_eq (c : Dev nD) (t : Fin cfg0.N) (h : Vec Ideal S2048x1024 .bf16) (H : FVec Ideal Cert.Reference11Ideal.S4096x1024 .f32)
    (e : ∀ a b, h (ix2 a b) = H (ix2 (tok t a) b)) (a : Fin 2048) (b : Fin 1024) :
    k0_pay2 (F := Ideal) h (iblk m c 2 t) (ix2 a b) = QUERY H (W m c) (ix2 (tok t a) b) := by
  pointwise [k0_pay2, QUERY]
  simp only [e]
  blk_point [iblk, idx t]

theorem final3 (c : Dev nD) : (dats m 0 c).arrAt 3 (cfgs 0).N = truncf .bf16 (NORM (X m c) (G m c)) Cert.Reference11Ideal.Gen.bitsLt_bf16_f32 := by
  refine (dats m 0 c).arrAt_eq_of_covers 3 _ (by decide +kernel) fun t hf y => ?_
  blk_simp
  rw [after0_3]
  unfold outsAt0
  frame_out
  idx_vars y
  exact (norm_eq m c t _ _).trans (at3 _ t _ _).symm

theorem final4 (c : Dev nD) : (dats m 0 c).arrAt 4 (cfgs 0).N = truncf .bf16 (QUERY (NORM (X m c) (G m c)) (W m c)) Cert.Reference11Ideal.Gen.bitsLt_bf16_f32 := by
  refine (dats m 0 c).arrAt_eq_of_covers 4 _ (by decide +kernel) fun t hf y => ?_
  blk_simp
  rw [after0_4]
  unfold outsAt0
  frame_out
  idx_vars y
  exact (query_eq m c t _ _ (norm_eq m c t) _ _).trans (at4 _ t _ _).symm

/-- The kernel's and the reference's queries are one, and so is what is saved of the norm. -/
theorem algebraic : Cert.algebraic_Kernel11Ideal_Reference11Ideal := by
  pair_intro
  · run_from Cert.Kernel11Ideal.Gen.run_main m g
  · run_from Cert.Reference11Ideal.Value.run m' g'
    · rw [final3]
      unfold NORM
      with_reducible rfl
    · rw [final4]
      unfold QUERY NORM
      with_reducible rfl

end Cert.Kernel11Ideal.Query

end
-- ==== Proof.Proj.OutBack.lean ====
/- The backward pass of the output projection and of the norm after it: what the arrays hold at the end is the reference's. -/
module

public import proofs.«01_k».proof.Proof.Mlp.Down
public import proofs.«01_k».proof.Defs
public import proofs.«01_k».proof.Proof.Gen.Kernel12Ideal.Frame
public import proofs.«01_k».proof.Proof.Gen.Reference12Ideal.Run
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel12Ideal.Down

open Idealize.ShloMosaic Idealize.ShloMosaic.TcCoe Idealize.SL.Sem
open Idealize.ShloMosaic.Pipeline (Dat)
open Cert.Kernel12Ideal Cert.Kernel12Ideal.Gen

open Cert.Norm (row root)
open Cert.Kernel2Ideal.Down (DZ DG DXH ROOT MEAN)

/-- The gradient of the product's left factor. -/
def PROD (d : FVec Ideal Cert.Reference12Ideal.S4096x1024 .f32) (w : FVec Ideal Cert.Reference12Ideal.S1024x1024 .f32) : FVec Ideal Cert.Reference12Ideal.S4096x1024 .f32 :=
  Host.dotGeneral Cert.Reference12Ideal.dot_S4096x1024_S1024x1024_S4096x1024_1_1_0_0_n_n none d w

theorem dz_apply (d z : Vec Ideal S1024x1024 .f32) (g : Vec Ideal S1x1024 .f32) (a : Fin 1024) (b : Fin 1024) :
    k0_pay4 d z g (ix2 a b) = row (fun k : Fin 1024 => z (ix2 a k)) (fun k => d (ix2 a k) * g (ix2 0 k)) b :=
  Cert.Kernel2Ideal.Down.dz_apply d z g a b

theorem dg_apply (d z : Vec Ideal S1024x1024 .f32) (a : Fin 1) (b : Fin 1024) :
    k0_pay3 d z (ix2 a b) = ∑ t : Fin 1024, d (ix2 t b) * (z (ix2 t b) * root (fun k : Fin 1024 => z (ix2 t k))) :=
  Cert.Kernel2Ideal.Down.dg_apply d z a b

theorem step_apply (d z : Vec Ideal S1024x1024 .f32) (x : Vec Ideal S1x1024 .f32) (a : Fin 1) (b : Fin 1024) :
    k0_pay5 d z x (ix2 a b) = x (ix2 a b) + k0_pay3 d z (ix2 a b) :=
  Cert.Kernel2Ideal.Down.step_apply d z x a b

variable (m : (ℓ : Loc nD τ sig) → Buf (Elt Ideal) ℓ)

/-- Where each window's block sits at each grid point. -/
theorem idx : ∀ t : Fin cfg0.N, win0_0.index t = ![t.val, 0] ∧ win0_1.index t = ![t.val, 0] ∧ win0_2.index t = ![0, 0]
    ∧ win0_3.index t = ![0, 0, 0, 0] ∧ win0_4.index t = ![t.val, 0] ∧ win0_5.index t = ![t.val, 0] ∧ win0_6.index t = ![0, 0] :=
  (by decide +kernel : ∀ t : Fin grid0.N, _)

theorem lt_N (t : Fin cfg0.N) : t.val < 4 := lt_of_lt_of_eq t.isLt (show cfg0.N = 4 from N_0)

/-- The token a row of a point's token tile is. -/
def tok (t : Fin cfg0.N) (a : Fin 1024) : Fin 4096 := ⟨t.val * 1024 + a.val, by have := lt_N t; omega⟩

abbrev D (c : Dev nD) : FVec Ideal Cert.Reference12Ideal.S4096x1024 .f32 := m ((c : Thread nD τ).loc main_arg0)
abbrev Z (c : Dev nD) : FVec Ideal Cert.Reference12Ideal.S4096x1024 .f32 := m ((c : Thread nD τ).loc main_arg1)
abbrev G (c : Dev nD) : FVec Ideal Cert.Reference12Ideal.S1024 .f32 := m ((c : Thread nD τ).loc main_arg2)
abbrev W (c : Dev nD) : FVec Ideal Cert.Reference12Ideal.S1024x1024 .f32 := m ((c : Thread nD τ).loc main_arg3)

theorem blk0 (c : Dev nD) (t : Fin cfg0.N) (a b : Fin 1024) : iblk m c 0 t (ix2 a b) = D m c (ix2 (tok t a) b) := by
  blk_point [iblk, idx t, tok]

theorem blk1 (c : Dev nD) (t : Fin cfg0.N) (a b : Fin 1024) : iblk m c 1 t (ix2 a b) = Z m c (ix2 (tok t a) b) := by
  blk_point [iblk, idx t, tok]

theorem blk2 (c : Dev nD) (t : Fin cfg0.N) (b : Fin 1024) : iblk m c 2 t (ix2 0 b) = G m c (ix1 b) := by
  blk_point [iblk, idx t]

theorem at4 (Y : FVec Ideal S4096x1024 .bf16) (t : Fin cfg0.N) (a b : Fin 1024) : Y (((cfg0.win 4).blk t).view.emb (ix2 a b)) = Y (ix2 (tok t a) b) := by
  blk_point [idx t, tok]

theorem at5 (Y : FVec Ideal S4096x1024 .bf16) (t : Fin cfg0.N) (a b : Fin 1024) : Y (((cfg0.win 5).blk t).view.emb (ix2 a b)) = Y (ix2 (tok t a) b) := by
  blk_point [idx t, tok]

theorem at6 (Y : FVec Ideal S1x1024 .f32) (t : Fin cfg0.N) (a : Fin 1) (b : Fin 1024) : Y (((cfg0.win 6).blk t).view.emb (ix2 a b)) = Y (ix2 a b) := by
  blk_point [idx t]

/-- The rows' gradient that a point forms. -/
abbrev dz (c : Dev nD) (t : Fin cfg0.N) : FVec Ideal S1024x1024 .bf16 := k0_pay4 (F := Ideal) (iblk m c 0 t) (iblk m c 1 t) (iblk m c 2 t)

theorem dz_eq (c : Dev nD) (t : Fin cfg0.N) (a b : Fin 1024) : dz m c t (ix2 a b) = DZ (D m c) (Z m c) (G m c) (ix2 (tok t a) b) := by
  unfold dz
  rw [dz_apply, Cert.Kernel2Ideal.Down.DZ_apply]
  simp only [blk0, blk1, blk2]

/-- The product a point forms of rows that are the rows of an array. -/
theorem prod_eq (c : Dev nD) (t : Fin cfg0.N) (x : Vec Ideal S1024x1024 .bf16) (X : FVec Ideal Cert.Reference12Ideal.S4096x1024 .f32)
    (e : ∀ a b, x (ix2 a b) = X (ix2 (tok t a) b)) (a b : Fin 1024) :
    k0_pay6 (F := Ideal) x (iblk m c 3 t) (ix2 a b) = PROD X (W m c) (ix2 (tok t a) b) := by
  pointwise [k0_pay6, PROD]
  simp only [e]
  blk_point [iblk, idx t]

/-! What a point leaves. -/

theorem dz_point (c : Dev nD) (t : Fin cfg0.N) : (outsAt0 m c t.val t.isLt).1 = dz m c t := by
  have := lt_N t
  funext y
  by_cases h : t.val = 0
  · rw [outsAt0_A m c t (by omega) (by omega)]
    frame_out
  · rw [outsAt0_B m c t (by omega) (by omega)]
    frame_out

theorem prod_point (c : Dev nD) (t : Fin cfg0.N) : (outsAt0 m c t.val t.isLt).2.1 = k0_pay6 (dz m c t) (iblk m c 3 t) := by
  have := lt_N t
  funext y
  by_cases h : t.val = 0
  · rw [outsAt0_A m c t (by omega) (by omega)]
    frame_out
  · rw [outsAt0_B m c t (by omega) (by omega)]
    frame_out

abbrev gain (c : Dev nD) (n : ℕ) (h : n < cfg0.N) : Vec Ideal S1x1024 .f32 := (outsAt0 m c n h).2.2

theorem gain_first (c : Dev nD) (t : Fin cfg0.N) (h : t.val = 0) :
    gain m c t.val t.isLt = k0_pay3 (F := Ideal) (iblk m c 0 t) (iblk m c 1 t) := by
  funext y
  unfold gain
  rw [outsAt0_A m c t (by omega) (by omega)]
  frame_out

theorem gain_step (c : Dev nD) (t : Fin cfg0.N) (h : 1 ≤ t.val) :
    gain m c t.val t.isLt = k0_pay5 (F := Ideal) (iblk m c 0 t) (iblk m c 1 t) (gain m c (t.val - 1) (Nat.lt_of_le_of_lt (Nat.sub_le _ _) t.isLt)) := by
  have := lt_N t
  funext y
  unfold gain
  rw [outsAt0_B m c t (by omega) h]
  frame_out

/-- A token's part of the gain's gradient. -/
def part (c : Dev nD) (b : Fin 1024) (t : Fin 4096) : EReal :=
  Z m c (ix2 t b) * root (fun k : Fin 1024 => Z m c (ix2 t k)) * D m c (ix2 t b)

theorem part_eq (c : Dev nD) (t : Fin cfg0.N) (a : Fin 1) (b : Fin 1024) :
    k0_pay3 (F := Ideal) (iblk m c 0 t) (iblk m c 1 t) (ix2 a b) = ∑ k : Fin 1024, part m c b (tok t k) := by
  rw [dg_apply]
  simp only [blk0, blk1]
  exact Finset.sum_congr rfl fun k _ => mul_comm _ _

theorem gain_sum (c : Dev nD) (a : Fin 1) (b : Fin 1024) (i : ℕ) (h : i < cfg0.N) :
    gain m c i h (ix2 a b) = ∑ s : Fin (i + 1), ∑ k : Fin 1024, part m c b ⟨s.val * 1024 + k.val, by have := lt_N ⟨i, h⟩; dsimp only at this; omega⟩ := by
  induction i with
  | zero =>
    rw [gain_first m c ⟨0, h⟩ rfl, part_eq, Fin.sum_univ_one]
    rfl
  | succ i ih =>
    rw [gain_step m c ⟨i + 1, h⟩ (by dsimp only; omega), step_apply, part_eq, Fin.sum_univ_castSucc (n := i + 1)]
    rw [show gain m c ((⟨i + 1, h⟩ : Fin cfg0.N).val - 1) _ = gain m c i (Nat.lt_of_succ_lt h) from rfl, ih (Nat.lt_of_succ_lt h)]
    rfl

theorem gain_eq (c : Dev nD) (a : Fin 1) (b : Fin 1024) (t : Fin cfg0.N) (h : t.val = 3) :
    gain m c t.val t.isLt (ix2 a b) = DG (D m c) (Z m c) (ix2 a b) := by
  have e : (⟨3, h ▸ t.isLt⟩ : Fin cfg0.N) = t := Fin.ext h.symm
  have s := gain_sum m c a b 3 (h ▸ t.isLt)
  rw [← e, s, Cert.Kernel2Ideal.Down.DG_apply]
  exact Fin.sum_mul_add_congr fun s k h => rfl

/-! The arrays at the end. -/

theorem final4 (c : Dev nD) : (dats m 0 c).arrAt 4 (cfgs 0).N = truncf .bf16 (DZ (D m c) (Z m c) (G m c)) Cert.Reference12Ideal.Gen.bitsLt_bf16_f32 := by
  refine (dats m 0 c).arrAt_eq_of_covers 4 _ (by decide +kernel) fun t hf y => ?_
  blk_simp
  rw [after0_4, dz_point]
  idx_vars y
  exact (dz_eq m c t _ _).trans (at4 _ t _ _).symm

theorem final5 (c : Dev nD) : (dats m 0 c).arrAt 5 (cfgs 0).N = truncf .bf16 (PROD (DZ (D m c) (Z m c) (G m c)) (W m c)) Cert.Reference12Ideal.Gen.bitsLt_bf16_f32 := by
  refine (dats m 0 c).arrAt_eq_of_covers 5 _ (by decide +kernel) fun t hf y => ?_
  blk_simp
  rw [after0_5, prod_point]
  idx_vars y
  exact (prod_eq m c t _ _ (dz_eq m c t) _ _).trans (at5 _ t _ _).symm

theorem final6 (c : Dev nD) : (dats m 0 c).arrAt 6 (cfgs 0).N = DG (D m c) (Z m c) := by
  refine (dats m 0 c).arrAt_eq_of_covers 6 _ (by decide +kernel) fun t hf y => ?_
  blk_simp
  rw [after0_6]
  idx_vars y
  exact (gain_eq m c _ _ t ((by decide +kernel : ∀ t : Fin grid0.N, win0_6.flush t = true → t.val = 3) t hf)).trans (at6 _ t _ _).symm

/-- The kernel's and the reference's gradients are one. -/
theorem algebraic : Cert.algebraic_Kernel12Ideal_Reference12Ideal := by
  pair_intro
  · run_from Cert.Kernel12Ideal.Gen.run_main m g
  · run_from Cert.Reference12Ideal.Value.run m' g'
    · rw [final4]
      unfold DZ ROOT DXH MEAN
      with_reducible rfl
    · rw [final5]
      unfold PROD DZ ROOT DXH MEAN
      with_reducible rfl
    · rw [final6]
      unfold DG MEAN
      with_reducible rfl

end Cert.Kernel12Ideal.Down

end
-- ==== Proof.Proj.Out.lean ====
/- The output projection, the norm after it and the residual: what the arrays hold at the end is the reference's. -/
module

public import proofs.«01_k».proof.Proof.Mlp.Fwd
public import proofs.«01_k».proof.Defs
public import proofs.«01_k».proof.Proof.Gen.Kernel13Ideal.Frame
public import proofs.«01_k».proof.Proof.Gen.Reference13Ideal.Run
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel13Ideal.Out

open Idealize.ShloMosaic Idealize.ShloMosaic.TcCoe Idealize.SL.Sem
open Idealize.ShloMosaic.Pipeline (Dat)
open Cert.Kernel13Ideal Cert.Kernel13Ideal.Gen

open Cert.Norm (root)
open Cert.Kernel6Ideal.Fwd (NORM)

/-- The product by the weight. -/
def PROD (o : FVec Ideal Cert.Reference13Ideal.S4096x1024 .f32) (w : FVec Ideal Cert.Reference13Ideal.S1024x1024 .f32) : FVec Ideal Cert.Reference13Ideal.S4096x1024 .f32 :=
  Host.dotGeneral Cert.Reference13Ideal.dot_S4096x1024_S1024x1024_S4096x1024_1_0_0_1_n_n none o w

theorem sum_apply (z x : Vec Ideal S1024x1024 .f32) (g : Vec Ideal S1x1024 .f32) (a : Fin 1024) (b : Fin 1024) :
    k0_pay3 z x g (ix2 a b) = x (ix2 a b) + z (ix2 a b) * root (fun k : Fin 1024 => z (ix2 a k)) * g (ix2 0 b) := by
  pointwise [k0_pay3]
  rfl

variable (m : (ℓ : Loc nD τ sig) → Buf (Elt Ideal) ℓ)

/-- Where each window's block sits at each grid point. -/
theorem idx : ∀ t : Fin cfg0.N, win0_0.index t = ![t.val, 0] ∧ win0_1.index t = ![0, 0, 0, 0] ∧ win0_2.index t = ![t.val, 0]
    ∧ win0_3.index t = ![0, 0] ∧ win0_4.index t = ![t.val, 0] ∧ win0_5.index t = ![t.val, 0] :=
  (by decide +kernel : ∀ t : Fin grid0.N, _)

theorem lt_N (t : Fin cfg0.N) : t.val < 4 := lt_of_lt_of_eq t.isLt (show cfg0.N = 4 from N_0)

/-- The token a row of a point's token tile is. -/
def tok (t : Fin cfg0.N) (a : Fin 1024) : Fin 4096 := ⟨t.val * 1024 + a.val, by have := lt_N t; omega⟩

abbrev O (c : Dev nD) : FVec Ideal Cert.Reference13Ideal.S4096x1024 .f32 := m ((c : Thread nD τ).loc main_arg0)
abbrev W (c : Dev nD) : FVec Ideal Cert.Reference13Ideal.S1024x1024 .f32 := m ((c : Thread nD τ).loc main_arg1)
abbrev X (c : Dev nD) : FVec Ideal Cert.Reference13Ideal.S4096x1024 .f32 := m ((c : Thread nD τ).loc main_arg2)
abbrev G (c : Dev nD) : FVec Ideal Cert.Reference13Ideal.S1024 .f32 := m ((c : Thread nD τ).loc main_arg3)

/-- The product a point forms. -/
theorem prod_eq (c : Dev nD) (t : Fin cfg0.N) (a b : Fin 1024) :
    k0_pay1 (F := Ideal) (iblk m c 0 t) (iblk m c 1 t) (ix2 a b) = PROD (O m c) (W m c) (ix2 (tok t a) b) := by
  pointwise [k0_pay1, PROD]
  blk_point [iblk, idx t, tok]

theorem blk2 (c : Dev nD) (t : Fin cfg0.N) (a b : Fin 1024) : iblk m c 2 t (ix2 a b) = X m c (ix2 (tok t a) b) := by
  blk_point [iblk, idx t, tok]

theorem blk3 (c : Dev nD) (t : Fin cfg0.N) (b : Fin 1024) : iblk m c 3 t (ix2 0 b) = G m c (ix1 b) := by
  blk_point [iblk, idx t]

theorem at4 (Y : FVec Ideal S4096x1024 .f32) (t : Fin cfg0.N) (a b : Fin 1024) : Y (((cfg0.win 4).blk t).view.emb (ix2 a b)) = Y (ix2 (tok t a) b) := by
  blk_point [idx t, tok]

theorem at5 (Y : FVec Ideal S4096x1024 .f32) (t : Fin cfg0.N) (a b : Fin 1024) : Y (((cfg0.win 5).blk t).view.emb (ix2 a b)) = Y (ix2 (tok t a) b) := by
  blk_point [idx t, tok]

/-- The sum of the residual and the product's norm. -/
def SUM (z x : FVec Ideal Cert.Reference13Ideal.S4096x1024 .f32) (g : FVec Ideal Cert.Reference13Ideal.S1024 .f32) : FVec Ideal Cert.Reference13Ideal.S4096x1024 .f32 := addf x (NORM z g)

theorem SUM_apply (z x : FVec Ideal Cert.Reference13Ideal.S4096x1024 .f32) (g : FVec Ideal Cert.Reference13Ideal.S1024 .f32) (a : Fin 4096) (b : Fin 1024) :
    SUM z x g (ix2 a b) = x (ix2 a b) + NORM z g (ix2 a b) := by
  pointwise [SUM]

theorem sum_eq (c : Dev nD) (t : Fin cfg0.N) (a b : Fin 1024) :
    k0_pay3 (F := Ideal) (k0_pay1 (iblk m c 0 t) (iblk m c 1 t)) (iblk m c 2 t) (iblk m c 3 t) (ix2 a b)
      = SUM (PROD (O m c) (W m c)) (X m c) (G m c) (ix2 (tok t a) b) := by
  rw [sum_apply, SUM_apply, Cert.Kernel6Ideal.Fwd.NORM_apply]
  simp only [prod_eq, blk2, blk3]

theorem final4 (c : Dev nD) : (dats m 0 c).arrAt 4 (cfgs 0).N = PROD (O m c) (W m c) := by
  refine (dats m 0 c).arrAt_eq_of_covers 4 _ (by decide +kernel) fun t hf y => ?_
  blk_simp
  rw [after0_4]
  unfold outsAt0
  frame_out
  idx_vars y
  exact (prod_eq m c t _ _).trans (at4 _ t _ _).symm

theorem final5 (c : Dev nD) : (dats m 0 c).arrAt 5 (cfgs 0).N = SUM (PROD (O m c) (W m c)) (X m c) (G m c) := by
  refine (dats m 0 c).arrAt_eq_of_covers 5 _ (by decide +kernel) fun t hf y => ?_
  blk_simp
  rw [after0_5]
  unfold outsAt0
  frame_out
  idx_vars y
  exact (sum_eq m c t _ _).trans (at5 _ t _ _).symm

/-- The kernel's and the reference's results are one. -/
theorem algebraic : Cert.algebraic_Kernel13Ideal_Reference13Ideal := by
  pair_intro
  · run_from Cert.Kernel13Ideal.Gen.run_main m g
  · run_from Cert.Reference13Ideal.Value.run m' g'
    · exact (final4 m c).symm
    · rw [final5]
      unfold SUM NORM PROD
      with_reducible rfl

end Cert.Kernel13Ideal.Out

end
-- ==== Proof.Mlp.First.lean ====
/- The first layer's norm and its product by the MLP's first weight: what the arrays hold at the end is the reference's. -/
module

public import proofs.«01_k».proof.Proof.Mlp.FirstLaunch
public import proofs.«01_k».proof.Proof.Mlp.Fwd
public import proofs.«01_k».proof.Defs
public import proofs.«01_k».proof.Proof.Gen.Reference14Ideal.Run
public import Idealize.ShloMosaic.Lib.Pipeline.ValueKit
public import Idealize.ShloMosaic.Lib.Claim

@[expose] public section

set_option maxRecDepth 16384

noncomputable section

namespace Cert.Kernel14Ideal.First

open Idealize.ShloMosaic Idealize.ShloMosaic.TcCoe Idealize.SL.Sem
open Idealize.ShloMosaic.Pipeline (Dat)
open Cert.Kernel14Ideal Cert.Kernel14Ideal.Gen

open Cert.Norm (root)
open Cert.Kernel6Ideal.Fwd (NORM)

/-- The relu of the product by the weight. -/
def RELU (h : FVec Ideal Cert.Reference14Ideal.S4096x1024 .f32) (u : FVec Ideal Cert.Reference14Ideal.S1024x4096 .f32) : FVec Ideal Cert.Reference14Ideal.S4096x4096 .f32 :=
  maximumf (Host.dotGeneral Cert.Reference14Ideal.dot_S4096x1024_S1024x4096_S4096x4096_1_0_0_1_n_n none h u) (broadcastInDim Cert.Reference14Ideal.S4096x4096 ![] Cert.Reference14Ideal.Gen.bcast_S_S4096x4096 (constant Cert.Reference14Ideal.S_ .f32 0x00000000#32))

theorem RELU_apply (h : FVec Ideal Cert.Reference14Ideal.S4096x1024 .f32) (u : FVec Ideal Cert.Reference14Ideal.S1024x4096 .f32) (a : Fin 4096) (b : Fin 4096) :
    RELU h u (ix2 a b) = max (∑ k : Fin 1024, h (ix2 a k) * u (ix2 k b)) (Ideal.ofBits .f32 0x00000000#32) := by
  pointwise [RELU]

theorem norm_apply (x : Vec Ideal S2048x1024 .f32) (g : Vec Ideal S1x1024 .f32) (a : Fin 2048) (b : Fin 1024) :
    k0_pay1 x g (ix2 a b) = x (ix2 a b) * root (fun k : Fin 1024 => x (ix2 a k)) * g (ix2 0 b) := by
  pointwise [k0_pay1]
  rfl

theorem relu_apply (h : Vec Ideal S2048x1024 .bf16) (u : Vec Ideal S1x1x1024x1024 .bf16) (a : Fin 2048) (b : Fin 1024) :
    k0_pay2 h u (ix2 a b) = max (∑ k : Fin 1024, h (ix2 a k) * u (ix4 0 0 k b)) (Ideal.ofBits .f32 0x00000000#32) := by
  pointwise [k0_pay2]

variable (m : (ℓ : Loc nD τ sig) → Buf (Elt Ideal) ℓ)

/-- Where each window's block sits at each grid point. -/
theorem idx : ∀ t : Fin cfg0.N, win0_0.index t = ![t.val / 4, 0] ∧ win0_1.index t = ![0, 0] ∧ win0_2.index t = ![t.val % 4, 0, 0, 0]
    ∧ win0_3.index t = ![t.val / 4, 0] ∧ win0_4.index t = ![t.val / 4, t.val % 4] :=
  (by decide +kernel : ∀ t : Fin grid0.N, _)

theorem lt_N (t : Fin cfg0.N) : t.val < 8 := lt_of_lt_of_eq t.isLt (show cfg0.N = 8 from N_0)

/-- The token a row of a point's token tile is, and the hidden unit a column of its tile is. -/
def tok (t : Fin cfg0.N) (a : Fin 2048) : Fin 4096 := ⟨t.val / 4 * 2048 + a.val, by have := lt_N t; omega⟩
def unit (t : Fin cfg0.N) (a : Fin 1024) : Fin 4096 := ⟨t.val % 4 * 1024 + a.val, by omega⟩

theorem tok_start (t : Fin cfg0.N) (a : Fin 2048) : tok (start t) a = tok t a := Fin.ext (by simp only [tok, start]; omega)

abbrev X (c : Dev nD) : FVec Ideal Cert.Reference14Ideal.S4096x1024 .f32 := m ((c : Thread nD τ).loc main_arg0)
abbrev G (c : Dev nD) : FVec Ideal Cert.Reference14Ideal.S1024 .f32 := m ((c : Thread nD τ).loc main_arg1)
abbrev U (c : Dev nD) : FVec Ideal Cert.Reference14Ideal.S1024x4096 .f32 := m ((c : Thread nD τ).loc main_arg2)

theorem blk0 (c : Dev nD) (t : Fin cfg0.N) (a : Fin 2048) (b : Fin 1024) : iblk m c 0 t (ix2 a b) = X m c (ix2 (tok t a) b) := by
  blk_point [iblk, idx t, tok]

theorem blk1 (c : Dev nD) (t : Fin cfg0.N) (b : Fin 1024) : iblk m c 1 t (ix2 0 b) = G m c (ix1 b) := by
  blk_point [iblk, idx t]

theorem blk2 (c : Dev nD) (t : Fin cfg0.N) (a : Fin 1024) (b : Fin 1024) : iblk m c 2 t (ix4 0 0 a b) = U m c (ix2 a (unit t b)) := by
  blk_point [iblk, idx t, unit]

theorem at3 (Y : FVec Ideal S4096x1024 .bf16) (t : Fin cfg0.N) (a : Fin 2048) (b : Fin 1024) : Y (((cfg0.win 3).blk t).view.emb (ix2 a b)) = Y (ix2 (tok t a) b) := by
  blk_point [idx t, tok]

theorem at4 (Y : FVec Ideal S4096x4096 .bf16) (t : Fin cfg0.N) (a : Fin 2048) (b : Fin 1024) : Y (((cfg0.win 4).blk t).view.emb (ix2 a b)) = Y (ix2 (tok t a) (unit t b)) := by
  blk_point [idx t, tok, unit]

theorem hid_eq (c : Dev nD) (t : Fin cfg0.N) (a : Fin 2048) (b : Fin 1024) : hid m c t (ix2 a b) = NORM (X m c) (G m c) (ix2 (tok t a) b) := by
  unfold hid
  rw [norm_apply, Cert.Kernel6Ideal.Fwd.NORM_apply]
  simp only [blk0, blk1, tok_start]

theorem relu_eq (c : Dev nD) (t : Fin cfg0.N) (a : Fin 2048) (b : Fin 1024) :
    k0_pay2 (hid m c t) (iblk m c 2 t) (ix2 a b) = RELU (NORM (X m c) (G m c)) (U m c) (ix2 (tok t a) (unit t b)) := by
  rw [relu_apply, RELU_apply]
  simp only [blk2, hid_eq]

theorem final3 (c : Dev nD) : (dats m 0 c).arrAt 3 (cfgs 0).N = truncf .bf16 (NORM (X m c) (G m c)) Cert.Reference14Ideal.Gen.bitsLt_bf16_f32 := by
  refine (dats m 0 c).arrAt_eq_of_covers 3 _ (by decide +kernel) fun t hf y => ?_
  blk_simp
  rw [after3]
  idx_vars y
  exact (hid_eq m c t _ _).trans (at3 _ t _ _).symm

theorem final4 (c : Dev nD) : (dats m 0 c).arrAt 4 (cfgs 0).N = truncf .bf16 (RELU (NORM (X m c) (G m c)) (U m c)) Cert.Reference14Ideal.Gen.bitsLt_bf16_f32 := by
  refine (dats m 0 c).arrAt_eq_of_covers 4 _ (by decide +kernel) fun t hf y => ?_
  blk_simp
  rw [after4]
  idx_vars y
  exact (relu_eq m c t _ _).trans (at4 _ t _ _).symm

/-- The kernel's and the reference's hidden units are one, and so is what is saved of the norm. -/
theorem algebraic : Cert.algebraic_Kernel14Ideal_Reference14Ideal := by
  pair_intro
  · run_from ((θ_run defs _ _).mono (fun _ h => h.1) (run_main (F := Ideal) m g))
  · run_from Cert.Reference14Ideal.Value.run m' g'
    · rw [final3]
      unfold NORM
      with_reducible rfl
    · rw [final4]
      unfold RELU NORM
      with_reducible rfl

end Cert.Kernel14Ideal.First

end
-- ==== Proof.Proj.KeyValue.lean ====
/- The keys' and values' projection and the norm before it: what the arrays hold at the end is the reference's. -/
module

public import proofs.«01_k».proof.Proof.Proj.KeyValueLaunch
public import proofs.«01_k».proof.Proof.Mlp.Fwd
public import proofs.«01_k».proof.Defs
public import proofs.«01_k».proof.Proof.Gen.Reference15Ideal.Run
public import Idealize.ShloMosaic.Lib.Pipeline.ValueKit
public import Idealize.ShloMosaic.Lib.Claim

@[expose] public section

set_option maxRecDepth 16384

noncomputable section

namespace Cert.Kernel15Ideal.KeyValue

open Idealize.ShloMosaic Idealize.ShloMosaic.TcCoe Idealize.SL.Sem
open Idealize.ShloMosaic.Pipeline (Dat)
open Cert.Kernel15Ideal Cert.Kernel15Ideal.Gen

open Cert.Norm (root)
open Cert.Kernel6Ideal.Fwd (NORM)

/-- The product by the weight. -/
def PROD (x : FVec Ideal Cert.Reference15Ideal.S4096x1024 .f32) (w : FVec Ideal Cert.Reference15Ideal.S1024x2048 .f32) : FVec Ideal Cert.Reference15Ideal.S4096x2048 .f32 :=
  Host.dotGeneral Cert.Reference15Ideal.dot_S4096x1024_S1024x2048_S4096x2048_1_0_0_1_n_n none x w

theorem norm_apply (x : Vec Ideal S2048x1024 .f32) (g : Vec Ideal S1x1024 .f32) (a : Fin 2048) (b : Fin 1024) :
    k0_pay1 x g (ix2 a b) = x (ix2 a b) * root (fun k : Fin 1024 => x (ix2 a k)) * g (ix2 0 b) := by
  pointwise [k0_pay1]
  rfl

variable (m : (ℓ : Loc nD τ sig) → Buf (Elt Ideal) ℓ)

/-- Where each window's block sits at each grid point. -/
theorem idx : ∀ t : Fin cfg0.N, win0_0.index t = ![t.val / 4, 0] ∧ win0_1.index t = ![0, 0] ∧ win0_2.index t = ![t.val % 4, 0, 0, 0]
    ∧ win0_3.index t = ![t.val / 4, 0] ∧ win0_4.index t = ![t.val / 4, t.val % 4] :=
  (by decide +kernel : ∀ t : Fin grid0.N, _)

theorem lt_N (t : Fin cfg0.N) : t.val < 8 := lt_of_lt_of_eq t.isLt (show cfg0.N = 8 from N_0)

/-- The token a row of a point's token tile is, and the key or value column a column of its tile is. -/
def tok (t : Fin cfg0.N) (a : Fin 2048) : Fin 4096 := ⟨t.val / 4 * 2048 + a.val, by have := lt_N t; omega⟩
def unit (t : Fin cfg0.N) (a : Fin 512) : Fin 2048 := ⟨t.val % 4 * 512 + a.val, by omega⟩

theorem tok_start (t : Fin cfg0.N) (a : Fin 2048) : tok (start t) a = tok t a := Fin.ext (by simp only [tok, start]; omega)

abbrev X (c : Dev nD) : FVec Ideal Cert.Reference15Ideal.S4096x1024 .f32 := m ((c : Thread nD τ).loc main_arg0)
abbrev G (c : Dev nD) : FVec Ideal Cert.Reference15Ideal.S1024 .f32 := m ((c : Thread nD τ).loc main_arg1)
abbrev W (c : Dev nD) : FVec Ideal Cert.Reference15Ideal.S1024x2048 .f32 := m ((c : Thread nD τ).loc main_arg2)

theorem blk0 (c : Dev nD) (t : Fin cfg0.N) (a : Fin 2048) (b : Fin 1024) : iblk m c 0 t (ix2 a b) = X m c (ix2 (tok t a) b) := by
  blk_point [iblk, idx t, tok]

theorem blk1 (c : Dev nD) (t : Fin cfg0.N) (b : Fin 1024) : iblk m c 1 t (ix2 0 b) = G m c (ix1 b) := by
  blk_point [iblk, idx t]

theorem blk2 (c : Dev nD) (t : Fin cfg0.N) (a : Fin 1024) (b : Fin 512) : iblk m c 2 t (ix4 0 0 a b) = W m c (ix2 a (unit t b)) := by
  blk_point [iblk, idx t, unit]

theorem at3 (Y : FVec Ideal S4096x1024 .bf16) (t : Fin cfg0.N) (a : Fin 2048) (b : Fin 1024) : Y (((cfg0.win 3).blk t).view.emb (ix2 a b)) = Y (ix2 (tok t a) b) := by
  blk_point [idx t, tok]

theorem at4 (Y : FVec Ideal S4096x2048 .bf16) (t : Fin cfg0.N) (a : Fin 2048) (b : Fin 512) : Y (((cfg0.win 4).blk t).view.emb (ix2 a b)) = Y (ix2 (tok t a) (unit t b)) := by
  blk_point [idx t, tok, unit]

theorem hid_eq (c : Dev nD) (t : Fin cfg0.N) (a : Fin 2048) (b : Fin 1024) : hid m c t (ix2 a b) = NORM (X m c) (G m c) (ix2 (tok t a) b) := by
  unfold hid
  rw [norm_apply, Cert.Kernel6Ideal.Fwd.NORM_apply]
  simp only [blk0, blk1, tok_start]

theorem prod_eq (c : Dev nD) (t : Fin cfg0.N) (a : Fin 2048) (b : Fin 512) :
    k0_pay2 (hid m c t) (iblk m c 2 t) (ix2 a b) = PROD (NORM (X m c) (G m c)) (W m c) (ix2 (tok t a) (unit t b)) := by
  pointwise [k0_pay2, PROD]
  simp only [blk2, hid_eq]

theorem final3 (c : Dev nD) : (dats m 0 c).arrAt 3 (cfgs 0).N = truncf .bf16 (NORM (X m c) (G m c)) Cert.Reference15Ideal.Gen.bitsLt_bf16_f32 := by
  refine (dats m 0 c).arrAt_eq_of_covers 3 _ (by decide +kernel) fun t hf y => ?_
  blk_simp
  rw [after3]
  idx_vars y
  exact (hid_eq m c t _ _).trans (at3 _ t _ _).symm

theorem final4 (c : Dev nD) : (dats m 0 c).arrAt 4 (cfgs 0).N = truncf .bf16 (PROD (NORM (X m c) (G m c)) (W m c)) Cert.Reference15Ideal.Gen.bitsLt_bf16_f32 := by
  refine (dats m 0 c).arrAt_eq_of_covers 4 _ (by decide +kernel) fun t hf y => ?_
  blk_simp
  rw [after4]
  idx_vars y
  exact (prod_eq m c t _ _).trans (at4 _ t _ _).symm

/-- The kernel's and the reference's keys and values are one, and so is what is saved of the norm. -/
theorem algebraic : Cert.algebraic_Kernel15Ideal_Reference15Ideal := by
  pair_intro
  · run_from ((θ_run defs _ _).mono (fun _ h => h.1) (run_main (F := Ideal) m g))
  · run_from Cert.Reference15Ideal.Value.run m' g'
    · rw [final3]
      unfold NORM
      with_reducible rfl
    · rw [final4]
      unfold PROD NORM
      with_reducible rfl

end Cert.Kernel15Ideal.KeyValue

end
-- ==== Proof.Mlp.Second.lean ====
/- The first layer's product by the MLP's second weight, the norm after it and the residual: what the arrays hold at the end
   is the reference's. -/
module

public import proofs.«01_k».proof.Proof.Mlp.Fwd
public import proofs.«01_k».proof.Defs
public import proofs.«01_k».proof.Proof.Gen.Kernel16Ideal.Frame
public import proofs.«01_k».proof.Proof.Gen.Reference16Ideal.Run
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel16Ideal.Second

open Idealize.ShloMosaic Idealize.ShloMosaic.TcCoe Idealize.SL.Sem
open Idealize.ShloMosaic.Pipeline (Dat)
open Cert.Kernel16Ideal Cert.Kernel16Ideal.Gen

open Cert.Norm (root)
open Cert.Kernel6Ideal.Fwd (NORM)

/-- The product of the square by the weight. -/
def PROD (r : FVec Ideal Cert.Reference16Ideal.S4096x4096 .f32) (w : FVec Ideal Cert.Reference16Ideal.S4096x1024 .f32) : FVec Ideal Cert.Reference16Ideal.S4096x1024 .f32 :=
  Host.dotGeneral Cert.Reference16Ideal.dot_S4096x4096_S4096x1024_S4096x1024_1_0_0_1_n_n none (mulf r r) w

/-- The sum of the residual and the product's norm. -/
def SUM (z x : FVec Ideal Cert.Reference16Ideal.S4096x1024 .f32) (g : FVec Ideal Cert.Reference16Ideal.S1024 .f32) : FVec Ideal Cert.Reference16Ideal.S4096x1024 .f32 := addf x (NORM z g)

theorem PROD_apply (r : FVec Ideal Cert.Reference16Ideal.S4096x4096 .f32) (w : FVec Ideal Cert.Reference16Ideal.S4096x1024 .f32) (a : Fin 4096) (b : Fin 1024) :
    PROD r w (ix2 a b) = ∑ k : Fin 4096, r (ix2 a k) * r (ix2 a k) * w (ix2 k b) := by
  pointwise [PROD]

theorem SUM_apply (z x : FVec Ideal Cert.Reference16Ideal.S4096x1024 .f32) (g : FVec Ideal Cert.Reference16Ideal.S1024 .f32) (a : Fin 4096) (b : Fin 1024) :
    SUM z x g (ix2 a b) = x (ix2 a b) + NORM z g (ix2 a b) := by
  pointwise [SUM]

theorem prod_apply (r : Vec Ideal S1024x1024 .bf16) (w : Vec Ideal S1x1x1024x1024 .bf16) (a : Fin 1024) (b : Fin 1024) :
    k0_pay1 r w (ix2 a b) = ∑ k : Fin 1024, r (ix2 a k) * r (ix2 a k) * w (ix4 0 0 k b) := by
  pointwise [k0_pay1]

theorem step_apply (r : Vec Ideal S1024x1024 .bf16) (w : Vec Ideal S1x1x1024x1024 .bf16) (z : Vec Ideal S1024x1024 .f32) (a : Fin 1024) (b : Fin 1024) :
    k0_pay2 r w z (ix2 a b) = z (ix2 a b) + k0_pay1 r w (ix2 a b) := by
  pointwise [k0_pay2]

theorem sum_apply (z x : Vec Ideal S1024x1024 .f32) (g : Vec Ideal S1x1024 .f32) (a : Fin 1024) (b : Fin 1024) :
    k0_pay3 z x g (ix2 a b) = x (ix2 a b) + z (ix2 a b) * root (fun k : Fin 1024 => z (ix2 a k)) * g (ix2 0 b) := by
  pointwise [k0_pay3]
  rfl

variable (m : (ℓ : Loc nD τ sig) → Buf (Elt Ideal) ℓ)

/-- Where each window's block sits at each grid point. -/
theorem idx : ∀ t : Fin cfg0.N, win0_0.index t = ![t.val / 4, t.val % 4] ∧ win0_1.index t = ![t.val % 4, 0, 0, 0] ∧ win0_2.index t = ![t.val / 4, 0]
    ∧ win0_3.index t = ![0, 0] ∧ win0_4.index t = ![t.val / 4, 0] ∧ win0_5.index t = ![t.val / 4, 0] :=
  (by decide +kernel : ∀ t : Fin grid0.N, _)

theorem lt_N (t : Fin cfg0.N) : t.val < 16 := lt_of_lt_of_eq t.isLt (show cfg0.N = 16 from N_0)

/-- The token a row of a point's token tile is, and the hidden unit a column of its tile is. -/
def tok (t : Fin cfg0.N) (a : Fin 1024) : Fin 4096 := ⟨t.val / 4 * 1024 + a.val, by have := lt_N t; omega⟩
def unit (t : Fin cfg0.N) (a : Fin 1024) : Fin 4096 := ⟨t.val % 4 * 1024 + a.val, by omega⟩

abbrev R (c : Dev nD) : FVec Ideal Cert.Reference16Ideal.S4096x4096 .f32 := m ((c : Thread nD τ).loc main_arg0)
abbrev W (c : Dev nD) : FVec Ideal Cert.Reference16Ideal.S4096x1024 .f32 := m ((c : Thread nD τ).loc main_arg1)
abbrev X (c : Dev nD) : FVec Ideal Cert.Reference16Ideal.S4096x1024 .f32 := m ((c : Thread nD τ).loc main_arg2)
abbrev G (c : Dev nD) : FVec Ideal Cert.Reference16Ideal.S1024 .f32 := m ((c : Thread nD τ).loc main_arg3)

theorem blk0 (c : Dev nD) (t : Fin cfg0.N) (a b : Fin 1024) : iblk m c 0 t (ix2 a b) = R m c (ix2 (tok t a) (unit t b)) := by
  blk_point [iblk, idx t, tok, unit]

theorem blk1 (c : Dev nD) (t : Fin cfg0.N) (a b : Fin 1024) : iblk m c 1 t (ix4 0 0 a b) = W m c (ix2 (unit t a) b) := by
  blk_point [iblk, idx t, unit]

theorem blk2 (c : Dev nD) (t : Fin cfg0.N) (a b : Fin 1024) : iblk m c 2 t (ix2 a b) = X m c (ix2 (tok t a) b) := by
  blk_point [iblk, idx t, tok]

theorem blk3 (c : Dev nD) (t : Fin cfg0.N) (b : Fin 1024) : iblk m c 3 t (ix2 0 b) = G m c (ix1 b) := by
  blk_point [iblk, idx t]

theorem at4 (Y : FVec Ideal S4096x1024 .f32) (t : Fin cfg0.N) (a b : Fin 1024) : Y (((cfg0.win 4).blk t).view.emb (ix2 a b)) = Y (ix2 (tok t a) b) := by
  blk_point [idx t, tok]

theorem at5 (Y : FVec Ideal S4096x1024 .f32) (t : Fin cfg0.N) (a b : Fin 1024) : Y (((cfg0.win 5).blk t).view.emb (ix2 a b)) = Y (ix2 (tok t a) b) := by
  blk_point [idx t, tok]

/-- A hidden unit's part of the product. -/
def part (c : Dev nD) (a : Fin 4096) (b : Fin 1024) (k : Fin 4096) : EReal :=
  R m c (ix2 a k) * R m c (ix2 a k) * W m c (ix2 k b)

theorem prod_eq (c : Dev nD) (t : Fin cfg0.N) (a b : Fin 1024) :
    k0_pay1 (F := Ideal) (iblk m c 0 t) (iblk m c 1 t) (ix2 a b) = ∑ k : Fin 1024, part m c (tok t a) b (unit t k) := by
  rw [prod_apply]
  simp only [blk0, blk1]
  rfl

/-- The sum so far, at a token tile's first point, -/
theorem acc_start (c : Dev nD) (t : Fin cfg0.N) (h : t.val % 4 = 0) :
    (outsAt0 m c t.val t.isLt).1 = k0_pay1 (F := Ideal) (iblk m c 0 t) (iblk m c 1 t) := by
  rw [outsAt0_A m c t h (by omega) (by omega)]
  frame_out

/-- and at a later one. -/
theorem acc_step (c : Dev nD) (t : Fin cfg0.N) (h : ¬t.val % 4 = 0) :
    (outsAt0 m c t.val t.isLt).1 = k0_pay2 (F := Ideal) (iblk m c 0 t) (iblk m c 1 t) (outsAt0 m c (t.val - 1) (by omega)).1 := by
  by_cases h3 : t.val % 4 = 3
  · rw [outsAt0_C m c t h (by omega) h3]
    frame_out
  · rw [outsAt0_B m c t h (by omega) h3]
    frame_out

/-- The result of a token tile's last point. -/
theorem out_last (c : Dev nD) (t : Fin cfg0.N) (h : t.val % 4 = 3) :
    (outsAt0 m c t.val t.isLt).2 = k0_pay3 (F := Ideal) (outsAt0 m c t.val t.isLt).1 (iblk m c 2 t) (iblk m c 3 t) := by
  rw [acc_step m c t (by omega), outsAt0_C m c t (by omega) (by omega) h]
  frame_out

/-- A token tile's point that takes the `i`-th tile of hidden units. -/
def col (t : Fin cfg0.N) (i : ℕ) (h : i < 4) : Fin cfg0.N := ⟨4 * (t.val / 4) + i, by have := lt_N t; have e : cfg0.N = 16 := N_0; omega⟩

theorem tok_col (t : Fin cfg0.N) (i : ℕ) (h : i < 4) (a : Fin 1024) : tok (col t i h) a = tok t a := Fin.ext (by simp only [tok, col]; omega)

theorem unit_col (t : Fin cfg0.N) (i : ℕ) (h : i < 4) (k : Fin 1024) : unit (col t i h) k = ⟨i * 1024 + k.val, by omega⟩ :=
  Fin.ext (by simp only [unit, col]; omega)

theorem acc_sum (c : Dev nD) (t : Fin cfg0.N) (a b : Fin 1024) (i : ℕ) (h : i < 4) :
    (outsAt0 m c (col t i h).val (col t i h).isLt).1 (ix2 a b) = ∑ s : Fin (i + 1), ∑ k : Fin 1024, part m c (tok t a) b ⟨s.val * 1024 + k.val, by omega⟩ := by
  induction i with
  | zero =>
    rw [acc_start m c _ (by simp only [col]; omega), prod_eq, Fin.sum_univ_one]
    simp only [tok_col, unit_col]
    rfl
  | succ i ih =>
    rw [acc_step m c _ (by simp only [col]; omega), step_apply, prod_eq, Fin.sum_univ_castSucc (n := i + 1)]
    simp only [tok_col, unit_col]
    rw [show outsAt0 m c ((col t (i + 1) h).val - 1) _ = outsAt0 m c (col t i (by omega)).val (col t i (by omega)).isLt from rfl, ih (by omega)]
    rfl

theorem acc_eq (c : Dev nD) (t : Fin cfg0.N) (h : t.val % 4 = 3) (a b : Fin 1024) :
    (outsAt0 m c t.val t.isLt).1 (ix2 a b) = PROD (R m c) (W m c) (ix2 (tok t a) b) := by
  have e : col t 3 (by omega) = t := Fin.ext (by simp only [col]; omega)
  have s := acc_sum m c t a b 3 (by omega)
  rw [e] at s
  rw [s, PROD_apply]
  exact Fin.sum_mul_add_congr fun s k h => rfl

theorem out_eq (c : Dev nD) (t : Fin cfg0.N) (h : t.val % 4 = 3) (a b : Fin 1024) :
    (outsAt0 m c t.val t.isLt).2 (ix2 a b) = SUM (PROD (R m c) (W m c)) (X m c) (G m c) (ix2 (tok t a) b) := by
  rw [out_last m c t h, sum_apply, SUM_apply, Cert.Kernel6Ideal.Fwd.NORM_apply]
  simp only [acc_eq m c t h, blk2, blk3]

theorem final4 (c : Dev nD) : (dats m 0 c).arrAt 4 (cfgs 0).N = PROD (R m c) (W m c) := by
  refine (dats m 0 c).arrAt_eq_of_covers 4 _ (by decide +kernel) fun t hf y => ?_
  blk_simp
  rw [after0_4]
  idx_vars y
  exact (acc_eq m c t ((by decide +kernel : ∀ t : Fin grid0.N, win0_4.flush t = true → t.val % 4 = 3) t hf) _ _).trans (at4 _ t _ _).symm

theorem final5 (c : Dev nD) : (dats m 0 c).arrAt 5 (cfgs 0).N = SUM (PROD (R m c) (W m c)) (X m c) (G m c) := by
  refine (dats m 0 c).arrAt_eq_of_covers 5 _ (by decide +kernel) fun t hf y => ?_
  blk_simp
  rw [after0_5]
  idx_vars y
  exact (out_eq m c t ((by decide +kernel : ∀ t : Fin grid0.N, win0_5.flush t = true → t.val % 4 = 3) t hf) _ _).trans (at5 _ t _ _).symm

/-- The kernel's and the reference's results are one. -/
theorem algebraic : Cert.algebraic_Kernel16Ideal_Reference16Ideal := by
  pair_intro
  · run_from Cert.Kernel16Ideal.Gen.run_main m g
  · run_from Cert.Reference16Ideal.Value.run m' g'
    · exact (final4 m c).symm
    · rw [final5]
      unfold SUM NORM PROD
      with_reducible rfl

end Cert.Kernel16Ideal.Second

end
-- ==== Proof.Rest.KeyValueSum.lean ====
/- The two layers' gradients of the keys and values, put side by side and added: what the array holds at the end is the
   reference's. -/
module

public import proofs.«01_k».proof.Proof.Gen.Kernel17Ideal.Frame
public import proofs.«01_k».proof.Proof.Gen.Reference17Ideal.Run
public import proofs.«01_k».proof.Defs
public import Idealize.ShloMosaic.Lib.Pipeline.ValueKit
public import Idealize.ShloMosaic.Lib.Claim

@[expose] public section

set_option maxRecDepth 16384

noncomputable section

namespace Cert.Kernel17Ideal.KeyValueSum

open Idealize.ShloMosaic Idealize.ShloMosaic.TcCoe Idealize.SL.Sem
open Idealize.ShloMosaic.Pipeline (Dat)
open Cert.Kernel17Ideal Cert.Kernel17Ideal.Gen

/-- Two gradients side by side. -/
def SIDE (k v : FVec Ideal Cert.Reference17Ideal.S4096x1024 .f32) : FVec Ideal Cert.Reference17Ideal.S4096x2048 .f32 :=
  concatenate Cert.Reference17Ideal.S4096x2048 1 [⟨Cert.Reference17Ideal.S4096x1024, k⟩, ⟨Cert.Reference17Ideal.S4096x1024, v⟩]
    Cert.Reference17Ideal.Gen.concatenates_S4096x1024_S4096x1024_S4096x2048_d1

theorem SIDE_left (k v : FVec Ideal Cert.Reference17Ideal.S4096x1024 .f32) (a : Fin 4096) (b : Fin 2048) (x : Fin 1024) (h : b.val = x.val) :
    SIDE k v (ix2 a b) = k (ix2 a x) := by
  rw [show b = ⟨x.val, by omega⟩ from Fin.ext h]
  pointwise [SIDE]

theorem SIDE_right (k v : FVec Ideal Cert.Reference17Ideal.S4096x1024 .f32) (a : Fin 4096) (b : Fin 2048) (x : Fin 1024) (h : b.val = 1024 + x.val) :
    SIDE k v (ix2 a b) = v (ix2 a x) := by
  rw [show b = ⟨1024 + x.val, by omega⟩ from Fin.ext h]
  pointwise [SIDE]

variable (m : (ℓ : Loc nD τ sig) → Buf (Elt Ideal) ℓ)

/-- Where each window's block sits at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, _)

theorem lt_N (t : Fin cfg0.N) : t.val < 8 := lt_of_lt_of_eq t.isLt (show cfg0.N = 8 from N_0)

/-- The token a row of a point's token tile is. -/
def tok (t : Fin cfg0.N) (a : Fin 512) : Fin 4096 := ⟨t.val * 512 + a.val, by have := lt_N t; omega⟩

abbrev K0 (c : Dev nD) : FVec Ideal Cert.Reference17Ideal.S4096x1024 .f32 := m ((c : Thread nD τ).loc main_arg0)
abbrev V0 (c : Dev nD) : FVec Ideal Cert.Reference17Ideal.S4096x1024 .f32 := m ((c : Thread nD τ).loc main_arg1)
abbrev K1 (c : Dev nD) : FVec Ideal Cert.Reference17Ideal.S4096x1024 .f32 := m ((c : Thread nD τ).loc main_arg2)
abbrev V1 (c : Dev nD) : FVec Ideal Cert.Reference17Ideal.S4096x1024 .f32 := m ((c : Thread nD τ).loc main_arg3)

theorem blk0 (c : Dev nD) (t : Fin cfg0.N) (a : Fin 512) (b : Fin 1024) : iblk m c 0 t (ix2 a b) = K0 m c (ix2 (tok t a) b) := by
  blk_point [iblk, idx t, tok]
theorem blk1 (c : Dev nD) (t : Fin cfg0.N) (a : Fin 512) (b : Fin 1024) : iblk m c 1 t (ix2 a b) = V0 m c (ix2 (tok t a) b) := by
  blk_point [iblk, idx t, tok]
theorem blk2 (c : Dev nD) (t : Fin cfg0.N) (a : Fin 512) (b : Fin 1024) : iblk m c 2 t (ix2 a b) = K1 m c (ix2 (tok t a) b) := by
  blk_point [iblk, idx t, tok]
theorem blk3 (c : Dev nD) (t : Fin cfg0.N) (a : Fin 512) (b : Fin 1024) : iblk m c 3 t (ix2 a b) = V1 m c (ix2 (tok t a) b) := by
  blk_point [iblk, idx t, tok]

theorem at4 (Y : FVec Ideal S4096x2048 .bf16) (t : Fin cfg0.N) (a : Fin 512) (b : Fin 2048) : Y (((cfg0.win 4).blk t).view.emb (ix2 a b)) = Y (ix2 (tok t a) b) := by
  blk_point [idx t, tok]

theorem keys_eq (c : Dev nD) (t : Fin cfg0.N) (a : Fin 512) (b : Fin 1024) :
    k0_pay1 (F := Ideal) (iblk m c 0 t) (iblk m c 2 t) (ix2 a b) = K0 m c (ix2 (tok t a) b) + K1 m c (ix2 (tok t a) b) := by
  pointwise [k0_pay1]
  rw [blk0, blk2]

theorem values_eq (c : Dev nD) (t : Fin cfg0.N) (a : Fin 512) (b : Fin 1024) :
    k0_pay2 (F := Ideal) (iblk m c 1 t) (iblk m c 3 t) (ix2 a b) = V0 m c (ix2 (tok t a) b) + V1 m c (ix2 (tok t a) b) := by
  pointwise [k0_pay2]
  rw [blk1, blk3]

theorem out_eq (c : Dev nD) (t : Fin cfg0.N) (a : Fin 512) (b : Fin 2048) :
    out0_4 (F := Ideal) (iblk m c 0 t) (iblk m c 1 t) (iblk m c 2 t) (iblk m c 3 t) (ix2 a b)
      = SIDE (K0 m c) (V0 m c) (ix2 (tok t a) b) + SIDE (K1 m c) (V1 m c) (ix2 (tok t a) b) := by
  frame_out
  canon_tiles x h
  · idx_vars x
    obtain rfl : a = x0 := Fin.ext h0
    rw [SIDE_right _ _ _ _ x1 h1, SIDE_right _ _ _ _ x1 h1]
    exact values_eq m c t a x1
  · idx_vars x
    obtain rfl : a = x0 := Fin.ext h0
    rw [SIDE_left _ _ _ _ x1 h1, SIDE_left _ _ _ _ x1 h1]
    exact keys_eq m c t a x1

theorem final4 (c : Dev nD) : (dats m 0 c).arrAt 4 (cfgs 0).N
    = truncf .bf16 (addf (SIDE (K0 m c) (V0 m c)) (SIDE (K1 m c) (V1 m c))) Cert.Reference17Ideal.Gen.bitsLt_bf16_f32 := by
  refine (dats m 0 c).arrAt_eq_of_covers 4 _ (by decide +kernel) fun t hf y => ?_
  blk_simp
  rw [after0_4]
  idx_vars y
  exact (out_eq m c t _ _).trans (at4 (truncf .bf16 (addf (SIDE (K0 m c) (V0 m c)) (SIDE (K1 m c) (V1 m c))) Cert.Reference17Ideal.Gen.bitsLt_bf16_f32) t _ _).symm

/-- The kernel's and the reference's sums are one. -/
theorem algebraic : Cert.algebraic_Kernel17Ideal_Reference17Ideal := by
  pair_intro
  · run_from Cert.Kernel17Ideal.Gen.run_main m g
  · run_from Cert.Reference17Ideal.Value.run m' g'
    · rw [final4, (hagree c).2.2.2]
      unfold SIDE
      with_reducible rfl

end Cert.Kernel17Ideal.KeyValueSum

end
-- ==== Proof.Rest.Loss.lean ====
/- The loss of one device's tokens and its gradient: what the arrays hold at the end is the reference's. -/
module

public import proofs.«01_k».proof.Proof.Gen.Kernel18Ideal.Frame
public import proofs.«01_k».proof.Proof.Gen.Reference18Ideal.Run
public import proofs.«01_k».proof.Proof.Mlp.NormGrad
public import proofs.«01_k».proof.Defs
public import Idealize.ShloMosaic.Lib.Pipeline.ValueKit
public import Idealize.ShloMosaic.Lib.Claim

@[expose] public section

set_option maxRecDepth 16384

noncomputable section

namespace Cert.Kernel18Ideal.Loss

open Idealize.ShloMosaic Idealize.ShloMosaic.TcCoe Idealize.SL.Sem
open Idealize.ShloMosaic.Pipeline (Dat)
open Cert.Kernel18Ideal Cert.Kernel18Ideal.Gen

/-- Half the sum over the tokens of the squared error's mean, -/
def LOSS (y w : FVec Ideal Cert.Reference18Ideal.S4096x1024 .f32) : FVec Ideal Cert.Reference18Ideal.S1x1 .f32 :=
  shapeCast _ (mulf (constant Cert.Reference18Ideal.S_ .f32 0x3F000000#32) (Host.reduceAdd (Host.divf (Host.reduceAdd (mulf (subf y w) (subf y w))
    (constant Cert.Reference18Ideal.S_ .f32 0x00000000#32) Cert.Reference18Ideal.Gen.reducesTo_S4096x1024_S4096_d1 Cert.Reference18Ideal.Gen.h_S_)
    (broadcastInDim Cert.Reference18Ideal.S4096 ![] Cert.Reference18Ideal.Gen.bcast_S_S4096 (constant Cert.Reference18Ideal.S_ .f32 0x44800000#32)))
    (constant Cert.Reference18Ideal.S_ .f32 0x00000000#32) Cert.Reference18Ideal.Gen.reducesTo_S4096_S_d0 Cert.Reference18Ideal.Gen.h_S_)) Cert.Reference18Ideal.Gen.shapeCasts_S_S1x1

/-- and its gradient. -/
def GRAD (y w : FVec Ideal Cert.Reference18Ideal.S4096x1024 .f32) : FVec Ideal Cert.Reference18Ideal.S4096x1024 .f32 :=
  mulf (broadcastInDim Cert.Reference18Ideal.S4096x1024 ![0] Cert.Reference18Ideal.Gen.bcast_S4096_S4096x1024_0 (Host.divf (broadcastInDim Cert.Reference18Ideal.S4096 ![] Cert.Reference18Ideal.Gen.bcast_S_S4096
      (mulf (constant Cert.Reference18Ideal.S_ .f32 0x3F000000#32) (constant Cert.Reference18Ideal.S_ .f32 0x3F800000#32)))
      (broadcastInDim Cert.Reference18Ideal.S4096 ![] Cert.Reference18Ideal.Gen.bcast_S_S4096 (constant Cert.Reference18Ideal.S_ .f32 0x44800000#32))))
    (mulf (broadcastInDim Cert.Reference18Ideal.S4096x1024 ![] Cert.Reference18Ideal.Gen.bcast_S_S4096x1024 (constant Cert.Reference18Ideal.S_ .f32 0x40000000#32)) (subf y w))

/-- The squared error's mean at one token. -/
def mean (y w : Fin 1024 → EReal) : EReal :=
  Ideal.div (∑ k, (y k - w k) * (y k - w k)) (Ideal.ofBits .f32 0x44800000#32)

theorem LOSS_apply (y w : FVec Ideal Cert.Reference18Ideal.S4096x1024 .f32) :
    LOSS y w (ix2 0 0) = Ideal.ofBits .f32 0x3F000000#32 * ∑ a : Fin 4096, mean (fun k => y (ix2 a k)) (fun k => w (ix2 a k)) := by
  pointwise [LOSS]
  rfl

theorem GRAD_apply (y w : FVec Ideal Cert.Reference18Ideal.S4096x1024 .f32) (a : Fin 4096) (b : Fin 1024) :
    GRAD y w (ix2 a b) = Ideal.div (Ideal.ofBits .f32 0x3F000000#32 * Ideal.ofBits .f32 0x3F800000#32) (Ideal.ofBits .f32 0x44800000#32)
      * (Ideal.ofBits .f32 0x40000000#32 * (y (ix2 a b) - w (ix2 a b))) := by
  pointwise [GRAD]

theorem loss_apply (y w : Vec Ideal S512x1024 .f32) :
    k0_pay3 y w (ix2 0 0) = Ideal.ofBits .f32 0x3F000000#32 * ∑ a : Fin 512, mean (fun k => y (ix2 a k)) (fun k => w (ix2 a k)) := by
  pointwise [k0_pay3, k0_pay1]
  rfl

theorem step_apply (y w : Vec Ideal S512x1024 .f32) (l : Vec Ideal S1x1 .f32) : k0_pay4 y w l (ix2 0 0) = l (ix2 0 0) + k0_pay3 y w (ix2 0 0) := by
  pointwise [k0_pay4]

theorem grad_apply (y w : Vec Ideal S512x1024 .f32) (a : Fin 512) (b : Fin 1024) :
    k0_pay2 y w (ix2 a b) = (y (ix2 a b) - w (ix2 a b)) * Ideal.ofBits .f32 0x3A800000#32 := by
  pointwise [k0_pay2, k0_pay1]

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

theorem part : Ideal.ofBits .f32 0x3A800000#32 = ((1 / 1024 : ℝ) : EReal) := by
  simp [Ideal.ofBits, Ideal.ieee, -EReal.coe_mul]; norm_num

/-- Half of one over the width, times twice the error, is the error over the width. -/
theorem scale (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [half, two, part, one, Cert.Norm.width, ← EReal.coe_mul, Ideal.div_coe (by norm_num), ← mul_assoc, ← EReal.coe_mul, ← EReal.coe_mul, mul_comm]
  norm_num

/-- A half of a sum is the sum of the halves. -/
theorem half_sum {n : ℕ} (f : Fin n → EReal) : Ideal.ofBits .f32 0x3F000000#32 * ∑ s, f s = ∑ s, Ideal.ofBits .f32 0x3F000000#32 * f s := by
  rw [half, mul_comm, ← Cert.Norm.sum_mul_real _ (by norm_num)]
  exact Finset.sum_congr rfl fun _ _ => mul_comm _ _

variable (m : (ℓ : Loc nD τ sig) → Buf (Elt Ideal) ℓ)

/-- Where each window's block sits at each grid point. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem lt_N (t : Fin cfg0.N) : t.val < 8 := lt_of_lt_of_eq t.isLt (show cfg0.N = 8 from N_0)

/-- The token a row of a point's token tile is. -/
def tok (t : Fin cfg0.N) (a : Fin 512) : Fin 4096 := ⟨t.val * 512 + a.val, by have := lt_N t; omega⟩

abbrev Y (c : Dev nD) : FVec Ideal Cert.Reference18Ideal.S4096x1024 .f32 := m ((c : Thread nD τ).loc main_arg0)
abbrev W (c : Dev nD) : FVec Ideal Cert.Reference18Ideal.S4096x1024 .f32 := m ((c : Thread nD τ).loc main_arg1)

theorem blk0 (c : Dev nD) (t : Fin cfg0.N) (a : Fin 512) (b : Fin 1024) : iblk m c 0 t (ix2 a b) = Y m c (ix2 (tok t a) b) := by
  blk_point [iblk, idx t, tok]

theorem blk1 (c : Dev nD) (t : Fin cfg0.N) (a : Fin 512) (b : Fin 1024) : iblk m c 1 t (ix2 a b) = W m c (ix2 (tok t a) b) := by
  blk_point [iblk, idx t, tok]

theorem at2 (Z : FVec Ideal S1x1 .f32) (t : Fin cfg0.N) : Z (((cfg0.win 2).blk t).view.emb (ix2 0 0)) = Z (ix2 0 0) := by
  blk_point [idx t]

theorem at3 (Z : FVec Ideal S4096x1024 .f32) (t : Fin cfg0.N) (a : Fin 512) (b : Fin 1024) : Z (((cfg0.win 3).blk t).view.emb (ix2 a b)) = Z (ix2 (tok t a) b) := by
  blk_point [idx t, tok]

/-- A token's squared error's mean. -/
def err (c : Dev nD) (a : Fin 4096) : EReal := mean (fun k => Y m c (ix2 a k)) (fun k => W m c (ix2 a k))

theorem tile_eq (c : Dev nD) (t : Fin cfg0.N) :
    k0_pay3 (F := Ideal) (iblk m c 0 t) (iblk m c 1 t) (ix2 0 0) = Ideal.ofBits .f32 0x3F000000#32 * ∑ a : Fin 512, err m c (tok t a) := by
  rw [loss_apply]
  simp only [blk0, blk1]
  rfl

/-- The loss so far, at the first point, -/
theorem acc_start (c : Dev nD) (t : Fin cfg0.N) (h : t.val % 8 = 0) :
    (outsAt0 m c t.val t.isLt).1 = k0_pay3 (F := Ideal) (iblk m c 0 t) (iblk m c 1 t) := by
  have := lt_N t
  rw [outsAt0_A m c t h (by omega)]
  frame_out

/-- and at a later one. -/
theorem acc_step (c : Dev nD) (t : Fin cfg0.N) (h : ¬t.val % 8 = 0) :
    (outsAt0 m c t.val t.isLt).1 = k0_pay4 (F := Ideal) (iblk m c 0 t) (iblk m c 1 t) (outsAt0 m c (t.val - 1) (by omega)).1 := by
  rw [outsAt0_B m c t h (by omega)]
  frame_out

/-- The gradient's tile. -/
theorem grad_out (c : Dev nD) (t : Fin cfg0.N) : (outsAt0 m c t.val t.isLt).2 = k0_pay2 (F := Ideal) (iblk m c 0 t) (iblk m c 1 t) := by
  have := lt_N t
  by_cases h : t.val % 8 = 0
  · rw [outsAt0_A m c t h (by omega)]
    frame_out
  · rw [outsAt0_B m c t h (by omega)]
    frame_out

theorem acc_sum (c : Dev nD) (i : ℕ) (h : i < cfg0.N) :
    (outsAt0 m c i h).1 (ix2 0 0) = ∑ s : Fin (i + 1), Ideal.ofBits .f32 0x3F000000#32 * ∑ a : Fin 512, err m c ⟨s.val * 512 + a.val, by have e : cfg0.N = 8 := N_0; omega⟩ := by
  have e : cfg0.N = 8 := N_0
  induction i with
  | zero =>
    rw [acc_start m c ⟨0, h⟩ rfl, tile_eq, Fin.sum_univ_one]
    rfl
  | succ i ih =>
    rw [acc_step m c ⟨i + 1, h⟩ (by simp only; omega), step_apply, tile_eq, Fin.sum_univ_castSucc (n := i + 1)]
    rw [show outsAt0 m c ((⟨i + 1, h⟩ : Fin cfg0.N).val - 1) _ = outsAt0 m c i (by omega) from rfl, ih (by omega)]
    rfl

theorem acc_eq (c : Dev nD) (t : Fin cfg0.N) (h : t.val = 7) : (outsAt0 m c t.val t.isLt).1 (ix2 0 0) = LOSS (Y m c) (W m c) (ix2 0 0) := by
  obtain ⟨i, hi⟩ := t
  obtain rfl : i = 7 := h
  rw [acc_sum, LOSS_apply, ← half_sum]
  congr 1
  exact Fin.sum_mul_add_congr fun s k h => rfl

theorem grad_eq (c : Dev nD) (t : Fin cfg0.N) (a : Fin 512) (b : Fin 1024) :
    (outsAt0 m c t.val t.isLt).2 (ix2 a b) = GRAD (Y m c) (W m c) (ix2 (tok t a) b) := by
  rw [grad_out, grad_apply, GRAD_apply, scale, blk0, blk1]

theorem final2 (c : Dev nD) : (dats m 0 c).arrAt 2 (cfgs 0).N = LOSS (Y m c) (W m c) := by
  refine (dats m 0 c).arrAt_eq_of_covers 2 _ (by decide +kernel) fun t hf y => ?_
  blk_simp
  rw [after0_2]
  idx_vars y
  obtain rfl : y0 = 0 := Subsingleton.elim _ _
  obtain rfl : y1 = 0 := Subsingleton.elim _ _
  exact (acc_eq m c t ((by decide +kernel : ∀ t : Fin grid0.N, win0_2.flush t = true → t.val = 7) t hf)).trans (at2 _ t).symm

theorem final3 (c : Dev nD) : (dats m 0 c).arrAt 3 (cfgs 0).N = GRAD (Y m c) (W m c) := by
  refine (dats m 0 c).arrAt_eq_of_covers 3 _ (by decide +kernel) fun t hf y => ?_
  blk_simp
  rw [after0_3]
  idx_vars y
  exact (grad_eq m c t _ _).trans (at3 _ t _ _).symm

/-- The kernel's and the reference's loss and its gradient are one. -/
theorem algebraic : Cert.algebraic_Kernel18Ideal_Reference18Ideal := by
  pair_intro
  · run_from Cert.Kernel18Ideal.Gen.run_main m g
  · run_from Cert.Reference18Ideal.Value.run m' g'
    · rw [final2]
      unfold LOSS
      with_reducible rfl
    · rw [final3]
      unfold GRAD
      with_reducible rfl

end Cert.Kernel18Ideal.Loss

end
-- ==== Proof.Rest.Adam.lean ====
/- The optimiser's step on one weight: what the arrays hold at the end is the reference's. -/
module

public import proofs.«01_k».proof.Proof.Gen.Kernel19Ideal.Frame
public import proofs.«01_k».proof.Proof.Gen.Reference19Ideal.Run
public import proofs.«01_k».proof.Defs
public import Idealize.ShloMosaic.Lib.Pipeline.ValueKit
public import Idealize.ShloMosaic.Lib.Claim

@[expose] public section

set_option maxRecDepth 16384

noncomputable section

namespace Cert.Kernel19Ideal.Adam

open Idealize.ShloMosaic Idealize.ShloMosaic.TcCoe Idealize.SL.Sem
open Idealize.ShloMosaic.Pipeline (Dat)
open Cert.Kernel19Ideal Cert.Kernel19Ideal.Gen

/-- A number at every place of the weight. -/
def ALL (n : BitVec 32) : FVec Ideal Cert.Reference19Ideal.S1024x512 .f32 :=
  broadcastInDim Cert.Reference19Ideal.S1024x512 ![] Cert.Reference19Ideal.Gen.bcast_S_S1024x512 (constant Cert.Reference19Ideal.S_ .f32 n)

/-- The gradient's running mean, -/
def MEAN (u g : FVec Ideal Cert.Reference19Ideal.S1024x512 .f32) : FVec Ideal Cert.Reference19Ideal.S1024x512 .f32 :=
  addf (mulf (ALL 0x3F666666#32) u) (mulf (ALL 0x3DCCCCCD#32) g)

/-- the running mean of its square, -/
def SQUARES (v g : FVec Ideal Cert.Reference19Ideal.S1024x512 .f32) : FVec Ideal Cert.Reference19Ideal.S1024x512 .f32 :=
  addf (mulf (ALL 0x3F7FBE77#32) v) (mulf (ALL 0x3A83126F#32) (mulf g g))

/-- and what the weight changes by, given both and the weight. -/
def STEP (w u v : FVec Ideal Cert.Reference19Ideal.S1024x512 .f32) : FVec Ideal Cert.Reference19Ideal.S1024x512 .f32 :=
  mulf (ALL 0xBA83126F#32) (addf (Host.divf (Host.divf u (ALL 0x3F26BD02#32)) (addf (Host.sqrt (Host.divf v (ALL 0x3C231ACC#32))) (ALL 0x322BCC77#32)))
    (mulf (ALL 0x3C23D70A#32) w))

theorem ALL_apply (n : BitVec 32) (y) : ALL n y = Ideal.ofBits .f32 n := by
  pointwise [ALL]

variable (m : (ℓ : Loc nD τ sig) → Buf (Elt Ideal) ℓ)

/-- Where each window's block sits at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem lt_N (t : Fin cfg0.N) : t.val < 2 := lt_of_lt_of_eq t.isLt (show cfg0.N = 2 from N_0)

/-- The row of the weight a row of a point's tile is. -/
def row (t : Fin cfg0.N) (a : Fin 512) : Fin 1024 := ⟨t.val * 512 + a.val, by have := lt_N t; omega⟩

abbrev W (c : Dev nD) : FVec Ideal Cert.Reference19Ideal.S1024x512 .f32 := m ((c : Thread nD τ).loc main_arg0)
abbrev U (c : Dev nD) : FVec Ideal Cert.Reference19Ideal.S1024x512 .f32 := m ((c : Thread nD τ).loc main_arg1)
abbrev V2 (c : Dev nD) : FVec Ideal Cert.Reference19Ideal.S1024x512 .f32 := m ((c : Thread nD τ).loc main_arg2)
abbrev A (c : Dev nD) : FVec Ideal Cert.Reference19Ideal.S1024x512 .f32 := m ((c : Thread nD τ).loc main_arg3)
abbrev B (c : Dev nD) : FVec Ideal Cert.Reference19Ideal.S1024x512 .f32 := m ((c : Thread nD τ).loc main_arg4)

theorem blk0 (c : Dev nD) (t : Fin cfg0.N) (a b : Fin 512) : iblk m c 0 t (ix2 a b) = W m c (ix2 (row t a) b) := by
  blk_point [iblk, idx t, row]
theorem blk1 (c : Dev nD) (t : Fin cfg0.N) (a b : Fin 512) : iblk m c 1 t (ix2 a b) = U m c (ix2 (row t a) b) := by
  blk_point [iblk, idx t, row]
theorem blk2 (c : Dev nD) (t : Fin cfg0.N) (a b : Fin 512) : iblk m c 2 t (ix2 a b) = V2 m c (ix2 (row t a) b) := by
  blk_point [iblk, idx t, row]
theorem blk3 (c : Dev nD) (t : Fin cfg0.N) (a b : Fin 512) : iblk m c 3 t (ix2 a b) = A m c (ix2 (row t a) b) := by
  blk_point [iblk, idx t, row]
theorem blk4 (c : Dev nD) (t : Fin cfg0.N) (a b : Fin 512) : iblk m c 4 t (ix2 a b) = B m c (ix2 (row t a) b) := by
  blk_point [iblk, idx t, row]

theorem at5 (Y : FVec Ideal S1024x512 .f32) (t : Fin cfg0.N) (a b : Fin 512) : Y (((cfg0.win 5).blk t).view.emb (ix2 a b)) = Y (ix2 (row t a) b) := by
  blk_point [idx t, row]
theorem at6 (Y : FVec Ideal S1024x512 .f32) (t : Fin cfg0.N) (a b : Fin 512) : Y (((cfg0.win 6).blk t).view.emb (ix2 a b)) = Y (ix2 (row t a) b) := by
  blk_point [idx t, row]
theorem at7 (Y : FVec Ideal S1024x512 .f32) (t : Fin cfg0.N) (a b : Fin 512) : Y (((cfg0.win 7).blk t).view.emb (ix2 a b)) = Y (ix2 (row t a) b) := by
  blk_point [idx t, row]
theorem at8 (Y : FVec Ideal S1024x512 .f32) (t : Fin cfg0.N) (a b : Fin 512) : Y (((cfg0.win 8).blk t).view.emb (ix2 a b)) = Y (ix2 (row t a) b) := by
  blk_point [idx t, row]

theorem grad_eq (c : Dev nD) (t : Fin cfg0.N) (a b : Fin 512) :
    k0_pay1 (F := Ideal) (iblk m c 3 t) (iblk m c 4 t) (ix2 a b) = addf (A m c) (B m c) (ix2 (row t a) b) := by
  pointwise [k0_pay1]
  simp only [blk3, blk4]

theorem mean_eq (c : Dev nD) (t : Fin cfg0.N) (a b : Fin 512) :
    k0_pay2 (F := Ideal) (iblk m c 3 t) (iblk m c 4 t) (iblk m c 1 t) (ix2 a b) = MEAN (U m c) (addf (A m c) (B m c)) (ix2 (row t a) b) := by
  have g := grad_eq m c t a b
  pointwise [k0_pay2, MEAN, ALL]
  rw [g, blk1]
  rfl

theorem squares_eq (c : Dev nD) (t : Fin cfg0.N) (a b : Fin 512) :
    k0_pay3 (F := Ideal) (iblk m c 3 t) (iblk m c 4 t) (iblk m c 2 t) (ix2 a b) = SQUARES (V2 m c) (addf (A m c) (B m c)) (ix2 (row t a) b) := by
  have g := grad_eq m c t a b
  pointwise [k0_pay3, SQUARES, ALL]
  rw [g, blk2]
  rfl

theorem step_eq (c : Dev nD) (t : Fin cfg0.N) (a b : Fin 512) :
    k0_pay4 (F := Ideal) (iblk m c 3 t) (iblk m c 4 t) (iblk m c 1 t) (iblk m c 2 t) (iblk m c 0 t) (ix2 a b)
      = STEP (W m c) (MEAN (U m c) (addf (A m c) (B m c))) (SQUARES (V2 m c) (addf (A m c) (B m c))) (ix2 (row t a) b) := by
  have g := mean_eq m c t a b
  have s := squares_eq m c t a b
  pointwise [k0_pay4, STEP, ALL]
  rw [g, s, blk0]

theorem final5 (c : Dev nD) : (dats m 0 c).arrAt 5 (cfgs 0).N = addf (A m c) (B m c) := by
  refine (dats m 0 c).arrAt_eq_of_covers 5 _ (by decide +kernel) fun t hf y => ?_
  blk_simp
  rw [after0_5]
  idx_vars y
  unfold out0_5
  frame_out
  exact (grad_eq m c t _ _).trans (at5 _ t _ _).symm

theorem final6 (c : Dev nD) : (dats m 0 c).arrAt 6 (cfgs 0).N
    = STEP (W m c) (MEAN (U m c) (addf (A m c) (B m c))) (SQUARES (V2 m c) (addf (A m c) (B m c))) := by
  refine (dats m 0 c).arrAt_eq_of_covers 6 _ (by decide +kernel) fun t hf y => ?_
  blk_simp
  rw [after0_6]
  idx_vars y
  unfold out0_6
  frame_out
  exact (step_eq m c t _ _).trans (at6 _ t _ _).symm

theorem final7 (c : Dev nD) : (dats m 0 c).arrAt 7 (cfgs 0).N = MEAN (U m c) (addf (A m c) (B m c)) := by
  refine (dats m 0 c).arrAt_eq_of_covers 7 _ (by decide +kernel) fun t hf y => ?_
  blk_simp
  rw [after0_7]
  idx_vars y
  unfold out0_7
  frame_out
  exact (mean_eq m c t _ _).trans (at7 _ t _ _).symm

theorem final8 (c : Dev nD) : (dats m 0 c).arrAt 8 (cfgs 0).N = SQUARES (V2 m c) (addf (A m c) (B m c)) := by
  refine (dats m 0 c).arrAt_eq_of_covers 8 _ (by decide +kernel) fun t hf y => ?_
  blk_simp
  rw [after0_8]
  idx_vars y
  unfold out0_8
  frame_out
  exact (squares_eq m c t _ _).trans (at8 _ t _ _).symm

/-- The kernel's and the reference's gradient, change of the weight and running means are one. -/
theorem algebraic : Cert.algebraic_Kernel19Ideal_Reference19Ideal := by
  pair_intro
  · run_from Cert.Kernel19Ideal.Gen.run_main m g
  · run_from Cert.Reference19Ideal.Value.run m' g'
    · rw [final5]
    · rw [final6]
      unfold STEP MEAN SQUARES ALL
      with_reducible rfl
    · rw [final7]
      unfold MEAN ALL
      with_reducible rfl
    · rw [final8]
      unfold SQUARES ALL
      with_reducible rfl

end Cert.Kernel19Ideal.Adam

end
-- ==== Proof.Pool.MapsBack.lean ====
/- The backward pass of the pooling's maps and of the norm after them: what the arrays hold at the end is the reference's. -/
module

public import proofs.«01_k».proof.Proof.Mlp.Down
public import proofs.«01_k».proof.Defs
public import proofs.«01_k».proof.Proof.Gen.Kernel20Ideal.Frame
public import proofs.«01_k».proof.Proof.Gen.Reference20Ideal.Run
public import Idealize.ShloMosaic.Lib.Pipeline.ReadBack
public import Idealize.ShloMosaic.Lib.Pipeline.ValueKit
public import Idealize.ShloMosaic.Lib.Claim

@[expose] public section

set_option maxRecDepth 16384

noncomputable section

namespace Cert.Kernel20Ideal.MapsBack

open Idealize.ShloMosaic Idealize.ShloMosaic.TcCoe Idealize.SL.Sem
open Idealize.ShloMosaic.Pipeline (Dat)
open Cert.Kernel20Ideal Cert.Kernel20Ideal.Gen

open Cert.Norm (row root)
open Cert.Kernel2Ideal.Down (DZ DG DXH ROOT MEAN)

/-- The gradient of the maps' output: the norm's by its rows, times the scale. -/
def DM (d z : FVec Ideal Cert.Reference20Ideal.S4096x1024 .f32) (g s : FVec Ideal Cert.Reference20Ideal.S1024 .f32) : FVec Ideal Cert.Reference20Ideal.S4096x1024 .f32 :=
  mulf (DZ d z g) (broadcastInDim Cert.Reference20Ideal.S4096x1024 ![0, 1] Cert.Reference20Ideal.Gen.bcast_S1x1024_S4096x1024_0_1 (broadcastInDim Cert.Reference20Ideal.S1x1024 ![1] Cert.Reference20Ideal.Gen.bcast_S1024_S1x1024_1 s))

/-- An array's columns by groups, and with the tokens last. -/
def GROUPS (x : FVec Ideal Cert.Reference20Ideal.S4096x1024 .f32) : FVec Ideal Cert.Reference20Ideal.S4096x4x256 .f32 :=
  shapeCast _ x Cert.Reference20Ideal.Gen.shapeCasts_S4096x1024_S4096x4x256

def COLUMNS (x : FVec Ideal Cert.Reference20Ideal.S4096x1024 .f32) : FVec Ideal Cert.Reference20Ideal.S4x256x4096 .f32 :=
  transpose Cert.Reference20Ideal.S4x256x4096 [1, 2, 0] (GROUPS x) Cert.Reference20Ideal.Gen.transposes_S4096x4x256_S4x256x4096_1_2_0

/-- The maps of the rows, -/
def MAPS (y : FVec Ideal Cert.Reference20Ideal.S4096x1024 .f32) (w : FVec Ideal Cert.Reference20Ideal.S4x256x256 .f32) : FVec Ideal Cert.Reference20Ideal.S4096x1024 .f32 :=
  shapeCast _ (transpose Cert.Reference20Ideal.S4096x4x256 [2, 0, 1] (Host.dotGeneral Cert.Reference20Ideal.dot_S4x256x256_S4096x4x256_S4x256x4096_1_2_2_0_0_1 none w (GROUPS y))
    Cert.Reference20Ideal.Gen.transposes_S4x256x4096_S4096x4x256_2_0_1) Cert.Reference20Ideal.Gen.shapeCasts_S4096x4x256_S4096x1024

/-- and their gradient by the rows, -/
def ROWS (x : FVec Ideal Cert.Reference20Ideal.S4096x1024 .f32) (w : FVec Ideal Cert.Reference20Ideal.S4x256x256 .f32) : FVec Ideal Cert.Reference20Ideal.S4096x1024 .f32 :=
  shapeCast _ (transpose Cert.Reference20Ideal.S4096x4x256 [1, 0, 2] (Host.dotGeneral Cert.Reference20Ideal.dot_S4x256x4096_S4x256x256_S4x4096x256_1_2_2_1_0_0 none (COLUMNS x) w)
    Cert.Reference20Ideal.Gen.transposes_S4x4096x256_S4096x4x256_1_0_2) Cert.Reference20Ideal.Gen.shapeCasts_S4096x4x256_S4096x1024

/-- by the maps, -/
def WEIGHTS (x y : FVec Ideal Cert.Reference20Ideal.S4096x1024 .f32) : FVec Ideal Cert.Reference20Ideal.S4x4x64x256 .bf16 :=
  truncf .bf16 (transpose Cert.Reference20Ideal.S4x4x64x256 [1, 0, 2, 3] (shapeCast _ (transpose Cert.Reference20Ideal.S4x256x256 [0, 2, 1] (Host.dotGeneral Cert.Reference20Ideal.dot_S4x256x4096_S4096x4x256_S4x256x256_2_0_1_2_0_1 none (COLUMNS x) (GROUPS y))
    Cert.Reference20Ideal.Gen.transposes_S4x256x256_S4x256x256_0_2_1) Cert.Reference20Ideal.Gen.shapeCasts_S4x256x256_S4x4x64x256) Cert.Reference20Ideal.Gen.transposes_S4x4x64x256_S4x4x64x256_1_0_2_3) Cert.Reference20Ideal.Gen.bitsLt_bf16_f32

/-- and by the scale. -/
def SCALES (x y : FVec Ideal Cert.Reference20Ideal.S4096x1024 .f32) : FVec Ideal Cert.Reference20Ideal.S1x1024 .f32 :=
  shapeCast _ (Host.reduceAdd (shapeCast _ (Host.reduceAdd (mulf y x) (constant Cert.Reference20Ideal.S_ .f32 0x00000000#32) Cert.Reference20Ideal.Gen.reducesTo_S4096x1024_S1024_d0 Cert.Reference20Ideal.Gen.h_S_) Cert.Reference20Ideal.Gen.shapeCasts_S1024_S1x1024)
    (constant Cert.Reference20Ideal.S_ .f32 0x00000000#32) Cert.Reference20Ideal.Gen.reducesTo_S1x1024_S1024_d0 Cert.Reference20Ideal.Gen.h_S_) Cert.Reference20Ideal.Gen.shapeCasts_S1024_S1x1024

/-- A group's column among the columns, and a chip's row among a map's rows. -/
def col (s : Fin 4) (j : Fin 256) : Fin 1024 := ⟨s.val * 256 + j.val, by omega⟩
def line (p : Fin 4) (r : Fin 64) : Fin 256 := ⟨p.val * 64 + r.val, by omega⟩

theorem DM_apply (d z : FVec Ideal Cert.Reference20Ideal.S4096x1024 .f32) (g s : FVec Ideal Cert.Reference20Ideal.S1024 .f32) (a : Fin 4096) (b : Fin 1024) :
    DM d z g s (ix2 a b) = DZ d z g (ix2 a b) * s (ix1 b) := by
  pointwise [DM]

theorem GROUPS_apply (x : FVec Ideal Cert.Reference20Ideal.S4096x1024 .f32) (a : Fin 4096) (s : Fin 4) (j : Fin 256) :
    GROUPS x (ix3 a s j) = x (ix2 a (col s j)) := by
  pointwise [GROUPS, col]

theorem MAPS_apply (y : FVec Ideal Cert.Reference20Ideal.S4096x1024 .f32) (w : FVec Ideal Cert.Reference20Ideal.S4x256x256 .f32) (a : Fin 4096) (s : Fin 4) (j : Fin 256) :
    MAPS y w (ix2 a (col s j)) = ∑ k : Fin 256, w (ix3 s k j) * y (ix2 a (col s k)) := by
  pointwise [MAPS, GROUPS, col]

theorem ROWS_apply (x : FVec Ideal Cert.Reference20Ideal.S4096x1024 .f32) (w : FVec Ideal Cert.Reference20Ideal.S4x256x256 .f32) (a : Fin 4096) (s : Fin 4) (j : Fin 256) :
    ROWS x w (ix2 a (col s j)) = ∑ k : Fin 256, x (ix2 a (col s k)) * w (ix3 s j k) := by
  pointwise [ROWS, COLUMNS, GROUPS, col]

theorem WEIGHTS_apply (x y : FVec Ideal Cert.Reference20Ideal.S4096x1024 .f32) (p s : Fin 4) (r : Fin 64) (j : Fin 256) :
    WEIGHTS x y (ix4 p s r j) = ∑ t : Fin 4096, x (ix2 t (col s j)) * y (ix2 t (col s (line p r))) := by
  pointwise [WEIGHTS, COLUMNS, GROUPS, col, line]

theorem SCALES_apply (x y : FVec Ideal Cert.Reference20Ideal.S4096x1024 .f32) (a : Fin 1) (b : Fin 1024) :
    SCALES x y (ix2 a b) = ∑ t : Fin 4096, y (ix2 t b) * x (ix2 t b) := by
  pointwise [SCALES]
  simp only [Finset.univ_unique, Finset.sum_singleton]

/-! A point's values. -/

theorem dz_apply (d z : Vec Ideal S512x1024 .f32) (g : Vec Ideal S1x1024 .f32) (a : Fin 512) (b : Fin 1024) :
    k0_pay6 d z g (ix2 a b) = row (fun k : Fin 1024 => z (ix2 a k)) (fun k => d (ix2 a k) * g (ix2 0 k)) b := by
  pointwise [k0_pay6, k0_pay5, k0_pay4]
  rfl

theorem dg_apply (d z : Vec Ideal S512x1024 .f32) (a : Fin 1) (b : Fin 1024) :
    k0_pay7 d z (ix2 a b) = ∑ t : Fin 512, d (ix2 t b) * (z (ix2 t b) * root (fun k : Fin 1024 => z (ix2 t k))) := by
  pointwise [k0_pay7, k0_pay5, k0_pay4]
  rfl

theorem dm_apply (d z : Vec Ideal S512x1024 .f32) (g s : Vec Ideal S1x1024 .f32) (a : Fin 512) (b : Fin 1024) :
    k0_pay8 d z g s (ix2 a b) = k0_pay6 d z g (ix2 a b) * s (ix2 0 b) := by
  pointwise [k0_pay8]

/-! The point's text is the same for each of the four groups: a group's columns, its map, and the products of the two. -/

theorem slices : ∀ s : Fin 4, S512x1024.Slices ![0, s.val * 256] S512x256 := by decide

theorem inb_map : ∀ s : Fin 4, ∀ a, (![0, 0, s.val, 0, 0] : Fin 5 → Nat) a + S4x1x1x64x256.size a ≤ S4x1x4x64x256.size a := by decide

theorem inb_slot : ∀ s : Fin 4, ∀ a, (![0, s.val, 0, 0] : Fin 4 → Nat) a + S4x1x64x256.size a ≤ S4x4x64x256.size a := by decide

/-- A group's columns of a tile, -/
def cut (x : FVec Ideal S512x1024 .bf16) (s : Fin 4) : FVec Ideal S512x256 .bf16 := extractStridedSlice S512x256 ![0, s.val * 256] x (slices s)

/-- and its map. -/
def group (w : Vec Ideal S4x1x4x64x256 .bf16) (s : Fin 4) : Vec Ideal S4x1x1x64x256 .bf16 :=
  View.ld w (Rect.unit (s := S4x1x4x64x256) ![0, 0, s.val, 0, 0] S4x1x1x64x256.size (inb_map s))

/-- A group of the sum kept from point to point. -/
def slot (u : Vec Ideal S4x4x64x256 .f32) (s : Fin 4) : Vec Ideal S4x1x64x256 .f32 :=
  View.ld u (Rect.unit (s := S4x4x64x256) ![0, s.val, 0, 0] S4x1x64x256.size (inb_slot s))

/-- The map of a tile's rows, -/
def mapped (y : FVec Ideal S512x1024 .bf16) (w : Vec Ideal S4x1x4x64x256 .bf16) (s : Fin 4) : FVec Ideal S512x256 .f32 :=
  matmul dot_S512x256_S256x256_S512x256_1_0_0_1_n_n none (cut y s) (k0_pay19 (group w s)) (constant S512x256 .f32 0x00000000#32)

/-- their gradient, -/
def rows (x : FVec Ideal S512x1024 .bf16) (w : Vec Ideal S4x1x4x64x256 .bf16) (s : Fin 4) : FVec Ideal S512x256 .f32 :=
  matmul dot_S512x256_S256x256_S512x256_1_1_0_0_n_n none (cut x s) (k0_pay19 (group w s)) (constant S512x256 .f32 0x00000000#32)

/-- and the map's. -/
def weights (x y : FVec Ideal S512x1024 .bf16) (s : Fin 4) : FVec Ideal S4x64x256 .f32 :=
  shapeCast S4x64x256 (matmul dot_S512x256_S512x256_S256x256_0_0_1_1_n_n none (cut y s) (cut x s) (constant S256x256 .f32 0x00000000#32)) shapeCasts_S256x256_S4x64x256

def first (x y : FVec Ideal S512x1024 .bf16) (s : Fin 4) : FVec Ideal S4x1x64x256 .f32 :=
  shapeCast S4x1x64x256 (weights x y s) shapeCasts_S4x64x256_S4x1x64x256

def later (x y : FVec Ideal S512x1024 .bf16) (u : Vec Ideal S4x4x64x256 .f32) (s : Fin 4) : FVec Ideal S4x1x64x256 .f32 :=
  shapeCast S4x1x64x256 (addf (shapeCast S4x64x256 (slot u s) shapeCasts_S4x1x64x256_S4x64x256) (weights x y s)) shapeCasts_S4x64x256_S4x1x64x256

/-- Four groups side by side. -/
def side (u : Fin 4 → FVec Ideal S512x256 .f32) : FVec Ideal S512x1024 .f32 :=
  concatenate S512x1024 1 [⟨S512x256, u 0⟩, ⟨S512x256, u 1⟩, ⟨S512x256, u 2⟩, ⟨S512x256, u 3⟩] concatenates_S512x256_S512x256_S512x256_S512x256_S512x1024_d1

theorem cut_apply (x : FVec Ideal S512x1024 .bf16) (s : Fin 4) (a : Fin 512) (j : Fin 256) : cut x s (ix2 a j) = x (ix2 a (col s j)) := by
  pointwise [cut, col]

theorem group_apply (w : Vec Ideal S4x1x4x64x256 .bf16) (s : Fin 4) (p : Fin 4) (r : Fin 64) (j : Fin 256) :
    k0_pay19 (group w s) (ix2 (line p r) j) = w (ix5 p 0 s r j) := by
  pointwise [k0_pay19, line]
  exact View.ld_unit_apply_of w _ _ _ _ _ (by intro a; fin_cases a <;> simp)

theorem slot_apply (u : Vec Ideal S4x4x64x256 .f32) (s : Fin 4) (p : Fin 4) (r : Fin 64) (j : Fin 256) : slot u s (ix4 p 0 r j) = u (ix4 p s r j) :=
  View.ld_unit_apply_of u _ _ _ _ _ (by intro a; fin_cases a <;> simp)

theorem mapped_apply (y : FVec Ideal S512x1024 .bf16) (w : Vec Ideal S4x1x4x64x256 .bf16) (s : Fin 4) (a : Fin 512) (j : Fin 256) :
    mapped y w s (ix2 a j) = ∑ k : Fin 256, y (ix2 a (col s k)) * k0_pay19 (group w s) (ix2 k j) := by
  pointwise [mapped]
  simp only [cut_apply]

theorem rows_apply (x : FVec Ideal S512x1024 .bf16) (w : Vec Ideal S4x1x4x64x256 .bf16) (s : Fin 4) (a : Fin 512) (j : Fin 256) :
    rows x w s (ix2 a j) = ∑ k : Fin 256, x (ix2 a (col s k)) * k0_pay19 (group w s) (ix2 j k) := by
  pointwise [rows]
  simp only [cut_apply]

theorem first_apply (x y : FVec Ideal S512x1024 .bf16) (s : Fin 4) (p : Fin 4) (r : Fin 64) (j : Fin 256) :
    first x y s (ix4 p 0 r j) = ∑ t : Fin 512, y (ix2 t (col s (line p r))) * x (ix2 t (col s j)) := by
  pointwise [first, weights, line]
  simp only [cut_apply]

theorem later_apply (x y : FVec Ideal S512x1024 .bf16) (u : Vec Ideal S4x4x64x256 .f32) (s : Fin 4) (p : Fin 4) (r : Fin 64) (j : Fin 256) :
    later x y u s (ix4 p 0 r j) = u (ix4 p s r j) + first x y s (ix4 p 0 r j) := by
  rw [← slot_apply u]
  pointwise [later, first]

theorem side_apply (u : Fin 4 → FVec Ideal S512x256 .f32) (a : Fin 512) (s : Fin 4) (j : Fin 256) : side u (ix2 a (col s j)) = u s (ix2 a j) := by
  obtain rfl | rfl | rfl | rfl : s = 0 ∨ s = 1 ∨ s = 2 ∨ s = 3 := by omega
  all_goals
    pointwise [side, col]
    first
    | done
    | (rw [dif_neg (by omega), dif_neg (by omega)]
       split_ifs <;> first | omega | exact congrArg (fun i => u _ (ix2 a i)) (Fin.ext (by simp only; omega)))

/-- Every column is a group's, and every row of a map a chip's. -/
theorem exists_col (b : Fin 1024) : ∃ s j, b = col s j :=
  ⟨⟨b.val / 256, by omega⟩, ⟨b.val % 256, by omega⟩, Fin.ext (by simp only [col]; omega)⟩

theorem exists_line (k : Fin 256) : ∃ p r, k = line p r :=
  ⟨⟨k.val / 64, by omega⟩, ⟨k.val % 64, by omega⟩, Fin.ext (by simp only [line]; omega)⟩

/-- A tile's part of the scale's gradient. -/
def scales (z : FVec Ideal S512x1024 .f32) (u : FVec Ideal S512x1024 .f32) : FVec Ideal S1x1024 .f32 :=
  shapeCast S1x1024 (multiReduction .add [0] S1024 (mulf z u) 0x00000000#32 reduces_S512x1024_S1024 (.inl rfl) rfl) shapeCasts_S1024_S1x1024

theorem scales_apply (z u : FVec Ideal S512x1024 .f32) (a : Fin 1) (b : Fin 1024) : scales z u (ix2 a b) = ∑ t : Fin 512, z (ix2 t b) * u (ix2 t b) := by
  pointwise [scales]

theorem add1_apply (x : FVec Ideal S1x1024 .f32) (u : Vec Ideal S1x1024 .f32) (a : Fin 1) (b : Fin 1024) : k0_pay1 x u (ix2 a b) = u (ix2 a b) + x (ix2 a b) := by
  pointwise [k0_pay1]

theorem add2_apply (x : FVec Ideal S1x1024 .f32) (u : Vec Ideal S1x1024 .f32) (a : Fin 1) (b : Fin 1024) : k0_pay2 x u (ix2 a b) = u (ix2 a b) + x (ix2 a b) := by
  pointwise [k0_pay2]

/-- A piece of the sum is the group's at which it lies. -/
theorem pick (f : Fin 4 → FVec Ideal S4x1x64x256 .f32) (k : Fin 4) {p s p' : Fin 4} {x : Fin 1} {r r' : Fin 64} {j j' : Fin 256} (h0 : p.val = p'.val)
    (h1 : s.val = k.val + x.val) (h2 : r.val = r'.val) (h3 : j.val = j'.val) : f k (ix4 p' x r' j') = f s (ix4 p 0 r j) := by
  obtain rfl := Fin.ext h0
  obtain rfl := Fin.ext h2
  obtain rfl := Fin.ext h3
  obtain rfl : x = 0 := Subsingleton.elim _ _
  obtain rfl : s = k := Fin.ext (by simpa using h1)
  rfl

variable (m : (ℓ : Loc nD τ sig) → Buf (Elt Ideal) ℓ)

/-- Where each window's block sits at each grid point. -/
theorem idx : ∀ t : Fin cfg0.N, win0_0.index t = ![t.val, 0] ∧ win0_1.index t = ![t.val, 0] ∧ win0_2.index t = ![t.val, 0]
    ∧ win0_3.index t = ![0, 0, 0, 0, 0] ∧ win0_4.index t = ![0, 0] ∧ win0_5.index t = ![0, 0] ∧ win0_6.index t = ![t.val, 0]
    ∧ win0_7.index t = ![0, 0, 0, 0] ∧ win0_8.index t = ![0, 0] ∧ win0_9.index t = ![0, 0] :=
  (by decide +kernel : ∀ t : Fin grid0.N, _)

theorem lt_N (t : Fin cfg0.N) : t.val < 8 := lt_of_lt_of_eq t.isLt (show cfg0.N = 8 from N_0)

/-- The token a row of a point's token tile is. -/
def tok (t : Fin cfg0.N) (a : Fin 512) : Fin 4096 := ⟨t.val * 512 + a.val, by have := lt_N t; omega⟩

abbrev D (c : Dev nD) : FVec Ideal Cert.Reference20Ideal.S4096x1024 .f32 := m ((c : Thread nD τ).loc main_arg0)
abbrev Z (c : Dev nD) : FVec Ideal Cert.Reference20Ideal.S4096x1024 .f32 := m ((c : Thread nD τ).loc main_arg1)
abbrev Y (c : Dev nD) : FVec Ideal Cert.Reference20Ideal.S4096x1024 .f32 := m ((c : Thread nD τ).loc main_arg2)
abbrev W (c : Dev nD) : FVec Ideal Cert.Reference20Ideal.S4x256x256 .f32 := m ((c : Thread nD τ).loc main_arg3)
abbrev S (c : Dev nD) : FVec Ideal Cert.Reference20Ideal.S1024 .f32 := m ((c : Thread nD τ).loc main_arg4)
abbrev G (c : Dev nD) : FVec Ideal Cert.Reference20Ideal.S1024 .f32 := m ((c : Thread nD τ).loc main_arg5)

theorem blk0 (c : Dev nD) (t : Fin cfg0.N) (a : Fin 512) (b : Fin 1024) : iblk m c 0 t (ix2 a b) = D m c (ix2 (tok t a) b) := by
  blk_point [iblk, idx t, tok]

theorem blk1 (c : Dev nD) (t : Fin cfg0.N) (a : Fin 512) (b : Fin 1024) : iblk m c 1 t (ix2 a b) = Z m c (ix2 (tok t a) b) := by
  blk_point [iblk, idx t, tok]

theorem blk2 (c : Dev nD) (t : Fin cfg0.N) (a : Fin 512) (b : Fin 1024) : iblk m c 2 t (ix2 a b) = Y m c (ix2 (tok t a) b) := by
  blk_point [iblk, idx t, tok]

theorem blk3 (c : Dev nD) (t : Fin cfg0.N) (p s : Fin 4) (r : Fin 64) (j : Fin 256) : iblk m c 3 t (ix5 p 0 s r j) = W m c (ix3 s (line p r) j) := by
  blk_point [iblk, idx t, line]

theorem blk4 (c : Dev nD) (t : Fin cfg0.N) (b : Fin 1024) : iblk m c 4 t (ix2 0 b) = S m c (ix1 b) := by
  blk_point [iblk, idx t]

theorem blk5 (c : Dev nD) (t : Fin cfg0.N) (b : Fin 1024) : iblk m c 5 t (ix2 0 b) = G m c (ix1 b) := by
  blk_point [iblk, idx t]

theorem at6 (X : FVec Ideal S4096x1024 .f32) (t : Fin cfg0.N) (a : Fin 512) (b : Fin 1024) : X (((cfg0.win 6).blk t).view.emb (ix2 a b)) = X (ix2 (tok t a) b) := by
  blk_point [idx t, tok]

theorem at7 (X : FVec Ideal S4x4x64x256 .bf16) (t : Fin cfg0.N) (p s : Fin 4) (r : Fin 64) (j : Fin 256) : X (((cfg0.win 7).blk t).view.emb (ix4 p s r j)) = X (ix4 p s r j) := by
  blk_point [idx t]

theorem at8 (X : FVec Ideal S1x1024 .f32) (t : Fin cfg0.N) (a : Fin 1) (b : Fin 1024) : X (((cfg0.win 8).blk t).view.emb (ix2 a b)) = X (ix2 a b) := by
  blk_point [idx t]

theorem at9 (X : FVec Ideal S1x1024 .f32) (t : Fin cfg0.N) (a : Fin 1) (b : Fin 1024) : X (((cfg0.win 9).blk t).view.emb (ix2 a b)) = X (ix2 a b) := by
  blk_point [idx t]

/-- What a point forms of its tiles: the norm's gradient by the rows, that times the scale, and the maps' input. -/
abbrev dz (c : Dev nD) (t : Fin cfg0.N) : FVec Ideal S512x1024 .f32 := k0_pay6 (F := Ideal) (iblk m c 0 t) (iblk m c 1 t) (iblk m c 5 t)
abbrev dm (c : Dev nD) (t : Fin cfg0.N) : FVec Ideal S512x1024 .bf16 := k0_pay8 (F := Ideal) (iblk m c 0 t) (iblk m c 1 t) (iblk m c 5 t) (iblk m c 4 t)
abbrev inp (c : Dev nD) (t : Fin cfg0.N) : FVec Ideal S512x1024 .bf16 := k0_pay9 (F := Ideal) (iblk m c 2 t)

theorem dz_eq (c : Dev nD) (t : Fin cfg0.N) (a : Fin 512) (b : Fin 1024) : dz m c t (ix2 a b) = DZ (D m c) (Z m c) (G m c) (ix2 (tok t a) b) := by
  unfold dz
  rw [dz_apply, Cert.Kernel2Ideal.Down.DZ_apply]
  simp only [blk0, blk1, blk5]

theorem dm_eq (c : Dev nD) (t : Fin cfg0.N) (a : Fin 512) (b : Fin 1024) : dm m c t (ix2 a b) = DM (D m c) (Z m c) (G m c) (S m c) (ix2 (tok t a) b) := by
  unfold dm
  rw [dm_apply, DM_apply, blk4]
  exact congrArg (· * _) (dz_eq m c t a b)

theorem inp_eq (c : Dev nD) (t : Fin cfg0.N) (a : Fin 512) (b : Fin 1024) : inp m c t (ix2 a b) = Y m c (ix2 (tok t a) b) := by
  rw [← blk2]
  pointwise [inp, k0_pay9]

theorem group_eq (c : Dev nD) (t : Fin cfg0.N) (s : Fin 4) (k j : Fin 256) : k0_pay19 (F := Ideal) (group (iblk m c 3 t) s) (ix2 k j) = W m c (ix3 s k j) := by
  obtain ⟨p, r, rfl⟩ := exists_line k
  exact (group_apply _ s p r j).trans (blk3 m c t p s r j)

theorem mapped_eq (c : Dev nD) (t : Fin cfg0.N) (s : Fin 4) (a : Fin 512) (j : Fin 256) :
    mapped (inp m c t) (iblk m c 3 t) s (ix2 a j) = MAPS (Y m c) (W m c) (ix2 (tok t a) (col s j)) := by
  rw [mapped_apply, MAPS_apply]
  exact Finset.sum_congr rfl fun k _ => by rw [group_eq, inp_eq, mul_comm]

theorem rows_eq (c : Dev nD) (t : Fin cfg0.N) (s : Fin 4) (a : Fin 512) (j : Fin 256) :
    rows (dm m c t) (iblk m c 3 t) s (ix2 a j) = ROWS (DM (D m c) (Z m c) (G m c) (S m c)) (W m c) (ix2 (tok t a) (col s j)) := by
  rw [rows_apply, ROWS_apply]
  exact Finset.sum_congr rfl fun k _ => by rw [group_eq, dm_eq]

/-! What a point leaves. -/

theorem rows_point (c : Dev nD) (t : Fin cfg0.N) : (outsAt0 m c t.val t.isLt).1 = side (rows (dm m c t) (iblk m c 3 t)) := by
  have := lt_N t
  funext y
  by_cases h : t.val = 0
  · rw [outsAt0_A m c t (by omega) (by omega) (by omega) (by omega) (by omega) (by omega) (by omega) (by omega) (by omega) (by omega) (by omega)]
    frame_out
    rfl
  · by_cases h' : t.val = 7
    · rw [outsAt0_C m c t (by omega) (by omega) (by omega) (by omega) (by omega) (by omega) (by omega) (by omega) (by omega) (by omega) (by omega)]
      frame_out
      rfl
    · rw [outsAt0_B m c t (by omega) (by omega) (by omega) (by omega) (by omega) (by omega) (by omega) (by omega) (by omega) (by omega) (by omega)]
      frame_out
      rfl

abbrev prev (c : Dev nD) (t : Fin cfg0.N) := outsAt0 m c (t.val - 1) (Nat.lt_of_le_of_lt (Nat.sub_le _ _) t.isLt)

theorem scale_first (c : Dev nD) (t : Fin cfg0.N) (h : t.val = 0) :
    (outsAt0 m c t.val t.isLt).2.2.1 = scales (dz m c t) (side (mapped (inp m c t) (iblk m c 3 t))) := by
  funext y
  rw [outsAt0_A m c t (by omega) (by omega) (by omega) (by omega) (by omega) (by omega) (by omega) (by omega) (by omega) (by omega) (by omega)]
  frame_out
  rfl

theorem scale_step (c : Dev nD) (t : Fin cfg0.N) (h : 1 ≤ t.val) :
    (outsAt0 m c t.val t.isLt).2.2.1 = k0_pay1 (scales (dz m c t) (side (mapped (inp m c t) (iblk m c 3 t)))) (prev m c t).2.2.1 := by
  have := lt_N t
  funext y
  unfold prev
  by_cases h' : t.val = 7
  · rw [outsAt0_C m c t (by omega) (by omega) (by omega) (by omega) (by omega) (by omega) (by omega) (by omega) (by omega) (by omega) (by omega)]
    frame_out
    rfl
  · rw [outsAt0_B m c t (by omega) (by omega) (by omega) (by omega) (by omega) (by omega) (by omega) (by omega) (by omega) (by omega) (by omega)]
    frame_out
    rfl

theorem gain_first (c : Dev nD) (t : Fin cfg0.N) (h : t.val = 0) : (outsAt0 m c t.val t.isLt).2.2.2.1 = k0_pay7 (F := Ideal) (iblk m c 0 t) (iblk m c 1 t) := by
  funext y
  rw [outsAt0_A m c t (by omega) (by omega) (by omega) (by omega) (by omega) (by omega) (by omega) (by omega) (by omega) (by omega) (by omega)]
  frame_out

theorem gain_step (c : Dev nD) (t : Fin cfg0.N) (h : 1 ≤ t.val) :
    (outsAt0 m c t.val t.isLt).2.2.2.1 = k0_pay2 (k0_pay7 (F := Ideal) (iblk m c 0 t) (iblk m c 1 t)) (prev m c t).2.2.2.1 := by
  have := lt_N t
  funext y
  unfold prev
  by_cases h' : t.val = 7
  · rw [outsAt0_C m c t (by omega) (by omega) (by omega) (by omega) (by omega) (by omega) (by omega) (by omega) (by omega) (by omega) (by omega)]
    frame_out
  · rw [outsAt0_B m c t (by omega) (by omega) (by omega) (by omega) (by omega) (by omega) (by omega) (by omega) (by omega) (by omega) (by omega)]
    frame_out

theorem sum_first (c : Dev nD) (t : Fin cfg0.N) (h : t.val = 0) (p s : Fin 4) (r : Fin 64) (j : Fin 256) :
    (outsAt0 m c t.val t.isLt).2.2.2.2 (ix4 p s r j) = first (dm m c t) (inp m c t) s (ix4 p 0 r j) := by
  rw [outsAt0_A m c t (by omega) (by omega) (by omega) (by omega) (by omega) (by omega) (by omega) (by omega) (by omega) (by omega) (by omega)]
  frame_out
  canon_tiles x h
  · idx_vars x
    exact pick (first (dm m c t) (inp m c t)) 3 h0 h1 h2 h3
  · idx_vars x
    exact pick (first (dm m c t) (inp m c t)) 2 h0 h1 h2 h3
  · idx_vars x
    exact pick (first (dm m c t) (inp m c t)) 1 h0 h1 h2 h3
  · idx_vars x
    exact pick (first (dm m c t) (inp m c t)) 0 h0 (h1.trans (Nat.zero_add _).symm) h2 h3

theorem sum_step (c : Dev nD) (t : Fin cfg0.N) (h : 1 ≤ t.val) (p s : Fin 4) (r : Fin 64) (j : Fin 256) :
    (outsAt0 m c t.val t.isLt).2.2.2.2 (ix4 p s r j) = later (dm m c t) (inp m c t) (prev m c t).2.2.2.2 s (ix4 p 0 r j) := by
  have := lt_N t
  unfold prev
  by_cases h' : t.val = 7
  · rw [outsAt0_C m c t (by omega) (by omega) (by omega) (by omega) (by omega) (by omega) (by omega) (by omega) (by omega) (by omega) (by omega)]
    frame_out
    simp only [read_unread_whole]
    canon_tiles x h
    · idx_vars x
      exact pick (later (dm m c t) (inp m c t) _) 3 h0 h1 h2 h3
    · idx_vars x
      exact pick (later (dm m c t) (inp m c t) _) 2 h0 h1 h2 h3
    · idx_vars x
      exact pick (later (dm m c t) (inp m c t) _) 1 h0 h1 h2 h3
    · idx_vars x
      exact pick (later (dm m c t) (inp m c t) _) 0 h0 (h1.trans (Nat.zero_add _).symm) h2 h3
  · rw [outsAt0_B m c t (by omega) (by omega) (by omega) (by omega) (by omega) (by omega) (by omega) (by omega) (by omega) (by omega) (by omega)]
    frame_out
    simp only [read_unread_whole]
    canon_tiles x h
    · idx_vars x
      exact pick (later (dm m c t) (inp m c t) _) 3 h0 h1 h2 h3
    · idx_vars x
      exact pick (later (dm m c t) (inp m c t) _) 2 h0 h1 h2 h3
    · idx_vars x
      exact pick (later (dm m c t) (inp m c t) _) 1 h0 h1 h2 h3
    · idx_vars x
      exact pick (later (dm m c t) (inp m c t) _) 0 h0 (h1.trans (Nat.zero_add _).symm) h2 h3

theorem whole_idx (p s : Fin 4) (r : Fin 64) (j : Fin 256) :
    (Rect.unit (s := S4x4x64x256) ![0, 0, 0, 0] S4x4x64x256.size inb_S4x4x64x256_S4x4x64x256_0_0_0_0).idx (ix4 p s r j) = ix4 p s r j := by
  funext a
  refine Fin.ext ?_
  fin_cases a <;> simp

/-- The last point puts out the sum it has kept. -/
theorem sum_last (c : Dev nD) (t : Fin cfg0.N) (h : t.val = 7) (p s : Fin 4) (r : Fin 64) (j : Fin 256) :
    (outsAt0 m c t.val t.isLt).2.1 (ix4 p s r j) = (outsAt0 m c t.val t.isLt).2.2.2.2 (ix4 p s r j) := by
  rw [sum_step m c t (by omega)]
  unfold prev
  rw [outsAt0_C m c t (by omega) (by omega) (by omega) (by omega) (by omega) (by omega) (by omega) (by omega) (by omega) (by omega) (by omega)]
  frame_out
  pointwise [k0_pay3]
  rw [View.readCov_eq_canon']
  simp only [read_unread_whole]
  rw [whole_idx]
  canon_tiles x h
  · idx_vars x
    exact pick (later (dm m c t) (inp m c t) _) 3 h0 h1 h2 h3
  · idx_vars x
    exact pick (later (dm m c t) (inp m c t) _) 2 h0 h1 h2 h3
  · idx_vars x
    exact pick (later (dm m c t) (inp m c t) _) 1 h0 h1 h2 h3
  · idx_vars x
    exact pick (later (dm m c t) (inp m c t) _) 0 h0 (h1.trans (Nat.zero_add _).symm) h2 h3

/-- A value started at the first point and added to at each later one is at the last the sum over all tokens. -/
theorem collect (u : (n : ℕ) → n < cfg0.N → EReal) (f : Fin 4096 → EReal) (first : ∀ t : Fin cfg0.N, t.val = 0 → u t.val t.isLt = ∑ a : Fin 512, f (tok t a))
    (step : ∀ t : Fin cfg0.N, 1 ≤ t.val → u t.val t.isLt = u (t.val - 1) (Nat.lt_of_le_of_lt (Nat.sub_le _ _) t.isLt) + ∑ a : Fin 512, f (tok t a))
    (t : Fin cfg0.N) (h : t.val = 7) : u t.val t.isLt = ∑ k : Fin 4096, f k := by
  have e : cfg0.N = 8 := N_0
  have part : ∀ (i : ℕ) (h : i < cfg0.N), u i h = ∑ s : Fin (i + 1), ∑ a : Fin 512, f ⟨s.val * 512 + a.val, by omega⟩ := by
    intro i h
    induction i with
    | zero =>
      rw [first ⟨0, h⟩ rfl, Fin.sum_univ_one]
      rfl
    | succ i ih =>
      rw [step ⟨i + 1, h⟩ (by simp only; omega), Fin.sum_univ_castSucc (n := i + 1)]
      rw [show u ((⟨i + 1, h⟩ : Fin cfg0.N).val - 1) _ = u i (by omega) from rfl, ih (by omega)]
      rfl
  obtain ⟨i, hi⟩ := t
  obtain rfl : i = 7 := h
  rw [part]
  exact Fin.sum_mul_add_congr fun s k h => rfl

theorem scale_part (c : Dev nD) (t : Fin cfg0.N) (a : Fin 1) (b : Fin 1024) :
    scales (dz m c t) (side (mapped (inp m c t) (iblk m c 3 t))) (ix2 a b)
      = ∑ k : Fin 512, MAPS (Y m c) (W m c) (ix2 (tok t k) b) * DZ (D m c) (Z m c) (G m c) (ix2 (tok t k) b) := by
  rw [scales_apply]
  refine Finset.sum_congr rfl fun k _ => ?_
  rw [dz_eq, mul_comm]
  obtain ⟨s, j, rfl⟩ := exists_col b
  rw [side_apply, mapped_eq]

theorem gain_part (c : Dev nD) (t : Fin cfg0.N) (a : Fin 1) (b : Fin 1024) :
    k0_pay7 (F := Ideal) (iblk m c 0 t) (iblk m c 1 t) (ix2 a b)
      = ∑ k : Fin 512, Z m c (ix2 (tok t k) b) * root (fun j : Fin 1024 => Z m c (ix2 (tok t k) j)) * D m c (ix2 (tok t k) b) := by
  rw [dg_apply]
  simp only [blk0, blk1]
  exact Finset.sum_congr rfl fun k _ => mul_comm _ _

theorem sum_part (c : Dev nD) (t : Fin cfg0.N) (p s : Fin 4) (r : Fin 64) (j : Fin 256) :
    first (dm m c t) (inp m c t) s (ix4 p 0 r j)
      = ∑ k : Fin 512, DM (D m c) (Z m c) (G m c) (S m c) (ix2 (tok t k) (col s j)) * Y m c (ix2 (tok t k) (col s (line p r))) := by
  rw [first_apply]
  exact Finset.sum_congr rfl fun k _ => by rw [dm_eq, inp_eq, mul_comm]

theorem scale_eq (c : Dev nD) (t : Fin cfg0.N) (h : t.val = 7) (a : Fin 1) (b : Fin 1024) :
    (outsAt0 m c t.val t.isLt).2.2.1 (ix2 a b) = SCALES (DZ (D m c) (Z m c) (G m c)) (MAPS (Y m c) (W m c)) (ix2 a b) := by
  rw [SCALES_apply]
  exact collect (fun n h => (outsAt0 m c n h).2.2.1 (ix2 a b)) _ (fun t h => (congrFun (scale_first m c t h) _).trans (scale_part m c t a b))
    (fun t h => (congrFun (scale_step m c t h) _).trans ((add1_apply _ _ a b).trans (congrArg (_ + ·) (scale_part m c t a b)))) t h

theorem gain_eq (c : Dev nD) (t : Fin cfg0.N) (h : t.val = 7) (a : Fin 1) (b : Fin 1024) :
    (outsAt0 m c t.val t.isLt).2.2.2.1 (ix2 a b) = DG (D m c) (Z m c) (ix2 a b) := by
  rw [Cert.Kernel2Ideal.Down.DG_apply]
  exact collect (fun n h => (outsAt0 m c n h).2.2.2.1 (ix2 a b)) _ (fun t h => (congrFun (gain_first m c t h) _).trans (gain_part m c t a b))
    (fun t h => (congrFun (gain_step m c t h) _).trans ((add2_apply _ _ a b).trans (congrArg (_ + ·) (gain_part m c t a b)))) t h

theorem sum_eq (c : Dev nD) (t : Fin cfg0.N) (h : t.val = 7) (p s : Fin 4) (r : Fin 64) (j : Fin 256) :
    (outsAt0 m c t.val t.isLt).2.1 (ix4 p s r j) = WEIGHTS (DM (D m c) (Z m c) (G m c) (S m c)) (Y m c) (ix4 p s r j) := by
  rw [sum_last m c t h, WEIGHTS_apply]
  exact collect (fun n h => (outsAt0 m c n h).2.2.2.2 (ix4 p s r j)) _ (fun t h => (sum_first m c t h p s r j).trans (sum_part m c t p s r j))
    (fun t h => (sum_step m c t h p s r j).trans ((later_apply _ _ _ s p r j).trans (congrArg (_ + ·) (sum_part m c t p s r j)))) t h

theorem rows_out (c : Dev nD) (t : Fin cfg0.N) (a : Fin 512) (b : Fin 1024) :
    (outsAt0 m c t.val t.isLt).1 (ix2 a b) = ROWS (DM (D m c) (Z m c) (G m c) (S m c)) (W m c) (ix2 (tok t a) b) := by
  rw [rows_point]
  obtain ⟨s, j, rfl⟩ := exists_col b
  rw [side_apply, rows_eq]

/-! The arrays at the end. -/

theorem final6 (c : Dev nD) : (dats m 0 c).arrAt 6 (cfgs 0).N = ROWS (DM (D m c) (Z m c) (G m c) (S m c)) (W m c) := by
  refine (dats m 0 c).arrAt_eq_of_covers 6 _ (by decide +kernel) fun t hf y => ?_
  blk_simp
  rw [after0_6]
  idx_vars y
  exact (rows_out m c t _ _).trans (at6 _ t _ _).symm

theorem final7 (c : Dev nD) : (dats m 0 c).arrAt 7 (cfgs 0).N = WEIGHTS (DM (D m c) (Z m c) (G m c) (S m c)) (Y m c) := by
  refine (dats m 0 c).arrAt_eq_of_covers 7 _ (by decide +kernel) fun t hf y => ?_
  blk_simp
  rw [after0_7]
  idx_vars y
  exact (sum_eq m c t ((by decide +kernel : ∀ t : Fin grid0.N, win0_7.flush t = true → t.val = 7) t hf) _ _ _ _).trans (at7 _ t _ _ _ _).symm

theorem final8 (c : Dev nD) : (dats m 0 c).arrAt 8 (cfgs 0).N = SCALES (DZ (D m c) (Z m c) (G m c)) (MAPS (Y m c) (W m c)) := by
  refine (dats m 0 c).arrAt_eq_of_covers 8 _ (by decide +kernel) fun t hf y => ?_
  blk_simp
  rw [after0_8]
  idx_vars y
  exact (scale_eq m c t ((by decide +kernel : ∀ t : Fin grid0.N, win0_8.flush t = true → t.val = 7) t hf) _ _).trans (at8 _ t _ _).symm

theorem final9 (c : Dev nD) : (dats m 0 c).arrAt 9 (cfgs 0).N = DG (D m c) (Z m c) := by
  refine (dats m 0 c).arrAt_eq_of_covers 9 _ (by decide +kernel) fun t hf y => ?_
  blk_simp
  rw [after0_9]
  idx_vars y
  exact (gain_eq m c t ((by decide +kernel : ∀ t : Fin grid0.N, win0_9.flush t = true → t.val = 7) t hf) _ _).trans (at9 _ t _ _).symm

/-- The kernel's and the reference's gradients are one. -/
theorem algebraic : Cert.algebraic_Kernel20Ideal_Reference20Ideal := by
  pair_intro
  · run_from Cert.Kernel20Ideal.Gen.run_main m g
  · run_from Cert.Reference20Ideal.Value.run m' g'
    · rw [final6]
      obtain ⟨h0, h1, h2, h3, h4, h5⟩ := hagree c
      unfold Cert.Reference20Ideal.Value.res_main_v55
      simp only [h0, h1, h2, h3, h4, h5]
      unfold ROWS COLUMNS GROUPS DM DZ ROOT DXH MEAN
      rfl
    · rw [final7]
      obtain ⟨h0, h1, h2, h3, h4, h5⟩ := hagree c
      unfold Cert.Reference20Ideal.Value.res_main_v58
      simp only [h0, h1, h2, h3, h4, h5]
      unfold WEIGHTS COLUMNS GROUPS DM DZ ROOT DXH MEAN
      with_reducible rfl
    · rw [final8]
      obtain ⟨h0, h1, h2, h3, h4, h5⟩ := hagree c
      unfold Cert.Reference20Ideal.Value.res_main_v59
      simp only [h0, h1, h2, h3, h4, h5]
      unfold SCALES MAPS GROUPS DZ ROOT DXH MEAN
      rfl
    · rw [final9]
      unfold DG MEAN
      with_reducible rfl

end Cert.Kernel20Ideal.MapsBack

end
-- ==== Proof.lean ====
/- The certificate: the frames, what the ideal programs are, and the value claims, from the modules that prove them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel9Ideal.Value
public import proofs.«01_k».proof.Proof.Gen.Kernel10Ideal.Value
public import proofs.«01_k».proof.Proof.KI.Launch
public import proofs.«01_k».proof.Proof.KB.Launch
public import proofs.«01_k».proof.Proof.Mlp.DownLaunch
public import proofs.«01_k».proof.Proof.Mlp.FwdLaunch
public import proofs.«01_k».proof.Proof.Mlp.FirstLaunch
public import proofs.«01_k».proof.Proof.Proj.KeyValueLaunch
public import proofs.«01_k».proof.Proof.Mlp.Down
public import proofs.«01_k».proof.Proof.Mlp.DownWeight
public import proofs.«01_k».proof.Proof.Mlp.UpWeight
public import proofs.«01_k».proof.Proof.Mlp.Up
public import proofs.«01_k».proof.Proof.Mlp.Fwd
public import proofs.«01_k».proof.Proof.Proj.QueryBack
public import proofs.«01_k».proof.Proof.Proj.KeyValueBack
public import proofs.«01_k».proof.Proof.Proj.SquareWeight
public import proofs.«01_k».proof.Proof.Proj.KeyValueWeight
public import proofs.«01_k».proof.Proof.Proj.Query
public import proofs.«01_k».proof.Proof.Proj.OutBack
public import proofs.«01_k».proof.Proof.Proj.Out
public import proofs.«01_k».proof.Proof.Mlp.First
public import proofs.«01_k».proof.Proof.Proj.KeyValue
public import proofs.«01_k».proof.Proof.Mlp.Second
public import proofs.«01_k».proof.Proof.Rest.KeyValueSum
public import proofs.«01_k».proof.Proof.Rest.Loss
public import proofs.«01_k».proof.Proof.Rest.Adam
public import proofs.«01_k».proof.Proof.Pool.MapsBack
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-! The references run without a fault and keep their arguments. -/

theorem frame_reference : Cert.quiescent_ReferenceIdeal := fun m ρ _ =>
  (θ_run Cert.ReferenceIdeal.defs _ _).mono (fun r h => ⟨fun c => (h c).2.2.2, sem_eq_zero_of_no_sems rfl r.2⟩) (Cert.ReferenceIdeal.Value.run m ρ)

theorem frame_reference2 : Cert.quiescent_Reference2Ideal := fun m ρ _ =>
  (θ_run Cert.Reference2Ideal.defs _ _).mono (fun r h => ⟨fun c => (h c).2.2.2, sem_eq_zero_of_no_sems rfl r.2⟩) (Cert.Reference2Ideal.Value.run m ρ)

theorem frame_reference3 : Cert.quiescent_Reference3Ideal := fun m ρ _ =>
  (θ_run Cert.Reference3Ideal.defs _ _).mono (fun r h => ⟨fun c => (h c).2, sem_eq_zero_of_no_sems rfl r.2⟩) (Cert.Reference3Ideal.Value.run m ρ)

theorem frame_reference4 : Cert.quiescent_Reference4Ideal := fun m ρ _ =>
  (θ_run Cert.Reference4Ideal.defs _ _).mono (fun r h => ⟨fun c => (h c).2, sem_eq_zero_of_no_sems rfl r.2⟩) (Cert.Reference4Ideal.Value.run m ρ)

theorem frame_reference5 : Cert.quiescent_Reference5Ideal := fun m ρ _ =>
  (θ_run Cert.Reference5Ideal.defs _ _).mono (fun r h => ⟨fun c => (h c).2.2, sem_eq_zero_of_no_sems rfl r.2⟩) (Cert.Reference5Ideal.Value.run m ρ)

theorem frame_reference6 : Cert.quiescent_Reference6Ideal := fun m ρ _ =>
  (θ_run Cert.Reference6Ideal.defs _ _).mono (fun r h => ⟨fun c => (h c).2.2.2.2, sem_eq_zero_of_no_sems rfl r.2⟩) (Cert.Reference6Ideal.Value.run m ρ)

theorem frame_reference7 : Cert.quiescent_Reference7Ideal := fun m ρ _ =>
  (θ_run Cert.Reference7Ideal.defs _ _).mono (fun r h => ⟨fun c => (h c).2.2, sem_eq_zero_of_no_sems rfl r.2⟩) (Cert.Reference7Ideal.Value.run m ρ)

theorem frame_reference8 : Cert.quiescent_Reference8Ideal := fun m ρ _ =>
  (θ_run Cert.Reference8Ideal.defs _ _).mono (fun r h => ⟨fun c => (h c).2.2, sem_eq_zero_of_no_sems rfl r.2⟩) (Cert.Reference8Ideal.Value.run m ρ)

theorem frame_reference9 : Cert.quiescent_Reference9Ideal := fun m ρ _ =>
  (θ_run Cert.Reference9Ideal.defs _ _).mono (fun r h => ⟨fun c => (h c).2, sem_eq_zero_of_no_sems rfl r.2⟩) (Cert.Reference9Ideal.Value.run m ρ)

theorem frame_reference10 : Cert.quiescent_Reference10Ideal := fun m ρ _ =>
  (θ_run Cert.Reference10Ideal.defs _ _).mono (fun r h => ⟨fun c => (h c).2, sem_eq_zero_of_no_sems rfl r.2⟩) (Cert.Reference10Ideal.Value.run m ρ)

theorem frame_reference11 : Cert.quiescent_Reference11Ideal := fun m ρ _ =>
  (θ_run Cert.Reference11Ideal.defs _ _).mono (fun r h => ⟨fun c => (h c).2.2, sem_eq_zero_of_no_sems rfl r.2⟩) (Cert.Reference11Ideal.Value.run m ρ)

theorem frame_reference12 : Cert.quiescent_Reference12Ideal := fun m ρ _ =>
  (θ_run Cert.Reference12Ideal.defs _ _).mono (fun r h => ⟨fun c => (h c).2.2.2, sem_eq_zero_of_no_sems rfl r.2⟩) (Cert.Reference12Ideal.Value.run m ρ)

theorem frame_reference13 : Cert.quiescent_Reference13Ideal := fun m ρ _ =>
  (θ_run Cert.Reference13Ideal.defs _ _).mono (fun r h => ⟨fun c => (h c).2.2, sem_eq_zero_of_no_sems rfl r.2⟩) (Cert.Reference13Ideal.Value.run m ρ)

theorem frame_reference14 : Cert.quiescent_Reference14Ideal := fun m ρ _ =>
  (θ_run Cert.Reference14Ideal.defs _ _).mono (fun r h => ⟨fun c => (h c).2.2, sem_eq_zero_of_no_sems rfl r.2⟩) (Cert.Reference14Ideal.Value.run m ρ)

theorem frame_reference15 : Cert.quiescent_Reference15Ideal := fun m ρ _ =>
  (θ_run Cert.Reference15Ideal.defs _ _).mono (fun r h => ⟨fun c => (h c).2.2, sem_eq_zero_of_no_sems rfl r.2⟩) (Cert.Reference15Ideal.Value.run m ρ)

theorem frame_reference16 : Cert.quiescent_Reference16Ideal := fun m ρ _ =>
  (θ_run Cert.Reference16Ideal.defs _ _).mono (fun r h => ⟨fun c => (h c).2.2, sem_eq_zero_of_no_sems rfl r.2⟩) (Cert.Reference16Ideal.Value.run m ρ)

theorem frame_reference17 : Cert.quiescent_Reference17Ideal := fun m ρ _ =>
  (θ_run Cert.Reference17Ideal.defs _ _).mono (fun r h => ⟨fun c => (h c).2, sem_eq_zero_of_no_sems rfl r.2⟩) (Cert.Reference17Ideal.Value.run m ρ)

theorem frame_reference18 : Cert.quiescent_Reference18Ideal := fun m ρ _ =>
  (θ_run Cert.Reference18Ideal.defs _ _).mono (fun r h => ⟨fun c => (h c).2.2, sem_eq_zero_of_no_sems rfl r.2⟩) (Cert.Reference18Ideal.Value.run m ρ)

theorem frame_reference19 : Cert.quiescent_Reference19Ideal := fun m ρ _ =>
  (θ_run Cert.Reference19Ideal.defs _ _).mono (fun r h => ⟨fun c => (h c).2.2.2.2, sem_eq_zero_of_no_sems rfl r.2⟩) (Cert.Reference19Ideal.Value.run m ρ)

theorem frame_reference20 : Cert.quiescent_Reference20Ideal := fun m ρ _ =>
  (θ_run Cert.Reference20Ideal.defs _ _).mono (fun r h => ⟨fun c => (h c).2.2.2.2, sem_eq_zero_of_no_sems rfl r.2⟩) (Cert.Reference20Ideal.Value.run m ρ)

/-! The calls whose run is written once for any float values: the two programs are one text, so the frame at the machine's
values is that run at them. -/

theorem bodies_down (F : FTy → Type) [FloatOps F] : Cert.Kernel2.defs₀ (F := F) = Cert.Kernel2Ideal.defs₀ (F := F) := by
  unfold Cert.Kernel2.defs₀ Cert.Kernel2Ideal.defs₀
  refine congrArg Defs.onTc ?_
  funext l x
  obtain ⟨l, hl⟩ := l
  match l, hl with
  | 0, _ => rfl
  | n + 1, hl => omega

theorem defs_down (F : FTy → Type) [FloatOps F] : Cert.Kernel2.defs (F := F) = Cert.Kernel2Ideal.defs (F := F) := by
  unfold Cert.Kernel2.defs Cert.Kernel2Ideal.defs
  rw [bodies_down]
  rfl

theorem frame_down : Cert.quiescent_Kernel2 := fun m ρ _ => by
  rw [defs_down]
  exact (θ_run Cert.Kernel2Ideal.defs _ _).mono (fun _ h => h) (Cert.Kernel2Ideal.Down.frame (F := Bits) m ρ)

theorem bodies_fwd (F : FTy → Type) [FloatOps F] : Cert.Kernel6.defs₀ (F := F) = Cert.Kernel6Ideal.defs₀ (F := F) := by
  unfold Cert.Kernel6.defs₀ Cert.Kernel6Ideal.defs₀
  refine congrArg Defs.onTc ?_
  funext l x
  obtain ⟨l, hl⟩ := l
  match l, hl with
  | 0, _ => rfl
  | n + 1, hl => omega

theorem defs_fwd (F : FTy → Type) [FloatOps F] : Cert.Kernel6.defs (F := F) = Cert.Kernel6Ideal.defs (F := F) := by
  unfold Cert.Kernel6.defs Cert.Kernel6Ideal.defs
  rw [bodies_fwd]
  rfl

theorem frame_fwd : Cert.quiescent_Kernel6 := fun m ρ _ => by
  rw [defs_fwd]
  exact (θ_run Cert.Kernel6Ideal.defs _ _).mono (fun _ h => h) (Cert.Kernel6Ideal.Fwd.frame (F := Bits) m ρ)

theorem bodies_first (F : FTy → Type) [FloatOps F] : Cert.Kernel14.defs₀ (F := F) = Cert.Kernel14Ideal.defs₀ (F := F) := by
  unfold Cert.Kernel14.defs₀ Cert.Kernel14Ideal.defs₀
  refine congrArg Defs.onTc ?_
  funext l x
  obtain ⟨l, hl⟩ := l
  match l, hl with
  | 0, _ => rfl
  | n + 1, hl => omega

theorem defs_first (F : FTy → Type) [FloatOps F] : Cert.Kernel14.defs (F := F) = Cert.Kernel14Ideal.defs (F := F) := by
  unfold Cert.Kernel14.defs Cert.Kernel14Ideal.defs
  rw [bodies_first]
  rfl

theorem frame_first : Cert.quiescent_Kernel14 := fun m ρ _ => by
  rw [defs_first]
  exact (θ_run Cert.Kernel14Ideal.defs _ _).mono (fun _ h => h) (Cert.Kernel14Ideal.First.frame (F := Bits) m ρ)

theorem bodies_key_value (F : FTy → Type) [FloatOps F] : Cert.Kernel15.defs₀ (F := F) = Cert.Kernel15Ideal.defs₀ (F := F) := by
  unfold Cert.Kernel15.defs₀ Cert.Kernel15Ideal.defs₀
  refine congrArg Defs.onTc ?_
  funext l x
  obtain ⟨l, hl⟩ := l
  match l, hl with
  | 0, _ => rfl
  | n + 1, hl => omega

theorem defs_key_value (F : FTy → Type) [FloatOps F] : Cert.Kernel15.defs (F := F) = Cert.Kernel15Ideal.defs (F := F) := by
  unfold Cert.Kernel15.defs Cert.Kernel15Ideal.defs
  rw [bodies_key_value]
  rfl

theorem frame_key_value : Cert.quiescent_Kernel15 := fun m ρ _ => by
  rw [defs_key_value]
  exact (θ_run Cert.Kernel15Ideal.defs _ _).mono (fun _ h => h) (Cert.Kernel15Ideal.KeyValue.frame (F := Bits) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts,
  fun m ρ _ => Cert.Kernel.Sba.frame m ρ,
  fun m ρ _ => Cert.KernelIdeal.Sba.frame m ρ,
  frame_reference,
  frame_down,
  fun m ρ _ => Cert.Kernel2Ideal.Down.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  frame_fwd,
  fun m ρ _ => Cert.Kernel6Ideal.Fwd.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  frame_first,
  fun m ρ _ => Cert.Kernel14Ideal.First.frame m ρ,
  frame_reference14,
  frame_key_value,
  fun m ρ _ => Cert.Kernel15Ideal.KeyValue.frame m ρ,
  frame_reference15,
  fun m ρ _ => Cert.Kernel16.Gen.frame m ρ,
  fun m ρ _ => Cert.Kernel16Ideal.Gen.frame m ρ,
  frame_reference16,
  fun m ρ _ => Cert.Kernel17.Gen.frame m ρ,
  fun m ρ _ => Cert.Kernel17Ideal.Gen.frame m ρ,
  frame_reference17,
  fun m ρ _ => Cert.Kernel18.Gen.frame m ρ,
  fun m ρ _ => Cert.Kernel18Ideal.Gen.frame m ρ,
  frame_reference18,
  fun m ρ _ => Cert.Kernel19.Gen.frame m ρ,
  fun m ρ _ => Cert.Kernel19Ideal.Gen.frame m ρ,
  frame_reference19,
  fun m ρ _ => Cert.Kernel20.Gen.frame m ρ,
  fun m ρ _ => Cert.Kernel20Ideal.Gen.frame m ρ,
  frame_reference20,
  ⟨IdealRules.bf16_pack.statement _, IdealRules.named_const.statement _ _ _ _ _ rfl⟩,
  trivial,
  Cert.Kernel2Ideal.Down.algebraic,
  trivial,
  Cert.Kernel3Ideal.Grad.algebraic,
  trivial,
  Cert.Kernel4Ideal.Grad.algebraic,
  trivial,
  Cert.Kernel5Ideal.Up.algebraic,
  trivial,
  Cert.Kernel6Ideal.Fwd.algebraic,
  trivial,
  Cert.Kernel7Ideal.Up.algebraic,
  trivial,
  Cert.Kernel8Ideal.Up.algebraic,
  trivial,
  Cert.Kernel9Ideal.Grad.algebraic,
  trivial,
  Cert.Kernel10Ideal.Grad.algebraic,
  trivial,
  Cert.Kernel11Ideal.Query.algebraic,
  trivial,
  Cert.Kernel12Ideal.Down.algebraic,
  trivial,
  Cert.Kernel13Ideal.Out.algebraic,
  trivial,
  Cert.Kernel14Ideal.First.algebraic,
  trivial,
  Cert.Kernel15Ideal.KeyValue.algebraic,
  trivial,
  Cert.Kernel16Ideal.Second.algebraic,
  trivial,
  Cert.Kernel17Ideal.KeyValueSum.algebraic,
  trivial,
  Cert.Kernel18Ideal.Loss.algebraic,
  trivial,
  Cert.Kernel19Ideal.Adam.algebraic,
  trivial,
  Cert.Kernel20Ideal.MapsBack.algebraic⟩

end Cert.Proof

end
